-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S32 : Shape := ⟨1, ![32]⟩
abbrev S4x2x128x2048 : Shape := ⟨4, ![4, 2, 128, 2048]⟩
abbrev S32x128 : Shape := ⟨2, ![32, 128]⟩
abbrev S4x2 : Shape := ⟨2, ![4, 2]⟩
abbrev S4 : Shape := ⟨1, ![4]⟩
abbrev S1 : Shape := ⟨1, ![1]⟩
abbrev S_ : Shape := ⟨0, ![]⟩
abbrev S128x128 : Shape := ⟨2, ![128, 128]⟩
abbrev S128x2048 : Shape := ⟨2, ![128, 2048]⟩
abbrev S1x1x128x2048 : Shape := ⟨4, ![1, 1, 128, 2048]⟩
abbrev S1x1 : Shape := ⟨2, ![1, 1]⟩
abbrev S1x128x2048 : Shape := ⟨3, ![1, 128, 2048]⟩
abbrev S1x1x1 : Shape := ⟨3, ![1, 1, 1]⟩
abbrev S1x4 : Shape := ⟨2, ![1, 4]⟩
abbrev S1x128 : Shape := ⟨2, ![1, 128]⟩
abbrev S1x32x128 : Shape := ⟨3, ![1, 32, 128]⟩

abbrev nBuf : Space → Nat
  | .hbm => 5
  | .vmem => 6
  | .smem => 2
  | _ => 0

abbrev bufTy : (tb : Table) → Fin (tcTables nBuf tb) → BufTy
  | .hbm, ⟨0, _⟩ => ⟨S4096x128, .bf16⟩
  | .hbm, ⟨1, _⟩ => ⟨S128x8192, .bf16⟩
  | .hbm, ⟨2, _⟩ => ⟨S32, .i32⟩
  | .hbm, ⟨3, _⟩ => ⟨S32, .i32⟩
  | .hbm, ⟨4, _⟩ => ⟨S128x8192, .f32⟩
  | .local _ .vmem, ⟨0, _⟩ => ⟨S4096x128, .bf16⟩
  | .local _ .vmem, ⟨1, _⟩ => ⟨S128x8192, .bf16⟩
  | .local _ .vmem, ⟨2, _⟩ => ⟨S128x8192, .f32⟩
  | .local _ .vmem, ⟨3, _⟩ => ⟨S4x2x128x2048, .bf16⟩
  | .local _ .vmem, ⟨4, _⟩ => ⟨S4x2x128x2048, .bf16⟩
  | .local _ .vmem, ⟨5, _⟩ => ⟨S32x128, .f32⟩
  | .local _ .smem, ⟨0, _⟩ => ⟨S32, .i32⟩
  | .local _ .smem, ⟨1, _⟩ => ⟨S32, .i32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  (ofTc nBuf bufTy 5 85 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_off2 (v4 : BitVec 32) : Fin 1 → Nat :=
  let c1_i32_0 : BitVec 32 := 1#32
  let v5 : BitVec 32 := Scalar.subi v4 c1_i32_0
  let c32_i32_1 : BitVec 32 := 32#32
  let c0_i32 : BitVec 32 := 0#32
  let v6 : BitVec 1 := Scalar.cmpi .eq c32_i32_1 c0_i32
  let c1_i32_2 : BitVec 32 := 1#32
  let v7 : BitVec 32 := Scalar.select v6 c1_i32_2 c32_i32_1
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v16 : Index := Scalar.indexCast v15
  ![v16.toNat]

def k0_off3 (v4 : BitVec 32) : Fin 1 → Nat :=
  let c1_i32_6 : BitVec 32 := 1#32
  let v18 : BitVec 32 := Scalar.addi v4 c1_i32_6
  let c32_i32_7 : BitVec 32 := 32#32
  let c0_i32_8 : BitVec 32 := 0#32
  let v19 : BitVec 1 := Scalar.cmpi .eq c32_i32_7 c0_i32_8
  let c1_i32_9 : BitVec 32 := 1#32
  let v20 : BitVec 32 := Scalar.select v19 c1_i32_9 c32_i32_7
  let v21 : BitVec 32 := Scalar.remsi v18 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v29 : Index := Scalar.indexCast v28
  ![v29.toNat]
def k0_dev1 (v17 : BitVec 32) : Nat :=
  let c0_i32_15 : BitVec 32 := 0#32
  let c1_i32_14 : BitVec 32 := 1#32
  let v32 : BitVec 32 := Scalar.muli v17 c1_i32_14
  let v33 : BitVec 32 := Scalar.addi c0_i32_15 v32
  v33.toNat

def k0_dev2 (v30 : BitVec 32) : Nat :=
  let c0_i32_18 : BitVec 32 := 0#32
  let c1_i32_17 : BitVec 32 := 1#32
  let v34 : BitVec 32 := Scalar.muli v30 c1_i32_17
  let v35 : BitVec 32 := Scalar.addi c0_i32_18 v34
  v35.toNat

def k0_off4 (v4 : BitVec 32) : Fin 1 → Nat :=
  let c1_i32_19 : BitVec 32 := 1#32
  let v36 : BitVec 32 := Scalar.subi v4 c1_i32_19
  let c0_i32_20 : BitVec 32 := 0#32
  let v37 : BitVec 32 := Scalar.subi v36 c0_i32_20
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let v48 : Index := Scalar.indexCast v47
  ![v48.toNat]
def k0_off5 (v49 : BitVec 32) : Fin 2 → Nat :=
  let c128_i32 : BitVec 32 := 128#32
  let v50 : BitVec 32 := Scalar.muli v49 c128_i32
  let v51 : Index := Scalar.indexCast v50
  let c0 : Index := 0#32
  ![v51.toNat, 0]

def k0_chk4 (v49 : BitVec 32) : Prop :=
  (∀ a, (k0_off5 v49) a + S128x128.size a ≤ S4096x128.size a)
theorem k0_off5_inb : ∀ (v49 : BitVec 32) (k0_hw4 : k0_chk4 v49), ∀ a, (k0_off5 v49) a + S128x128.size a ≤ S4096x128.size a := fun v49 k0_hw4 => k0_hw4

def k0_dev3 (v30 : BitVec 32) : Nat :=
  let c0_i32_42 : BitVec 32 := 0#32
  let c1_i32_41 : BitVec 32 := 1#32
  let v61 : BitVec 32 := Scalar.muli v30 c1_i32_41
  let v62 : BitVec 32 := Scalar.addi c0_i32_42 v61
  v62.toNat
def k0_off6 (v4 : BitVec 32) : Fin 1 → Nat :=
  let c1_i32_47 : BitVec 32 := 1#32
  let v71 : BitVec 32 := Scalar.addi v4 c1_i32_47
  let c0_i32_48 : BitVec 32 := 0#32
  let v72 : BitVec 32 := Scalar.addi v71 c0_i32_48
  let c32_i32_49 : BitVec 32 := 32#32
  let c0_i32_50 : BitVec 32 := 0#32
  let v73 : BitVec 1 := Scalar.cmpi .eq c32_i32_49 c0_i32_50
  let c1_i32_51 : BitVec 32 := 1#32
  let v74 : BitVec 32 := Scalar.select v73 c1_i32_51 c32_i32_49
  let v75 : BitVec 32 := Scalar.remsi v72 v74
  let c0_i32_53 : BitVec 32 := 0#32
  let v77 : BitVec 1 := Scalar.cmpi .slt v75 c0_i32_53
  let c0_i32_54 : BitVec 32 := 0#32
  let v78 : BitVec 1 := Scalar.cmpi .slt v74 c0_i32_54
  let v79 : BitVec 1 := Scalar.xori v77 v78
  let c0_i32_52 : BitVec 32 := 0#32
  let v76 : BitVec 1 := Scalar.cmpi .ne v75 c0_i32_52
  let v80 : BitVec 1 := Scalar.andi v79 v76
  let v81 : BitVec 32 := Scalar.addi v75 v74
  let v82 : BitVec 32 := Scalar.select v80 v81 v75
  let v83 : Index := Scalar.indexCast v82
  ![v83.toNat]
def k0_off7 (v84 : BitVec 32) : Fin 2 → Nat :=
  let c128_i32_55 : BitVec 32 := 128#32
  let v85 : BitVec 32 := Scalar.muli v84 c128_i32_55
  let v86 : Index := Scalar.indexCast v85
  let c0_56 : Index := 0#32
  ![v86.toNat, 0]

def k0_chk5 (v84 : BitVec 32) : Prop :=
  (∀ a, (k0_off7 v84) a + S128x128.size a ≤ S4096x128.size a)
theorem k0_off7_inb : ∀ (v84 : BitVec 32) (k0_hw5 : k0_chk5 v84), ∀ a, (k0_off7 v84) a + S128x128.size a ≤ S4096x128.size a := fun v84 k0_hw5 => k0_hw5

def k0_dev4 (v17 : BitVec 32) : Nat :=
  let c0_i32_71 : BitVec 32 := 0#32
  let c1_i32_70 : BitVec 32 := 1#32
  let v96 : BitVec 32 := Scalar.muli v17 c1_i32_70
  let v97 : BitVec 32 := Scalar.addi c0_i32_71 v96
  v97.toNat
def k0_off8 (v4 : BitVec 32) : Fin 1 → Nat :=
  let c1_i32_76 : BitVec 32 := 1#32
  let v106 : BitVec 32 := Scalar.subi v4 c1_i32_76
  let c0_i32_77 : BitVec 32 := 0#32
  let v107 : BitVec 32 := Scalar.subi v106 c0_i32_77
  let c32_i32_78 : BitVec 32 := 32#32
  let c0_i32_79 : BitVec 32 := 0#32
  let v108 : BitVec 1 := Scalar.cmpi .eq c32_i32_78 c0_i32_79
  let c1_i32_80 : BitVec 32 := 1#32
  let v109 : BitVec 32 := Scalar.select v108 c1_i32_80 c32_i32_78
  let v110 : BitVec 32 := Scalar.remsi v107 v109
  let c0_i32_82 : BitVec 32 := 0#32
  let v112 : BitVec 1 := Scalar.cmpi .slt v110 c0_i32_82
  let c0_i32_83 : BitVec 32 := 0#32
  let v113 : BitVec 1 := Scalar.cmpi .slt v109 c0_i32_83
  let v114 : BitVec 1 := Scalar.xori v112 v113
  let c0_i32_81 : BitVec 32 := 0#32
  let v111 : BitVec 1 := Scalar.cmpi .ne v110 c0_i32_81
  let v115 : BitVec 1 := Scalar.andi v114 v111
  let v116 : BitVec 32 := Scalar.addi v110 v109
  let v117 : BitVec 32 := Scalar.select v115 v116 v110
  let v118 : Index := Scalar.indexCast v117
  ![v118.toNat]
def k0_off9 (v119 : BitVec 32) : Fin 2 → Nat :=
  let c128_i32_84 : BitVec 32 := 128#32
  let v120 : BitVec 32 := Scalar.muli v119 c128_i32_84
  let v121 : Index := Scalar.indexCast v120
  let c0_85 : Index := 0#32
  ![v121.toNat, 0]

def k0_chk6 (v119 : BitVec 32) : Prop :=
  (∀ a, (k0_off9 v119) a + S128x128.size a ≤ S4096x128.size a)
theorem k0_off9_inb : ∀ (v119 : BitVec 32) (k0_hw6 : k0_chk6 v119), ∀ a, (k0_off9 v119) a + S128x128.size a ≤ S4096x128.size a := fun v119 k0_hw6 => k0_hw6

def k0_dev5 (v30 : BitVec 32) : Nat :=
  let c0_i32_100 : BitVec 32 := 0#32
  let c1_i32_99 : BitVec 32 := 1#32
  let v131 : BitVec 32 := Scalar.muli v30 c1_i32_99
  let v132 : BitVec 32 := Scalar.addi c0_i32_100 v131
  v132.toNat
def k0_off10 (v4 : BitVec 32) : Fin 1 → Nat :=
  let c1_i32_105 : BitVec 32 := 1#32
  let v141 : BitVec 32 := Scalar.addi v4 c1_i32_105
  let c0_i32_106 : BitVec 32 := 0#32
  let v142 : BitVec 32 := Scalar.addi v141 c0_i32_106
  let c32_i32_107 : BitVec 32 := 32#32
  let c0_i32_108 : BitVec 32 := 0#32
  let v143 : BitVec 1 := Scalar.cmpi .eq c32_i32_107 c0_i32_108
  let c1_i32_109 : BitVec 32 := 1#32
  let v144 : BitVec 32 := Scalar.select v143 c1_i32_109 c32_i32_107
  let v145 : BitVec 32 := Scalar.remsi v142 v144
  let c0_i32_111 : BitVec 32 := 0#32
  let v147 : BitVec 1 := Scalar.cmpi .slt v145 c0_i32_111
  let c0_i32_112 : BitVec 32 := 0#32
  let v148 : BitVec 1 := Scalar.cmpi .slt v144 c0_i32_112
  let v149 : BitVec 1 := Scalar.xori v147 v148
  let c0_i32_110 : BitVec 32 := 0#32
  let v146 : BitVec 1 := Scalar.cmpi .ne v145 c0_i32_110
  let v150 : BitVec 1 := Scalar.andi v149 v146
  let v151 : BitVec 32 := Scalar.addi v145 v144
  let v152 : BitVec 32 := Scalar.select v150 v151 v145
  let v153 : Index := Scalar.indexCast v152
  ![v153.toNat]
def k0_off11 (v154 : BitVec 32) : Fin 2 → Nat :=
  let c128_i32_113 : BitVec 32 := 128#32
  let v155 : BitVec 32 := Scalar.muli v154 c128_i32_113
  let v156 : Index := Scalar.indexCast v155
  let c0_114 : Index := 0#32
  ![v156.toNat, 0]

def k0_chk7 (v154 : BitVec 32) : Prop :=
  (∀ a, (k0_off11 v154) a + S128x128.size a ≤ S4096x128.size a)
theorem k0_off11_inb : ∀ (v154 : BitVec 32) (k0_hw7 : k0_chk7 v154), ∀ a, (k0_off11 v154) a + S128x128.size a ≤ S4096x128.size a := fun v154 k0_hw7 => k0_hw7

def k0_dev6 (v17 : BitVec 32) : Nat :=
  let c0_i32_128 : BitVec 32 := 0#32
  let c1_i32_127 : BitVec 32 := 1#32
  let v166 : BitVec 32 := Scalar.muli v17 c1_i32_127
  let v167 : BitVec 32 := Scalar.addi c0_i32_128 v166
  v167.toNat
def k0_off12 (v4 : BitVec 32) : Fin 1 → Nat :=
  let c1_i32_133 : BitVec 32 := 1#32
  let v176 : BitVec 32 := Scalar.subi v4 c1_i32_133
  let c1_i32_134 : BitVec 32 := 1#32
  let v177 : BitVec 32 := Scalar.subi v176 c1_i32_134
  let c32_i32_135 : BitVec 32 := 32#32
  let c0_i32_136 : BitVec 32 := 0#32
  let v178 : BitVec 1 := Scalar.cmpi .eq c32_i32_135 c0_i32_136
  let c1_i32_137 : BitVec 32 := 1#32
  let v179 : BitVec 32 := Scalar.select v178 c1_i32_137 c32_i32_135
  let v180 : BitVec 32 := Scalar.remsi v177 v179
  let c0_i32_139 : BitVec 32 := 0#32
  let v182 : BitVec 1 := Scalar.cmpi .slt v180 c0_i32_139
  let c0_i32_140 : BitVec 32 := 0#32
  let v183 : BitVec 1 := Scalar.cmpi .slt v179 c0_i32_140
  let v184 : BitVec 1 := Scalar.xori v182 v183
  let c0_i32_138 : BitVec 32 := 0#32
  let v181 : BitVec 1 := Scalar.cmpi .ne v180 c0_i32_138
  let v185 : BitVec 1 := Scalar.andi v184 v181
  let v186 : BitVec 32 := Scalar.addi v180 v179
  let v187 : BitVec 32 := Scalar.select v185 v186 v180
  let v188 : Index := Scalar.indexCast v187
  ![v188.toNat]
def k0_off13 (v189 : BitVec 32) : Fin 2 → Nat :=
  let c128_i32_141 : BitVec 32 := 128#32
  let v190 : BitVec 32 := Scalar.muli v189 c128_i32_141
  let v191 : Index := Scalar.indexCast v190
  let c0_142 : Index := 0#32
  ![v191.toNat, 0]

def k0_chk8 (v189 : BitVec 32) : Prop :=
  (∀ a, (k0_off13 v189) a + S128x128.size a ≤ S4096x128.size a)
theorem k0_off13_inb : ∀ (v189 : BitVec 32) (k0_hw8 : k0_chk8 v189), ∀ a, (k0_off13 v189) a + S128x128.size a ≤ S4096x128.size a := fun v189 k0_hw8 => k0_hw8

def k0_off14 (v4 : BitVec 32) : Fin 1 → Nat :=
  let c1_i32_146 : BitVec 32 := 1#32
  let v197 : BitVec 32 := Scalar.addi v4 c1_i32_146
  let c1_i32_147 : BitVec 32 := 1#32
  let v198 : BitVec 32 := Scalar.addi v197 c1_i32_147
  let c32_i32_148 : BitVec 32 := 32#32
  let c0_i32_149 : BitVec 32 := 0#32
  let v199 : BitVec 1 := Scalar.cmpi .eq c32_i32_148 c0_i32_149
  let c1_i32_150 : BitVec 32 := 1#32
  let v200 : BitVec 32 := Scalar.select v199 c1_i32_150 c32_i32_148
  let v201 : BitVec 32 := Scalar.remsi v198 v200
  let c0_i32_152 : BitVec 32 := 0#32
  let v203 : BitVec 1 := Scalar.cmpi .slt v201 c0_i32_152
  let c0_i32_153 : BitVec 32 := 0#32
  let v204 : BitVec 1 := Scalar.cmpi .slt v200 c0_i32_153
  let v205 : BitVec 1 := Scalar.xori v203 v204
  let c0_i32_151 : BitVec 32 := 0#32
  let v202 : BitVec 1 := Scalar.cmpi .ne v201 c0_i32_151
  let v206 : BitVec 1 := Scalar.andi v205 v202
  let v207 : BitVec 32 := Scalar.addi v201 v200
  let v208 : BitVec 32 := Scalar.select v206 v207 v201
  let v209 : Index := Scalar.indexCast v208
  ![v209.toNat]
def k0_off15 (v210 : BitVec 32) : Fin 2 → Nat :=
  let c128_i32_154 : BitVec 32 := 128#32
  let v211 : BitVec 32 := Scalar.muli v210 c128_i32_154
  let v212 : Index := Scalar.indexCast v211
  let c0_155 : Index := 0#32
  ![v212.toNat, 0]

def k0_chk9 (v210 : BitVec 32) : Prop :=
  (∀ a, (k0_off15 v210) a + S128x128.size a ≤ S4096x128.size a)
theorem k0_off15_inb : ∀ (v210 : BitVec 32) (k0_hw9 : k0_chk9 v210), ∀ a, (k0_off15 v210) a + S128x128.size a ≤ S4096x128.size a := fun v210 k0_hw9 => k0_hw9

def k0_off16 (v4 : BitVec 32) : Fin 1 → Nat :=
  let c1_i32_159 : BitVec 32 := 1#32
  let v218 : BitVec 32 := Scalar.subi v4 c1_i32_159
  let c1_i32_160 : BitVec 32 := 1#32
  let v219 : BitVec 32 := Scalar.subi v218 c1_i32_160
  let c32_i32_161 : BitVec 32 := 32#32
  let c0_i32_162 : BitVec 32 := 0#32
  let v220 : BitVec 1 := Scalar.cmpi .eq c32_i32_161 c0_i32_162
  let c1_i32_163 : BitVec 32 := 1#32
  let v221 : BitVec 32 := Scalar.select v220 c1_i32_163 c32_i32_161
  let v222 : BitVec 32 := Scalar.remsi v219 v221
  let c0_i32_165 : BitVec 32 := 0#32
  let v224 : BitVec 1 := Scalar.cmpi .slt v222 c0_i32_165
  let c0_i32_166 : BitVec 32 := 0#32
  let v225 : BitVec 1 := Scalar.cmpi .slt v221 c0_i32_166
  let v226 : BitVec 1 := Scalar.xori v224 v225
  let c0_i32_164 : BitVec 32 := 0#32
  let v223 : BitVec 1 := Scalar.cmpi .ne v222 c0_i32_164
  let v227 : BitVec 1 := Scalar.andi v226 v223
  let v228 : BitVec 32 := Scalar.addi v222 v221
  let v229 : BitVec 32 := Scalar.select v227 v228 v222
  let v230 : Index := Scalar.indexCast v229
  ![v230.toNat]
def k0_off17 (v231 : BitVec 32) : Fin 2 → Nat :=
  let c128_i32_167 : BitVec 32 := 128#32
  let v232 : BitVec 32 := Scalar.muli v231 c128_i32_167
  let v233 : Index := Scalar.indexCast v232
  let c0_168 : Index := 0#32
  ![v233.toNat, 0]

def k0_chk10 (v231 : BitVec 32) : Prop :=
  (∀ a, (k0_off17 v231) a + S128x128.size a ≤ S4096x128.size a)
theorem k0_off17_inb : ∀ (v231 : BitVec 32) (k0_hw10 : k0_chk10 v231), ∀ a, (k0_off17 v231) a + S128x128.size a ≤ S4096x128.size a := fun v231 k0_hw10 => k0_hw10

def k0_off18 (v4 : BitVec 32) : Fin 1 → Nat :=
  let c1_i32_172 : BitVec 32 := 1#32
  let v239 : BitVec 32 := Scalar.addi v4 c1_i32_172
  let c1_i32_173 : BitVec 32 := 1#32
  let v240 : BitVec 32 := Scalar.addi v239 c1_i32_173
  let c32_i32_174 : BitVec 32 := 32#32
  let c0_i32_175 : BitVec 32 := 0#32
  let v241 : BitVec 1 := Scalar.cmpi .eq c32_i32_174 c0_i32_175
  let c1_i32_176 : BitVec 32 := 1#32
  let v242 : BitVec 32 := Scalar.select v241 c1_i32_176 c32_i32_174
  let v243 : BitVec 32 := Scalar.remsi v240 v242
  let c0_i32_178 : BitVec 32 := 0#32
  let v245 : BitVec 1 := Scalar.cmpi .slt v243 c0_i32_178
  let c0_i32_179 : BitVec 32 := 0#32
  let v246 : BitVec 1 := Scalar.cmpi .slt v242 c0_i32_179
  let v247 : BitVec 1 := Scalar.xori v245 v246
  let c0_i32_177 : BitVec 32 := 0#32
  let v244 : BitVec 1 := Scalar.cmpi .ne v243 c0_i32_177
  let v248 : BitVec 1 := Scalar.andi v247 v244
  let v249 : BitVec 32 := Scalar.addi v243 v242
  let v250 : BitVec 32 := Scalar.select v248 v249 v243
  let v251 : Index := Scalar.indexCast v250
  ![v251.toNat]
def k0_off19 (v252 : BitVec 32) : Fin 2 → Nat :=
  let c128_i32_180 : BitVec 32 := 128#32
  let v253 : BitVec 32 := Scalar.muli v252 c128_i32_180
  let v254 : Index := Scalar.indexCast v253
  let c0_181 : Index := 0#32
  ![v254.toNat, 0]

def k0_chk11 (v252 : BitVec 32) : Prop :=
  (∀ a, (k0_off19 v252) a + S128x128.size a ≤ S4096x128.size a)
theorem k0_off19_inb : ∀ (v252 : BitVec 32) (k0_hw11 : k0_chk11 v252), ∀ a, (k0_off19 v252) a + S128x128.size a ≤ S4096x128.size a := fun v252 k0_hw11 => k0_hw11

def k0_dev7 (v17 : BitVec 32) : Nat :=
  let c0_i32_206 : BitVec 32 := 0#32
  let c1_i32_205 : BitVec 32 := 1#32
  let v274 : BitVec 32 := Scalar.muli v17 c1_i32_205
  let v275 : BitVec 32 := Scalar.addi c0_i32_206 v274
  v275.toNat
def k0_dev8 (v30 : BitVec 32) : Nat :=
  let c0_i32_220 : BitVec 32 := 0#32
  let c1_i32_219 : BitVec 32 := 1#32
  let v280 : BitVec 32 := Scalar.muli v30 c1_i32_219
  let v281 : BitVec 32 := Scalar.addi c0_i32_220 v280
  v281.toNat
def k0_dev9 (v30 : BitVec 32) : Nat :=
  let c0_i32_246 : BitVec 32 := 0#32
  let c1_i32_245 : BitVec 32 := 1#32
  let v304 : BitVec 32 := Scalar.muli v30 c1_i32_245
  let v305 : BitVec 32 := Scalar.addi c0_i32_246 v304
  v305.toNat
def k0_dev10 (v17 : BitVec 32) : Nat :=
  let c0_i32_260 : BitVec 32 := 0#32
  let c1_i32_259 : BitVec 32 := 1#32
  let v310 : BitVec 32 := Scalar.muli v17 c1_i32_259
  let v311 : BitVec 32 := Scalar.addi c0_i32_260 v310
  v311.toNat
def k0_dev11 (v17 : BitVec 32) : Nat :=
  let c0_i32_286 : BitVec 32 := 0#32
  let c1_i32_285 : BitVec 32 := 1#32
  let v334 : BitVec 32 := Scalar.muli v17 c1_i32_285
  let v335 : BitVec 32 := Scalar.addi c0_i32_286 v334
  v335.toNat
def k0_dev12 (v30 : BitVec 32) : Nat :=
  let c0_i32_300 : BitVec 32 := 0#32
  let c1_i32_299 : BitVec 32 := 1#32
  let v340 : BitVec 32 := Scalar.muli v30 c1_i32_299
  let v341 : BitVec 32 := Scalar.addi c0_i32_300 v340
  v341.toNat
def k0_dev13 (v30 : BitVec 32) : Nat :=
  let c0_i32_326 : BitVec 32 := 0#32
  let c1_i32_325 : BitVec 32 := 1#32
  let v364 : BitVec 32 := Scalar.muli v30 c1_i32_325
  let v365 : BitVec 32 := Scalar.addi c0_i32_326 v364
  v365.toNat
def k0_dev14 (v17 : BitVec 32) : Nat :=
  let c0_i32_340 : BitVec 32 := 0#32
  let c1_i32_339 : BitVec 32 := 1#32
  let v370 : BitVec 32 := Scalar.muli v17 c1_i32_339
  let v371 : BitVec 32 := Scalar.addi c0_i32_340 v370
  v371.toNat
def k0_off20 (v4 : BitVec 32) : Fin 1 → Nat :=
  let c1_i32_345 : BitVec 32 := 1#32
  let v380 : BitVec 32 := Scalar.subi v4 c1_i32_345
  let c2_i32_346 : BitVec 32 := 2#32
  let v381 : BitVec 32 := Scalar.subi v380 c2_i32_346
  let c32_i32_347 : BitVec 32 := 32#32
  let c0_i32_348 : BitVec 32 := 0#32
  let v382 : BitVec 1 := Scalar.cmpi .eq c32_i32_347 c0_i32_348
  let c1_i32_349 : BitVec 32 := 1#32
  let v383 : BitVec 32 := Scalar.select v382 c1_i32_349 c32_i32_347
  let v384 : BitVec 32 := Scalar.remsi v381 v383
  let c0_i32_351 : BitVec 32 := 0#32
  let v386 : BitVec 1 := Scalar.cmpi .slt v384 c0_i32_351
  let c0_i32_352 : BitVec 32 := 0#32
  let v387 : BitVec 1 := Scalar.cmpi .slt v383 c0_i32_352
  let v388 : BitVec 1 := Scalar.xori v386 v387
  let c0_i32_350 : BitVec 32 := 0#32
  let v385 : BitVec 1 := Scalar.cmpi .ne v384 c0_i32_350
  let v389 : BitVec 1 := Scalar.andi v388 v385
  let v390 : BitVec 32 := Scalar.addi v384 v383
  let v391 : BitVec 32 := Scalar.select v389 v390 v384
  let v392 : Index := Scalar.indexCast v391
  ![v392.toNat]
def k0_off21 (v393 : BitVec 32) : Fin 2 → Nat :=
  let c128_i32_353 : BitVec 32 := 128#32
  let v394 : BitVec 32 := Scalar.muli v393 c128_i32_353
  let v395 : Index := Scalar.indexCast v394
  let c0_354 : Index := 0#32
  ![v395.toNat, 0]

def k0_chk12 (v393 : BitVec 32) : Prop :=
  (∀ a, (k0_off21 v393) a + S128x128.size a ≤ S4096x128.size a)
theorem k0_off21_inb : ∀ (v393 : BitVec 32) (k0_hw12 : k0_chk12 v393), ∀ a, (k0_off21 v393) a + S128x128.size a ≤ S4096x128.size a := fun v393 k0_hw12 => k0_hw12

def k0_off22 (v4 : BitVec 32) : Fin 1 → Nat :=
  let c1_i32_358 : BitVec 32 := 1#32
  let v401 : BitVec 32 := Scalar.addi v4 c1_i32_358
  let c2_i32_359 : BitVec 32 := 2#32
  let v402 : BitVec 32 := Scalar.addi v401 c2_i32_359
  let c32_i32_360 : BitVec 32 := 32#32
  let c0_i32_361 : BitVec 32 := 0#32
  let v403 : BitVec 1 := Scalar.cmpi .eq c32_i32_360 c0_i32_361
  let c1_i32_362 : BitVec 32 := 1#32
  let v404 : BitVec 32 := Scalar.select v403 c1_i32_362 c32_i32_360
  let v405 : BitVec 32 := Scalar.remsi v402 v404
  let c0_i32_364 : BitVec 32 := 0#32
  let v407 : BitVec 1 := Scalar.cmpi .slt v405 c0_i32_364
  let c0_i32_365 : BitVec 32 := 0#32
  let v408 : BitVec 1 := Scalar.cmpi .slt v404 c0_i32_365
  let v409 : BitVec 1 := Scalar.xori v407 v408
  let c0_i32_363 : BitVec 32 := 0#32
  let v406 : BitVec 1 := Scalar.cmpi .ne v405 c0_i32_363
  let v410 : BitVec 1 := Scalar.andi v409 v406
  let v411 : BitVec 32 := Scalar.addi v405 v404
  let v412 : BitVec 32 := Scalar.select v410 v411 v405
  let v413 : Index := Scalar.indexCast v412
  ![v413.toNat]
def k0_off23 (v414 : BitVec 32) : Fin 2 → Nat :=
  let c128_i32_366 : BitVec 32 := 128#32
  let v415 : BitVec 32 := Scalar.muli v414 c128_i32_366
  let v416 : Index := Scalar.indexCast v415
  let c0_367 : Index := 0#32
  ![v416.toNat, 0]

def k0_chk13 (v414 : BitVec 32) : Prop :=
  (∀ a, (k0_off23 v414) a + S128x128.size a ≤ S4096x128.size a)
theorem k0_off23_inb : ∀ (v414 : BitVec 32) (k0_hw13 : k0_chk13 v414), ∀ a, (k0_off23 v414) a + S128x128.size a ≤ S4096x128.size a := fun v414 k0_hw13 => k0_hw13

def k0_off24 (v4 : BitVec 32) : Fin 1 → Nat :=
  let c1_i32_371 : BitVec 32 := 1#32
  let v422 : BitVec 32 := Scalar.subi v4 c1_i32_371
  let c2_i32_372 : BitVec 32 := 2#32
  let v423 : BitVec 32 := Scalar.subi v422 c2_i32_372
  let c32_i32_373 : BitVec 32 := 32#32
  let c0_i32_374 : BitVec 32 := 0#32
  let v424 : BitVec 1 := Scalar.cmpi .eq c32_i32_373 c0_i32_374
  let c1_i32_375 : BitVec 32 := 1#32
  let v425 : BitVec 32 := Scalar.select v424 c1_i32_375 c32_i32_373
  let v426 : BitVec 32 := Scalar.remsi v423 v425
  let c0_i32_377 : BitVec 32 := 0#32
  let v428 : BitVec 1 := Scalar.cmpi .slt v426 c0_i32_377
  let c0_i32_378 : BitVec 32 := 0#32
  let v429 : BitVec 1 := Scalar.cmpi .slt v425 c0_i32_378
  let v430 : BitVec 1 := Scalar.xori v428 v429
  let c0_i32_376 : BitVec 32 := 0#32
  let v427 : BitVec 1 := Scalar.cmpi .ne v426 c0_i32_376
  let v431 : BitVec 1 := Scalar.andi v430 v427
  let v432 : BitVec 32 := Scalar.addi v426 v425
  let v433 : BitVec 32 := Scalar.select v431 v432 v426
  let v434 : Index := Scalar.indexCast v433
  ![v434.toNat]
def k0_off25 (v435 : BitVec 32) : Fin 2 → Nat :=
  let c128_i32_379 : BitVec 32 := 128#32
  let v436 : BitVec 32 := Scalar.muli v435 c128_i32_379
  let v437 : Index := Scalar.indexCast v436
  let c0_380 : Index := 0#32
  ![v437.toNat, 0]

def k0_chk14 (v435 : BitVec 32) : Prop :=
  (∀ a, (k0_off25 v435) a + S128x128.size a ≤ S4096x128.size a)
theorem k0_off25_inb : ∀ (v435 : BitVec 32) (k0_hw14 : k0_chk14 v435), ∀ a, (k0_off25 v435) a + S128x128.size a ≤ S4096x128.size a := fun v435 k0_hw14 => k0_hw14

def k0_off26 (v4 : BitVec 32) : Fin 1 → Nat :=
  let c1_i32_384 : BitVec 32 := 1#32
  let v443 : BitVec 32 := Scalar.addi v4 c1_i32_384
  let c2_i32_385 : BitVec 32 := 2#32
  let v444 : BitVec 32 := Scalar.addi v443 c2_i32_385
  let c32_i32_386 : BitVec 32 := 32#32
  let c0_i32_387 : BitVec 32 := 0#32
  let v445 : BitVec 1 := Scalar.cmpi .eq c32_i32_386 c0_i32_387
  let c1_i32_388 : BitVec 32 := 1#32
  let v446 : BitVec 32 := Scalar.select v445 c1_i32_388 c32_i32_386
  let v447 : BitVec 32 := Scalar.remsi v444 v446
  let c0_i32_390 : BitVec 32 := 0#32
  let v449 : BitVec 1 := Scalar.cmpi .slt v447 c0_i32_390
  let c0_i32_391 : BitVec 32 := 0#32
  let v450 : BitVec 1 := Scalar.cmpi .slt v446 c0_i32_391
  let v451 : BitVec 1 := Scalar.xori v449 v450
  let c0_i32_389 : BitVec 32 := 0#32
  let v448 : BitVec 1 := Scalar.cmpi .ne v447 c0_i32_389
  let v452 : BitVec 1 := Scalar.andi v451 v448
  let v453 : BitVec 32 := Scalar.addi v447 v446
  let v454 : BitVec 32 := Scalar.select v452 v453 v447
  let v455 : Index := Scalar.indexCast v454
  ![v455.toNat]
def k0_off27 (v456 : BitVec 32) : Fin 2 → Nat :=
  let c128_i32_392 : BitVec 32 := 128#32
  let v457 : BitVec 32 := Scalar.muli v456 c128_i32_392
  let v458 : Index := Scalar.indexCast v457
  let c0_393 : Index := 0#32
  ![v458.toNat, 0]

def k0_chk15 (v456 : BitVec 32) : Prop :=
  (∀ a, (k0_off27 v456) a + S128x128.size a ≤ S4096x128.size a)
theorem k0_off27_inb : ∀ (v456 : BitVec 32) (k0_hw15 : k0_chk15 v456), ∀ a, (k0_off27 v456) a + S128x128.size a ≤ S4096x128.size a := fun v456 k0_hw15 => k0_hw15

def k0_dev15 (v17 : BitVec 32) : Nat :=
  let c0_i32_418 : BitVec 32 := 0#32
  let c1_i32_417 : BitVec 32 := 1#32
  let v478 : BitVec 32 := Scalar.muli v17 c1_i32_417
  let v479 : BitVec 32 := Scalar.addi c0_i32_418 v478
  v479.toNat
def k0_dev16 (v30 : BitVec 32) : Nat :=
  let c0_i32_448 : BitVec 32 := 0#32
  let c1_i32_447 : BitVec 32 := 1#32
  let v492 : BitVec 32 := Scalar.muli v30 c1_i32_447
  let v493 : BitVec 32 := Scalar.addi c0_i32_448 v492
  v493.toNat
def k0_dev17 (v30 : BitVec 32) : Nat :=
  let c0_i32_474 : BitVec 32 := 0#32
  let c1_i32_473 : BitVec 32 := 1#32
  let v516 : BitVec 32 := Scalar.muli v30 c1_i32_473
  let v517 : BitVec 32 := Scalar.addi c0_i32_474 v516
  v517.toNat
def k0_dev18 (v17 : BitVec 32) : Nat :=
  let c0_i32_504 : BitVec 32 := 0#32
  let c1_i32_503 : BitVec 32 := 1#32
  let v530 : BitVec 32 := Scalar.muli v17 c1_i32_503
  let v531 : BitVec 32 := Scalar.addi c0_i32_504 v530
  v531.toNat
def k0_dev19 (v17 : BitVec 32) : Nat :=
  let c0_i32_530 : BitVec 32 := 0#32
  let c1_i32_529 : BitVec 32 := 1#32
  let v554 : BitVec 32 := Scalar.muli v17 c1_i32_529
  let v555 : BitVec 32 := Scalar.addi c0_i32_530 v554
  v555.toNat
def k0_dev20 (v30 : BitVec 32) : Nat :=
  let c0_i32_560 : BitVec 32 := 0#32
  let c1_i32_559 : BitVec 32 := 1#32
  let v568 : BitVec 32 := Scalar.muli v30 c1_i32_559
  let v569 : BitVec 32 := Scalar.addi c0_i32_560 v568
  v569.toNat
def k0_dev21 (v30 : BitVec 32) : Nat :=
  let c0_i32_586 : BitVec 32 := 0#32
  let c1_i32_585 : BitVec 32 := 1#32
  let v592 : BitVec 32 := Scalar.muli v30 c1_i32_585
  let v593 : BitVec 32 := Scalar.addi c0_i32_586 v592
  v593.toNat
def k0_dev22 (v17 : BitVec 32) : Nat :=
  let c0_i32_616 : BitVec 32 := 0#32
  let c1_i32_615 : BitVec 32 := 1#32
  let v606 : BitVec 32 := Scalar.muli v17 c1_i32_615
  let v607 : BitVec 32 := Scalar.addi c0_i32_616 v606
  v607.toNat
@[reducible] def k0_t1_loop : Scf.Loop 32 :=
  let c1_i32_621 : BitVec 32 := 1#32
  let c13_i32 : BitVec 32 := 13#32
  let v616 : BitVec 32 := Scalar.addi c1_i32_621 c13_i32
  let c1_i32_622 : BitVec 32 := 1#32
  ⟨c1_i32_621, v616, c1_i32_622⟩
def k0_off28 (v4 : BitVec 32) (k0_t1 : Fin k0_t1_loop.trips) : Fin 1 → Nat :=
  let c1_i32_1398 : BitVec 32 := 1#32
  let v1287 : BitVec 32 := Scalar.subi v4 c1_i32_1398
  let c2_i32_1396 : BitVec 32 := 2#32
  let c1_i32_621 : BitVec 32 := 1#32
  let c1_i32_622 : BitVec 32 := 1#32
  let arg13 : BitVec 32 := Scf.iv c1_i32_621 c1_i32_622 k0_t1
  let v1285 : BitVec 32 := Scalar.muli c2_i32_1396 arg13
  let c1_i32_1397 : BitVec 32 := 1#32
  let v1286 : BitVec 32 := Scalar.addi v1285 c1_i32_1397
  let v1288 : BitVec 32 := Scalar.subi v1287 v1286
  let c32_i32_1399 : BitVec 32 := 32#32
  let c0_i32_1400 : BitVec 32 := 0#32
  let v1289 : BitVec 1 := Scalar.cmpi .eq c32_i32_1399 c0_i32_1400
  let c1_i32_1401 : BitVec 32 := 1#32
  let v1290 : BitVec 32 := Scalar.select v1289 c1_i32_1401 c32_i32_1399
  let v1291 : BitVec 32 := Scalar.remsi v1288 v1290
  let c0_i32_1403 : BitVec 32 := 0#32
  let v1293 : BitVec 1 := Scalar.cmpi .slt v1291 c0_i32_1403
  let c0_i32_1404 : BitVec 32 := 0#32
  let v1294 : BitVec 1 := Scalar.cmpi .slt v1290 c0_i32_1404
  let v1295 : BitVec 1 := Scalar.xori v1293 v1294
  let c0_i32_1402 : BitVec 32 := 0#32
  let v1292 : BitVec 1 := Scalar.cmpi .ne v1291 c0_i32_1402
  let v1296 : BitVec 1 := Scalar.andi v1295 v1292
  let v1297 : BitVec 32 := Scalar.addi v1291 v1290
  let v1298 : BitVec 32 := Scalar.select v1296 v1297 v1291
  let v1299 : Index := Scalar.indexCast v1298
  ![v1299.toNat]
def k0_off29 (v1300 : BitVec 32) : Fin 2 → Nat :=
  let c128_i32_1405 : BitVec 32 := 128#32
  let v1301 : BitVec 32 := Scalar.muli v1300 c128_i32_1405
  let v1302 : Index := Scalar.indexCast v1301
  let c0_1406 : Index := 0#32
  ![v1302.toNat, 0]

def k0_chk16 (v1300 : BitVec 32) : Prop :=
  (∀ a, (k0_off29 v1300) a + S128x128.size a ≤ S4096x128.size a)
theorem k0_off29_inb : ∀ (v1300 : BitVec 32) (k0_hw16 : k0_chk16 v1300), ∀ a, (k0_off29 v1300) a + S128x128.size a ≤ S4096x128.size a := fun v1300 k0_hw16 => k0_hw16

def k0_off30 (v4 : BitVec 32) (k0_t1 : Fin k0_t1_loop.trips) : Fin 1 → Nat :=
  let c1_i32_1410 : BitVec 32 := 1#32
  let v1308 : BitVec 32 := Scalar.addi v4 c1_i32_1410
  let c2_i32_1396 : BitVec 32 := 2#32
  let c1_i32_621 : BitVec 32 := 1#32
  let c1_i32_622 : BitVec 32 := 1#32
  let arg13 : BitVec 32 := Scf.iv c1_i32_621 c1_i32_622 k0_t1
  let v1285 : BitVec 32 := Scalar.muli c2_i32_1396 arg13
  let c1_i32_1397 : BitVec 32 := 1#32
  let v1286 : BitVec 32 := Scalar.addi v1285 c1_i32_1397
  let v1309 : BitVec 32 := Scalar.addi v1308 v1286
  let c32_i32_1411 : BitVec 32 := 32#32
  let c0_i32_1412 : BitVec 32 := 0#32
  let v1310 : BitVec 1 := Scalar.cmpi .eq c32_i32_1411 c0_i32_1412
  let c1_i32_1413 : BitVec 32 := 1#32
  let v1311 : BitVec 32 := Scalar.select v1310 c1_i32_1413 c32_i32_1411
  let v1312 : BitVec 32 := Scalar.remsi v1309 v1311
  let c0_i32_1415 : BitVec 32 := 0#32
  let v1314 : BitVec 1 := Scalar.cmpi .slt v1312 c0_i32_1415
  let c0_i32_1416 : BitVec 32 := 0#32
  let v1315 : BitVec 1 := Scalar.cmpi .slt v1311 c0_i32_1416
  let v1316 : BitVec 1 := Scalar.xori v1314 v1315
  let c0_i32_1414 : BitVec 32 := 0#32
  let v1313 : BitVec 1 := Scalar.cmpi .ne v1312 c0_i32_1414
  let v1317 : BitVec 1 := Scalar.andi v1316 v1313
  let v1318 : BitVec 32 := Scalar.addi v1312 v1311
  let v1319 : BitVec 32 := Scalar.select v1317 v1318 v1312
  let v1320 : Index := Scalar.indexCast v1319
  ![v1320.toNat]
def k0_off31 (v1321 : BitVec 32) : Fin 2 → Nat :=
  let c128_i32_1417 : BitVec 32 := 128#32
  let v1322 : BitVec 32 := Scalar.muli v1321 c128_i32_1417
  let v1323 : Index := Scalar.indexCast v1322
  let c0_1418 : Index := 0#32
  ![v1323.toNat, 0]

def k0_chk17 (v1321 : BitVec 32) : Prop :=
  (∀ a, (k0_off31 v1321) a + S128x128.size a ≤ S4096x128.size a)
theorem k0_off31_inb : ∀ (v1321 : BitVec 32) (k0_hw17 : k0_chk17 v1321), ∀ a, (k0_off31 v1321) a + S128x128.size a ≤ S4096x128.size a := fun v1321 k0_hw17 => k0_hw17

def k0_off32 (v4 : BitVec 32) (k0_t1 : Fin k0_t1_loop.trips) : Fin 1 → Nat :=
  let c1_i32_1422 : BitVec 32 := 1#32
  let v1329 : BitVec 32 := Scalar.subi v4 c1_i32_1422
  let c2_i32_1396 : BitVec 32 := 2#32
  let c1_i32_621 : BitVec 32 := 1#32
  let c1_i32_622 : BitVec 32 := 1#32
  let arg13 : BitVec 32 := Scf.iv c1_i32_621 c1_i32_622 k0_t1
  let v1285 : BitVec 32 := Scalar.muli c2_i32_1396 arg13
  let c1_i32_1397 : BitVec 32 := 1#32
  let v1286 : BitVec 32 := Scalar.addi v1285 c1_i32_1397
  let v1330 : BitVec 32 := Scalar.subi v1329 v1286
  let c32_i32_1423 : BitVec 32 := 32#32
  let c0_i32_1424 : BitVec 32 := 0#32
  let v1331 : BitVec 1 := Scalar.cmpi .eq c32_i32_1423 c0_i32_1424
  let c1_i32_1425 : BitVec 32 := 1#32
  let v1332 : BitVec 32 := Scalar.select v1331 c1_i32_1425 c32_i32_1423
  let v1333 : BitVec 32 := Scalar.remsi v1330 v1332
  let c0_i32_1427 : BitVec 32 := 0#32
  let v1335 : BitVec 1 := Scalar.cmpi .slt v1333 c0_i32_1427
  let c0_i32_1428 : BitVec 32 := 0#32
  let v1336 : BitVec 1 := Scalar.cmpi .slt v1332 c0_i32_1428
  let v1337 : BitVec 1 := Scalar.xori v1335 v1336
  let c0_i32_1426 : BitVec 32 := 0#32
  let v1334 : BitVec 1 := Scalar.cmpi .ne v1333 c0_i32_1426
  let v1338 : BitVec 1 := Scalar.andi v1337 v1334
  let v1339 : BitVec 32 := Scalar.addi v1333 v1332
  let v1340 : BitVec 32 := Scalar.select v1338 v1339 v1333
  let v1341 : Index := Scalar.indexCast v1340
  ![v1341.toNat]
def k0_off33 (v1342 : BitVec 32) : Fin 2 → Nat :=
  let c128_i32_1429 : BitVec 32 := 128#32
  let v1343 : BitVec 32 := Scalar.muli v1342 c128_i32_1429
  let v1344 : Index := Scalar.indexCast v1343
  let c0_1430 : Index := 0#32
  ![v1344.toNat, 0]

def k0_chk18 (v1342 : BitVec 32) : Prop :=
  (∀ a, (k0_off33 v1342) a + S128x128.size a ≤ S4096x128.size a)
theorem k0_off33_inb : ∀ (v1342 : BitVec 32) (k0_hw18 : k0_chk18 v1342), ∀ a, (k0_off33 v1342) a + S128x128.size a ≤ S4096x128.size a := fun v1342 k0_hw18 => k0_hw18

def k0_off34 (v4 : BitVec 32) (k0_t1 : Fin k0_t1_loop.trips) : Fin 1 → Nat :=
  let c1_i32_1434 : BitVec 32 := 1#32
  let v1350 : BitVec 32 := Scalar.addi v4 c1_i32_1434
  let c2_i32_1396 : BitVec 32 := 2#32
  let c1_i32_621 : BitVec 32 := 1#32
  let c1_i32_622 : BitVec 32 := 1#32
  let arg13 : BitVec 32 := Scf.iv c1_i32_621 c1_i32_622 k0_t1
  let v1285 : BitVec 32 := Scalar.muli c2_i32_1396 arg13
  let c1_i32_1397 : BitVec 32 := 1#32
  let v1286 : BitVec 32 := Scalar.addi v1285 c1_i32_1397
  let v1351 : BitVec 32 := Scalar.addi v1350 v1286
  let c32_i32_1435 : BitVec 32 := 32#32
  let c0_i32_1436 : BitVec 32 := 0#32
  let v1352 : BitVec 1 := Scalar.cmpi .eq c32_i32_1435 c0_i32_1436
  let c1_i32_1437 : BitVec 32 := 1#32
  let v1353 : BitVec 32 := Scalar.select v1352 c1_i32_1437 c32_i32_1435
  let v1354 : BitVec 32 := Scalar.remsi v1351 v1353
  let c0_i32_1439 : BitVec 32 := 0#32
  let v1356 : BitVec 1 := Scalar.cmpi .slt v1354 c0_i32_1439
  let c0_i32_1440 : BitVec 32 := 0#32
  let v1357 : BitVec 1 := Scalar.cmpi .slt v1353 c0_i32_1440
  let v1358 : BitVec 1 := Scalar.xori v1356 v1357
  let c0_i32_1438 : BitVec 32 := 0#32
  let v1355 : BitVec 1 := Scalar.cmpi .ne v1354 c0_i32_1438
  let v1359 : BitVec 1 := Scalar.andi v1358 v1355
  let v1360 : BitVec 32 := Scalar.addi v1354 v1353
  let v1361 : BitVec 32 := Scalar.select v1359 v1360 v1354
  let v1362 : Index := Scalar.indexCast v1361
  ![v1362.toNat]
def k0_off35 (v1363 : BitVec 32) : Fin 2 → Nat :=
  let c128_i32_1441 : BitVec 32 := 128#32
  let v1364 : BitVec 32 := Scalar.muli v1363 c128_i32_1441
  let v1365 : Index := Scalar.indexCast v1364
  let c0_1442 : Index := 0#32
  ![v1365.toNat, 0]

def k0_chk19 (v1363 : BitVec 32) : Prop :=
  (∀ a, (k0_off35 v1363) a + S128x128.size a ≤ S4096x128.size a)
theorem k0_off35_inb : ∀ (v1363 : BitVec 32) (k0_hw19 : k0_chk19 v1363), ∀ a, (k0_off35 v1363) a + S128x128.size a ≤ S4096x128.size a := fun v1363 k0_hw19 => k0_hw19

def k0_dev23 (v17 : BitVec 32) : Nat :=
  let c0_i32_1467 : BitVec 32 := 0#32
  let c1_i32_1466 : BitVec 32 := 1#32
  let v1385 : BitVec 32 := Scalar.muli v17 c1_i32_1466
  let v1386 : BitVec 32 := Scalar.addi c0_i32_1467 v1385
  v1386.toNat
def k0_dev24 (v30 : BitVec 32) : Nat :=
  let c0_i32_1497 : BitVec 32 := 0#32
  let c1_i32_1496 : BitVec 32 := 1#32
  let v1399 : BitVec 32 := Scalar.muli v30 c1_i32_1496
  let v1400 : BitVec 32 := Scalar.addi c0_i32_1497 v1399
  v1400.toNat
def k0_dev25 (v30 : BitVec 32) : Nat :=
  let c0_i32_1523 : BitVec 32 := 0#32
  let c1_i32_1522 : BitVec 32 := 1#32
  let v1423 : BitVec 32 := Scalar.muli v30 c1_i32_1522
  let v1424 : BitVec 32 := Scalar.addi c0_i32_1523 v1423
  v1424.toNat
def k0_dev26 (v17 : BitVec 32) : Nat :=
  let c0_i32_1553 : BitVec 32 := 0#32
  let c1_i32_1552 : BitVec 32 := 1#32
  let v1437 : BitVec 32 := Scalar.muli v17 c1_i32_1552
  let v1438 : BitVec 32 := Scalar.addi c0_i32_1553 v1437
  v1438.toNat
def k0_dev27 (v17 : BitVec 32) : Nat :=
  let c0_i32_1579 : BitVec 32 := 0#32
  let c1_i32_1578 : BitVec 32 := 1#32
  let v1461 : BitVec 32 := Scalar.muli v17 c1_i32_1578
  let v1462 : BitVec 32 := Scalar.addi c0_i32_1579 v1461
  v1462.toNat
def k0_dev28 (v30 : BitVec 32) : Nat :=
  let c0_i32_1609 : BitVec 32 := 0#32
  let c1_i32_1608 : BitVec 32 := 1#32
  let v1475 : BitVec 32 := Scalar.muli v30 c1_i32_1608
  let v1476 : BitVec 32 := Scalar.addi c0_i32_1609 v1475
  v1476.toNat
def k0_dev29 (v30 : BitVec 32) : Nat :=
  let c0_i32_1635 : BitVec 32 := 0#32
  let c1_i32_1634 : BitVec 32 := 1#32
  let v1499 : BitVec 32 := Scalar.muli v30 c1_i32_1634
  let v1500 : BitVec 32 := Scalar.addi c0_i32_1635 v1499
  v1500.toNat
def k0_dev30 (v17 : BitVec 32) : Nat :=
  let c0_i32_1665 : BitVec 32 := 0#32
  let c1_i32_1664 : BitVec 32 := 1#32
  let v1513 : BitVec 32 := Scalar.muli v17 c1_i32_1664
  let v1514 : BitVec 32 := Scalar.addi c0_i32_1665 v1513
  v1514.toNat
def k0_off36 (v4 : BitVec 32) (k0_t1 : Fin k0_t1_loop.trips) : Fin 1 → Nat :=
  let c1_i32_1671 : BitVec 32 := 1#32
  let v1524 : BitVec 32 := Scalar.subi v4 c1_i32_1671
  let c2_i32_1396 : BitVec 32 := 2#32
  let c1_i32_621 : BitVec 32 := 1#32
  let c1_i32_622 : BitVec 32 := 1#32
  let arg13 : BitVec 32 := Scf.iv c1_i32_621 c1_i32_622 k0_t1
  let v1285 : BitVec 32 := Scalar.muli c2_i32_1396 arg13
  let c1_i32_1397 : BitVec 32 := 1#32
  let v1286 : BitVec 32 := Scalar.addi v1285 c1_i32_1397
  let c1_i32_1670 : BitVec 32 := 1#32
  let v1523 : BitVec 32 := Scalar.addi v1286 c1_i32_1670
  let v1525 : BitVec 32 := Scalar.subi v1524 v1523
  let c32_i32_1672 : BitVec 32 := 32#32
  let c0_i32_1673 : BitVec 32 := 0#32
  let v1526 : BitVec 1 := Scalar.cmpi .eq c32_i32_1672 c0_i32_1673
  let c1_i32_1674 : BitVec 32 := 1#32
  let v1527 : BitVec 32 := Scalar.select v1526 c1_i32_1674 c32_i32_1672
  let v1528 : BitVec 32 := Scalar.remsi v1525 v1527
  let c0_i32_1676 : BitVec 32 := 0#32
  let v1530 : BitVec 1 := Scalar.cmpi .slt v1528 c0_i32_1676
  let c0_i32_1677 : BitVec 32 := 0#32
  let v1531 : BitVec 1 := Scalar.cmpi .slt v1527 c0_i32_1677
  let v1532 : BitVec 1 := Scalar.xori v1530 v1531
  let c0_i32_1675 : BitVec 32 := 0#32
  let v1529 : BitVec 1 := Scalar.cmpi .ne v1528 c0_i32_1675
  let v1533 : BitVec 1 := Scalar.andi v1532 v1529
  let v1534 : BitVec 32 := Scalar.addi v1528 v1527
  let v1535 : BitVec 32 := Scalar.select v1533 v1534 v1528
  let v1536 : Index := Scalar.indexCast v1535
  ![v1536.toNat]
def k0_off37 (v1537 : BitVec 32) : Fin 2 → Nat :=
  let c128_i32_1678 : BitVec 32 := 128#32
  let v1538 : BitVec 32 := Scalar.muli v1537 c128_i32_1678
  let v1539 : Index := Scalar.indexCast v1538
  let c0_1679 : Index := 0#32
  ![v1539.toNat, 0]

def k0_chk20 (v1537 : BitVec 32) : Prop :=
  (∀ a, (k0_off37 v1537) a + S128x128.size a ≤ S4096x128.size a)
theorem k0_off37_inb : ∀ (v1537 : BitVec 32) (k0_hw20 : k0_chk20 v1537), ∀ a, (k0_off37 v1537) a + S128x128.size a ≤ S4096x128.size a := fun v1537 k0_hw20 => k0_hw20

def k0_off38 (v4 : BitVec 32) (k0_t1 : Fin k0_t1_loop.trips) : Fin 1 → Nat :=
  let c1_i32_1683 : BitVec 32 := 1#32
  let v1545 : BitVec 32 := Scalar.addi v4 c1_i32_1683
  let c2_i32_1396 : BitVec 32 := 2#32
  let c1_i32_621 : BitVec 32 := 1#32
  let c1_i32_622 : BitVec 32 := 1#32
  let arg13 : BitVec 32 := Scf.iv c1_i32_621 c1_i32_622 k0_t1
  let v1285 : BitVec 32 := Scalar.muli c2_i32_1396 arg13
  let c1_i32_1397 : BitVec 32 := 1#32
  let v1286 : BitVec 32 := Scalar.addi v1285 c1_i32_1397
  let c1_i32_1670 : BitVec 32 := 1#32
  let v1523 : BitVec 32 := Scalar.addi v1286 c1_i32_1670
  let v1546 : BitVec 32 := Scalar.addi v1545 v1523
  let c32_i32_1684 : BitVec 32 := 32#32
  let c0_i32_1685 : BitVec 32 := 0#32
  let v1547 : BitVec 1 := Scalar.cmpi .eq c32_i32_1684 c0_i32_1685
  let c1_i32_1686 : BitVec 32 := 1#32
  let v1548 : BitVec 32 := Scalar.select v1547 c1_i32_1686 c32_i32_1684
  let v1549 : BitVec 32 := Scalar.remsi v1546 v1548
  let c0_i32_1688 : BitVec 32 := 0#32
  let v1551 : BitVec 1 := Scalar.cmpi .slt v1549 c0_i32_1688
  let c0_i32_1689 : BitVec 32 := 0#32
  let v1552 : BitVec 1 := Scalar.cmpi .slt v1548 c0_i32_1689
  let v1553 : BitVec 1 := Scalar.xori v1551 v1552
  let c0_i32_1687 : BitVec 32 := 0#32
  let v1550 : BitVec 1 := Scalar.cmpi .ne v1549 c0_i32_1687
  let v1554 : BitVec 1 := Scalar.andi v1553 v1550
  let v1555 : BitVec 32 := Scalar.addi v1549 v1548
  let v1556 : BitVec 32 := Scalar.select v1554 v1555 v1549
  let v1557 : Index := Scalar.indexCast v1556
  ![v1557.toNat]
def k0_off39 (v1558 : BitVec 32) : Fin 2 → Nat :=
  let c128_i32_1690 : BitVec 32 := 128#32
  let v1559 : BitVec 32 := Scalar.muli v1558 c128_i32_1690
  let v1560 : Index := Scalar.indexCast v1559
  let c0_1691 : Index := 0#32
  ![v1560.toNat, 0]

def k0_chk21 (v1558 : BitVec 32) : Prop :=
  (∀ a, (k0_off39 v1558) a + S128x128.size a ≤ S4096x128.size a)
theorem k0_off39_inb : ∀ (v1558 : BitVec 32) (k0_hw21 : k0_chk21 v1558), ∀ a, (k0_off39 v1558) a + S128x128.size a ≤ S4096x128.size a := fun v1558 k0_hw21 => k0_hw21

def k0_off40 (v4 : BitVec 32) (k0_t1 : Fin k0_t1_loop.trips) : Fin 1 → Nat :=
  let c1_i32_1695 : BitVec 32 := 1#32
  let v1566 : BitVec 32 := Scalar.subi v4 c1_i32_1695
  let c2_i32_1396 : BitVec 32 := 2#32
  let c1_i32_621 : BitVec 32 := 1#32
  let c1_i32_622 : BitVec 32 := 1#32
  let arg13 : BitVec 32 := Scf.iv c1_i32_621 c1_i32_622 k0_t1
  let v1285 : BitVec 32 := Scalar.muli c2_i32_1396 arg13
  let c1_i32_1397 : BitVec 32 := 1#32
  let v1286 : BitVec 32 := Scalar.addi v1285 c1_i32_1397
  let c1_i32_1670 : BitVec 32 := 1#32
  let v1523 : BitVec 32 := Scalar.addi v1286 c1_i32_1670
  let v1567 : BitVec 32 := Scalar.subi v1566 v1523
  let c32_i32_1696 : BitVec 32 := 32#32
  let c0_i32_1697 : BitVec 32 := 0#32
  let v1568 : BitVec 1 := Scalar.cmpi .eq c32_i32_1696 c0_i32_1697
  let c1_i32_1698 : BitVec 32 := 1#32
  let v1569 : BitVec 32 := Scalar.select v1568 c1_i32_1698 c32_i32_1696
  let v1570 : BitVec 32 := Scalar.remsi v1567 v1569
  let c0_i32_1700 : BitVec 32 := 0#32
  let v1572 : BitVec 1 := Scalar.cmpi .slt v1570 c0_i32_1700
  let c0_i32_1701 : BitVec 32 := 0#32
  let v1573 : BitVec 1 := Scalar.cmpi .slt v1569 c0_i32_1701
  let v1574 : BitVec 1 := Scalar.xori v1572 v1573
  let c0_i32_1699 : BitVec 32 := 0#32
  let v1571 : BitVec 1 := Scalar.cmpi .ne v1570 c0_i32_1699
  let v1575 : BitVec 1 := Scalar.andi v1574 v1571
  let v1576 : BitVec 32 := Scalar.addi v1570 v1569
  let v1577 : BitVec 32 := Scalar.select v1575 v1576 v1570
  let v1578 : Index := Scalar.indexCast v1577
  ![v1578.toNat]
def k0_off41 (v1579 : BitVec 32) : Fin 2 → Nat :=
  let c128_i32_1702 : BitVec 32 := 128#32
  let v1580 : BitVec 32 := Scalar.muli v1579 c128_i32_1702
  let v1581 : Index := Scalar.indexCast v1580
  let c0_1703 : Index := 0#32
  ![v1581.toNat, 0]

def k0_chk22 (v1579 : BitVec 32) : Prop :=
  (∀ a, (k0_off41 v1579) a + S128x128.size a ≤ S4096x128.size a)
theorem k0_off41_inb : ∀ (v1579 : BitVec 32) (k0_hw22 : k0_chk22 v1579), ∀ a, (k0_off41 v1579) a + S128x128.size a ≤ S4096x128.size a := fun v1579 k0_hw22 => k0_hw22

def k0_off42 (v4 : BitVec 32) (k0_t1 : Fin k0_t1_loop.trips) : Fin 1 → Nat :=
  let c1_i32_1707 : BitVec 32 := 1#32
  let v1587 : BitVec 32 := Scalar.addi v4 c1_i32_1707
  let c2_i32_1396 : BitVec 32 := 2#32
  let c1_i32_621 : BitVec 32 := 1#32
  let c1_i32_622 : BitVec 32 := 1#32
  let arg13 : BitVec 32 := Scf.iv c1_i32_621 c1_i32_622 k0_t1
  let v1285 : BitVec 32 := Scalar.muli c2_i32_1396 arg13
  let c1_i32_1397 : BitVec 32 := 1#32
  let v1286 : BitVec 32 := Scalar.addi v1285 c1_i32_1397
  let c1_i32_1670 : BitVec 32 := 1#32
  let v1523 : BitVec 32 := Scalar.addi v1286 c1_i32_1670
  let v1588 : BitVec 32 := Scalar.addi v1587 v1523
  let c32_i32_1708 : BitVec 32 := 32#32
  let c0_i32_1709 : BitVec 32 := 0#32
  let v1589 : BitVec 1 := Scalar.cmpi .eq c32_i32_1708 c0_i32_1709
  let c1_i32_1710 : BitVec 32 := 1#32
  let v1590 : BitVec 32 := Scalar.select v1589 c1_i32_1710 c32_i32_1708
  let v1591 : BitVec 32 := Scalar.remsi v1588 v1590
  let c0_i32_1712 : BitVec 32 := 0#32
  let v1593 : BitVec 1 := Scalar.cmpi .slt v1591 c0_i32_1712
  let c0_i32_1713 : BitVec 32 := 0#32
  let v1594 : BitVec 1 := Scalar.cmpi .slt v1590 c0_i32_1713
  let v1595 : BitVec 1 := Scalar.xori v1593 v1594
  let c0_i32_1711 : BitVec 32 := 0#32
  let v1592 : BitVec 1 := Scalar.cmpi .ne v1591 c0_i32_1711
  let v1596 : BitVec 1 := Scalar.andi v1595 v1592
  let v1597 : BitVec 32 := Scalar.addi v1591 v1590
  let v1598 : BitVec 32 := Scalar.select v1596 v1597 v1591
  let v1599 : Index := Scalar.indexCast v1598
  ![v1599.toNat]
def k0_off43 (v1600 : BitVec 32) : Fin 2 → Nat :=
  let c128_i32_1714 : BitVec 32 := 128#32
  let v1601 : BitVec 32 := Scalar.muli v1600 c128_i32_1714
  let v1602 : Index := Scalar.indexCast v1601
  let c0_1715 : Index := 0#32
  ![v1602.toNat, 0]

def k0_chk23 (v1600 : BitVec 32) : Prop :=
  (∀ a, (k0_off43 v1600) a + S128x128.size a ≤ S4096x128.size a)
theorem k0_off43_inb : ∀ (v1600 : BitVec 32) (k0_hw23 : k0_chk23 v1600), ∀ a, (k0_off43 v1600) a + S128x128.size a ≤ S4096x128.size a := fun v1600 k0_hw23 => k0_hw23

def k0_dev31 (v17 : BitVec 32) : Nat :=
  let c0_i32_1740 : BitVec 32 := 0#32
  let c1_i32_1739 : BitVec 32 := 1#32
  let v1622 : BitVec 32 := Scalar.muli v17 c1_i32_1739
  let v1623 : BitVec 32 := Scalar.addi c0_i32_1740 v1622
  v1623.toNat
def k0_dev32 (v30 : BitVec 32) : Nat :=
  let c0_i32_1770 : BitVec 32 := 0#32
  let c1_i32_1769 : BitVec 32 := 1#32
  let v1636 : BitVec 32 := Scalar.muli v30 c1_i32_1769
  let v1637 : BitVec 32 := Scalar.addi c0_i32_1770 v1636
  v1637.toNat
def k0_dev33 (v30 : BitVec 32) : Nat :=
  let c0_i32_1796 : BitVec 32 := 0#32
  let c1_i32_1795 : BitVec 32 := 1#32
  let v1660 : BitVec 32 := Scalar.muli v30 c1_i32_1795
  let v1661 : BitVec 32 := Scalar.addi c0_i32_1796 v1660
  v1661.toNat
def k0_dev34 (v17 : BitVec 32) : Nat :=
  let c0_i32_1826 : BitVec 32 := 0#32
  let c1_i32_1825 : BitVec 32 := 1#32
  let v1674 : BitVec 32 := Scalar.muli v17 c1_i32_1825
  let v1675 : BitVec 32 := Scalar.addi c0_i32_1826 v1674
  v1675.toNat
def k0_dev35 (v17 : BitVec 32) : Nat :=
  let c0_i32_1852 : BitVec 32 := 0#32
  let c1_i32_1851 : BitVec 32 := 1#32
  let v1698 : BitVec 32 := Scalar.muli v17 c1_i32_1851
  let v1699 : BitVec 32 := Scalar.addi c0_i32_1852 v1698
  v1699.toNat
def k0_dev36 (v30 : BitVec 32) : Nat :=
  let c0_i32_1882 : BitVec 32 := 0#32
  let c1_i32_1881 : BitVec 32 := 1#32
  let v1712 : BitVec 32 := Scalar.muli v30 c1_i32_1881
  let v1713 : BitVec 32 := Scalar.addi c0_i32_1882 v1712
  v1713.toNat
def k0_dev37 (v30 : BitVec 32) : Nat :=
  let c0_i32_1908 : BitVec 32 := 0#32
  let c1_i32_1907 : BitVec 32 := 1#32
  let v1736 : BitVec 32 := Scalar.muli v30 c1_i32_1907
  let v1737 : BitVec 32 := Scalar.addi c0_i32_1908 v1736
  v1737.toNat
def k0_dev38 (v17 : BitVec 32) : Nat :=
  let c0_i32_1938 : BitVec 32 := 0#32
  let c1_i32_1937 : BitVec 32 := 1#32
  let v1750 : BitVec 32 := Scalar.muli v17 c1_i32_1937
  let v1751 : BitVec 32 := Scalar.addi c0_i32_1938 v1750
  v1751.toNat
def k0_off44 (v4 : BitVec 32) : Fin 1 → Nat :=
  let c1_i32_624 : BitVec 32 := 1#32
  let v617 : BitVec 32 := Scalar.subi v4 c1_i32_624
  let c29_i32 : BitVec 32 := 29#32
  let v618 : BitVec 32 := Scalar.subi v617 c29_i32
  let c32_i32_625 : BitVec 32 := 32#32
  let c0_i32_626 : BitVec 32 := 0#32
  let v619 : BitVec 1 := Scalar.cmpi .eq c32_i32_625 c0_i32_626
  let c1_i32_627 : BitVec 32 := 1#32
  let v620 : BitVec 32 := Scalar.select v619 c1_i32_627 c32_i32_625
  let v621 : BitVec 32 := Scalar.remsi v618 v620
  let c0_i32_629 : BitVec 32 := 0#32
  let v623 : BitVec 1 := Scalar.cmpi .slt v621 c0_i32_629
  let c0_i32_630 : BitVec 32 := 0#32
  let v624 : BitVec 1 := Scalar.cmpi .slt v620 c0_i32_630
  let v625 : BitVec 1 := Scalar.xori v623 v624
  let c0_i32_628 : BitVec 32 := 0#32
  let v622 : BitVec 1 := Scalar.cmpi .ne v621 c0_i32_628
  let v626 : BitVec 1 := Scalar.andi v625 v622
  let v627 : BitVec 32 := Scalar.addi v621 v620
  let v628 : BitVec 32 := Scalar.select v626 v627 v621
  let v629 : Index := Scalar.indexCast v628
  ![v629.toNat]
def k0_off45 (v630 : BitVec 32) : Fin 2 → Nat :=
  let c128_i32_631 : BitVec 32 := 128#32
  let v631 : BitVec 32 := Scalar.muli v630 c128_i32_631
  let v632 : Index := Scalar.indexCast v631
  let c0_632 : Index := 0#32
  ![v632.toNat, 0]

def k0_chk24 (v630 : BitVec 32) : Prop :=
  (∀ a, (k0_off45 v630) a + S128x128.size a ≤ S4096x128.size a)
theorem k0_off45_inb : ∀ (v630 : BitVec 32) (k0_hw24 : k0_chk24 v630), ∀ a, (k0_off45 v630) a + S128x128.size a ≤ S4096x128.size a := fun v630 k0_hw24 => k0_hw24

def k0_off46 (v4 : BitVec 32) : Fin 1 → Nat :=
  let c1_i32_636 : BitVec 32 := 1#32
  let v638 : BitVec 32 := Scalar.addi v4 c1_i32_636
  let c29_i32_637 : BitVec 32 := 29#32
  let v639 : BitVec 32 := Scalar.addi v638 c29_i32_637
  let c32_i32_638 : BitVec 32 := 32#32
  let c0_i32_639 : BitVec 32 := 0#32
  let v640 : BitVec 1 := Scalar.cmpi .eq c32_i32_638 c0_i32_639
  let c1_i32_640 : BitVec 32 := 1#32
  let v641 : BitVec 32 := Scalar.select v640 c1_i32_640 c32_i32_638
  let v642 : BitVec 32 := Scalar.remsi v639 v641
  let c0_i32_642 : BitVec 32 := 0#32
  let v644 : BitVec 1 := Scalar.cmpi .slt v642 c0_i32_642
  let c0_i32_643 : BitVec 32 := 0#32
  let v645 : BitVec 1 := Scalar.cmpi .slt v641 c0_i32_643
  let v646 : BitVec 1 := Scalar.xori v644 v645
  let c0_i32_641 : BitVec 32 := 0#32
  let v643 : BitVec 1 := Scalar.cmpi .ne v642 c0_i32_641
  let v647 : BitVec 1 := Scalar.andi v646 v643
  let v648 : BitVec 32 := Scalar.addi v642 v641
  let v649 : BitVec 32 := Scalar.select v647 v648 v642
  let v650 : Index := Scalar.indexCast v649
  ![v650.toNat]
def k0_off47 (v651 : BitVec 32) : Fin 2 → Nat :=
  let c128_i32_644 : BitVec 32 := 128#32
  let v652 : BitVec 32 := Scalar.muli v651 c128_i32_644
  let v653 : Index := Scalar.indexCast v652
  let c0_645 : Index := 0#32
  ![v653.toNat, 0]

def k0_chk25 (v651 : BitVec 32) : Prop :=
  (∀ a, (k0_off47 v651) a + S128x128.size a ≤ S4096x128.size a)
theorem k0_off47_inb : ∀ (v651 : BitVec 32) (k0_hw25 : k0_chk25 v651), ∀ a, (k0_off47 v651) a + S128x128.size a ≤ S4096x128.size a := fun v651 k0_hw25 => k0_hw25

def k0_off48 (v4 : BitVec 32) : Fin 1 → Nat :=
  let c1_i32_649 : BitVec 32 := 1#32
  let v659 : BitVec 32 := Scalar.subi v4 c1_i32_649
  let c29_i32_650 : BitVec 32 := 29#32
  let v660 : BitVec 32 := Scalar.subi v659 c29_i32_650
  let c32_i32_651 : BitVec 32 := 32#32
  let c0_i32_652 : BitVec 32 := 0#32
  let v661 : BitVec 1 := Scalar.cmpi .eq c32_i32_651 c0_i32_652
  let c1_i32_653 : BitVec 32 := 1#32
  let v662 : BitVec 32 := Scalar.select v661 c1_i32_653 c32_i32_651
  let v663 : BitVec 32 := Scalar.remsi v660 v662
  let c0_i32_655 : BitVec 32 := 0#32
  let v665 : BitVec 1 := Scalar.cmpi .slt v663 c0_i32_655
  let c0_i32_656 : BitVec 32 := 0#32
  let v666 : BitVec 1 := Scalar.cmpi .slt v662 c0_i32_656
  let v667 : BitVec 1 := Scalar.xori v665 v666
  let c0_i32_654 : BitVec 32 := 0#32
  let v664 : BitVec 1 := Scalar.cmpi .ne v663 c0_i32_654
  let v668 : BitVec 1 := Scalar.andi v667 v664
  let v669 : BitVec 32 := Scalar.addi v663 v662
  let v670 : BitVec 32 := Scalar.select v668 v669 v663
  let v671 : Index := Scalar.indexCast v670
  ![v671.toNat]
def k0_off49 (v672 : BitVec 32) : Fin 2 → Nat :=
  let c128_i32_657 : BitVec 32 := 128#32
  let v673 : BitVec 32 := Scalar.muli v672 c128_i32_657
  let v674 : Index := Scalar.indexCast v673
  let c0_658 : Index := 0#32
  ![v674.toNat, 0]

def k0_chk26 (v672 : BitVec 32) : Prop :=
  (∀ a, (k0_off49 v672) a + S128x128.size a ≤ S4096x128.size a)
theorem k0_off49_inb : ∀ (v672 : BitVec 32) (k0_hw26 : k0_chk26 v672), ∀ a, (k0_off49 v672) a + S128x128.size a ≤ S4096x128.size a := fun v672 k0_hw26 => k0_hw26

def k0_off50 (v4 : BitVec 32) : Fin 1 → Nat :=
  let c1_i32_662 : BitVec 32 := 1#32
  let v680 : BitVec 32 := Scalar.addi v4 c1_i32_662
  let c29_i32_663 : BitVec 32 := 29#32
  let v681 : BitVec 32 := Scalar.addi v680 c29_i32_663
  let c32_i32_664 : BitVec 32 := 32#32
  let c0_i32_665 : BitVec 32 := 0#32
  let v682 : BitVec 1 := Scalar.cmpi .eq c32_i32_664 c0_i32_665
  let c1_i32_666 : BitVec 32 := 1#32
  let v683 : BitVec 32 := Scalar.select v682 c1_i32_666 c32_i32_664
  let v684 : BitVec 32 := Scalar.remsi v681 v683
  let c0_i32_668 : BitVec 32 := 0#32
  let v686 : BitVec 1 := Scalar.cmpi .slt v684 c0_i32_668
  let c0_i32_669 : BitVec 32 := 0#32
  let v687 : BitVec 1 := Scalar.cmpi .slt v683 c0_i32_669
  let v688 : BitVec 1 := Scalar.xori v686 v687
  let c0_i32_667 : BitVec 32 := 0#32
  let v685 : BitVec 1 := Scalar.cmpi .ne v684 c0_i32_667
  let v689 : BitVec 1 := Scalar.andi v688 v685
  let v690 : BitVec 32 := Scalar.addi v684 v683
  let v691 : BitVec 32 := Scalar.select v689 v690 v684
  let v692 : Index := Scalar.indexCast v691
  ![v692.toNat]
def k0_off51 (v693 : BitVec 32) : Fin 2 → Nat :=
  let c128_i32_670 : BitVec 32 := 128#32
  let v694 : BitVec 32 := Scalar.muli v693 c128_i32_670
  let v695 : Index := Scalar.indexCast v694
  let c0_671 : Index := 0#32
  ![v695.toNat, 0]

def k0_chk27 (v693 : BitVec 32) : Prop :=
  (∀ a, (k0_off51 v693) a + S128x128.size a ≤ S4096x128.size a)
theorem k0_off51_inb : ∀ (v693 : BitVec 32) (k0_hw27 : k0_chk27 v693), ∀ a, (k0_off51 v693) a + S128x128.size a ≤ S4096x128.size a := fun v693 k0_hw27 => k0_hw27

def k0_dev39 (v17 : BitVec 32) : Nat :=
  let c0_i32_696 : BitVec 32 := 0#32
  let c1_i32_695 : BitVec 32 := 1#32
  let v715 : BitVec 32 := Scalar.muli v17 c1_i32_695
  let v716 : BitVec 32 := Scalar.addi c0_i32_696 v715
  v716.toNat
def k0_dev40 (v30 : BitVec 32) : Nat :=
  let c0_i32_726 : BitVec 32 := 0#32
  let c1_i32_725 : BitVec 32 := 1#32
  let v729 : BitVec 32 := Scalar.muli v30 c1_i32_725
  let v730 : BitVec 32 := Scalar.addi c0_i32_726 v729
  v730.toNat
def k0_dev41 (v30 : BitVec 32) : Nat :=
  let c0_i32_752 : BitVec 32 := 0#32
  let c1_i32_751 : BitVec 32 := 1#32
  let v753 : BitVec 32 := Scalar.muli v30 c1_i32_751
  let v754 : BitVec 32 := Scalar.addi c0_i32_752 v753
  v754.toNat
def k0_dev42 (v17 : BitVec 32) : Nat :=
  let c0_i32_782 : BitVec 32 := 0#32
  let c1_i32_781 : BitVec 32 := 1#32
  let v767 : BitVec 32 := Scalar.muli v17 c1_i32_781
  let v768 : BitVec 32 := Scalar.addi c0_i32_782 v767
  v768.toNat
def k0_dev43 (v17 : BitVec 32) : Nat :=
  let c0_i32_808 : BitVec 32 := 0#32
  let c1_i32_807 : BitVec 32 := 1#32
  let v791 : BitVec 32 := Scalar.muli v17 c1_i32_807
  let v792 : BitVec 32 := Scalar.addi c0_i32_808 v791
  v792.toNat
def k0_dev44 (v30 : BitVec 32) : Nat :=
  let c0_i32_838 : BitVec 32 := 0#32
  let c1_i32_837 : BitVec 32 := 1#32
  let v805 : BitVec 32 := Scalar.muli v30 c1_i32_837
  let v806 : BitVec 32 := Scalar.addi c0_i32_838 v805
  v806.toNat
def k0_dev45 (v30 : BitVec 32) : Nat :=
  let c0_i32_864 : BitVec 32 := 0#32
  let c1_i32_863 : BitVec 32 := 1#32
  let v829 : BitVec 32 := Scalar.muli v30 c1_i32_863
  let v830 : BitVec 32 := Scalar.addi c0_i32_864 v829
  v830.toNat
def k0_dev46 (v17 : BitVec 32) : Nat :=
  let c0_i32_894 : BitVec 32 := 0#32
  let c1_i32_893 : BitVec 32 := 1#32
  let v843 : BitVec 32 := Scalar.muli v17 c1_i32_893
  let v844 : BitVec 32 := Scalar.addi c0_i32_894 v843
  v844.toNat
def k0_off52 (v4 : BitVec 32) : Fin 1 → Nat :=
  let c1_i32_899 : BitVec 32 := 1#32
  let v853 : BitVec 32 := Scalar.subi v4 c1_i32_899
  let c30_i32 : BitVec 32 := 30#32
  let v854 : BitVec 32 := Scalar.subi v853 c30_i32
  let c32_i32_900 : BitVec 32 := 32#32
  let c0_i32_901 : BitVec 32 := 0#32
  let v855 : BitVec 1 := Scalar.cmpi .eq c32_i32_900 c0_i32_901
  let c1_i32_902 : BitVec 32 := 1#32
  let v856 : BitVec 32 := Scalar.select v855 c1_i32_902 c32_i32_900
  let v857 : BitVec 32 := Scalar.remsi v854 v856
  let c0_i32_904 : BitVec 32 := 0#32
  let v859 : BitVec 1 := Scalar.cmpi .slt v857 c0_i32_904
  let c0_i32_905 : BitVec 32 := 0#32
  let v860 : BitVec 1 := Scalar.cmpi .slt v856 c0_i32_905
  let v861 : BitVec 1 := Scalar.xori v859 v860
  let c0_i32_903 : BitVec 32 := 0#32
  let v858 : BitVec 1 := Scalar.cmpi .ne v857 c0_i32_903
  let v862 : BitVec 1 := Scalar.andi v861 v858
  let v863 : BitVec 32 := Scalar.addi v857 v856
  let v864 : BitVec 32 := Scalar.select v862 v863 v857
  let v865 : Index := Scalar.indexCast v864
  ![v865.toNat]
def k0_off53 (v866 : BitVec 32) : Fin 2 → Nat :=
  let c128_i32_906 : BitVec 32 := 128#32
  let v867 : BitVec 32 := Scalar.muli v866 c128_i32_906
  let v868 : Index := Scalar.indexCast v867
  let c0_907 : Index := 0#32
  ![v868.toNat, 0]

def k0_chk28 (v866 : BitVec 32) : Prop :=
  (∀ a, (k0_off53 v866) a + S128x128.size a ≤ S4096x128.size a)
theorem k0_off53_inb : ∀ (v866 : BitVec 32) (k0_hw28 : k0_chk28 v866), ∀ a, (k0_off53 v866) a + S128x128.size a ≤ S4096x128.size a := fun v866 k0_hw28 => k0_hw28

def k0_off54 (v4 : BitVec 32) : Fin 1 → Nat :=
  let c1_i32_911 : BitVec 32 := 1#32
  let v874 : BitVec 32 := Scalar.addi v4 c1_i32_911
  let c30_i32_912 : BitVec 32 := 30#32
  let v875 : BitVec 32 := Scalar.addi v874 c30_i32_912
  let c32_i32_913 : BitVec 32 := 32#32
  let c0_i32_914 : BitVec 32 := 0#32
  let v876 : BitVec 1 := Scalar.cmpi .eq c32_i32_913 c0_i32_914
  let c1_i32_915 : BitVec 32 := 1#32
  let v877 : BitVec 32 := Scalar.select v876 c1_i32_915 c32_i32_913
  let v878 : BitVec 32 := Scalar.remsi v875 v877
  let c0_i32_917 : BitVec 32 := 0#32
  let v880 : BitVec 1 := Scalar.cmpi .slt v878 c0_i32_917
  let c0_i32_918 : BitVec 32 := 0#32
  let v881 : BitVec 1 := Scalar.cmpi .slt v877 c0_i32_918
  let v882 : BitVec 1 := Scalar.xori v880 v881
  let c0_i32_916 : BitVec 32 := 0#32
  let v879 : BitVec 1 := Scalar.cmpi .ne v878 c0_i32_916
  let v883 : BitVec 1 := Scalar.andi v882 v879
  let v884 : BitVec 32 := Scalar.addi v878 v877
  let v885 : BitVec 32 := Scalar.select v883 v884 v878
  let v886 : Index := Scalar.indexCast v885
  ![v886.toNat]
def k0_off55 (v887 : BitVec 32) : Fin 2 → Nat :=
  let c128_i32_919 : BitVec 32 := 128#32
  let v888 : BitVec 32 := Scalar.muli v887 c128_i32_919
  let v889 : Index := Scalar.indexCast v888
  let c0_920 : Index := 0#32
  ![v889.toNat, 0]

def k0_chk29 (v887 : BitVec 32) : Prop :=
  (∀ a, (k0_off55 v887) a + S128x128.size a ≤ S4096x128.size a)
theorem k0_off55_inb : ∀ (v887 : BitVec 32) (k0_hw29 : k0_chk29 v887), ∀ a, (k0_off55 v887) a + S128x128.size a ≤ S4096x128.size a := fun v887 k0_hw29 => k0_hw29

def k0_off56 (v4 : BitVec 32) : Fin 1 → Nat :=
  let c1_i32_924 : BitVec 32 := 1#32
  let v895 : BitVec 32 := Scalar.subi v4 c1_i32_924
  let c30_i32_925 : BitVec 32 := 30#32
  let v896 : BitVec 32 := Scalar.subi v895 c30_i32_925
  let c32_i32_926 : BitVec 32 := 32#32
  let c0_i32_927 : BitVec 32 := 0#32
  let v897 : BitVec 1 := Scalar.cmpi .eq c32_i32_926 c0_i32_927
  let c1_i32_928 : BitVec 32 := 1#32
  let v898 : BitVec 32 := Scalar.select v897 c1_i32_928 c32_i32_926
  let v899 : BitVec 32 := Scalar.remsi v896 v898
  let c0_i32_930 : BitVec 32 := 0#32
  let v901 : BitVec 1 := Scalar.cmpi .slt v899 c0_i32_930
  let c0_i32_931 : BitVec 32 := 0#32
  let v902 : BitVec 1 := Scalar.cmpi .slt v898 c0_i32_931
  let v903 : BitVec 1 := Scalar.xori v901 v902
  let c0_i32_929 : BitVec 32 := 0#32
  let v900 : BitVec 1 := Scalar.cmpi .ne v899 c0_i32_929
  let v904 : BitVec 1 := Scalar.andi v903 v900
  let v905 : BitVec 32 := Scalar.addi v899 v898
  let v906 : BitVec 32 := Scalar.select v904 v905 v899
  let v907 : Index := Scalar.indexCast v906
  ![v907.toNat]
def k0_off57 (v908 : BitVec 32) : Fin 2 → Nat :=
  let c128_i32_932 : BitVec 32 := 128#32
  let v909 : BitVec 32 := Scalar.muli v908 c128_i32_932
  let v910 : Index := Scalar.indexCast v909
  let c0_933 : Index := 0#32
  ![v910.toNat, 0]

def k0_chk30 (v908 : BitVec 32) : Prop :=
  (∀ a, (k0_off57 v908) a + S128x128.size a ≤ S4096x128.size a)
theorem k0_off57_inb : ∀ (v908 : BitVec 32) (k0_hw30 : k0_chk30 v908), ∀ a, (k0_off57 v908) a + S128x128.size a ≤ S4096x128.size a := fun v908 k0_hw30 => k0_hw30

def k0_off58 (v4 : BitVec 32) : Fin 1 → Nat :=
  let c1_i32_937 : BitVec 32 := 1#32
  let v916 : BitVec 32 := Scalar.addi v4 c1_i32_937
  let c30_i32_938 : BitVec 32 := 30#32
  let v917 : BitVec 32 := Scalar.addi v916 c30_i32_938
  let c32_i32_939 : BitVec 32 := 32#32
  let c0_i32_940 : BitVec 32 := 0#32
  let v918 : BitVec 1 := Scalar.cmpi .eq c32_i32_939 c0_i32_940
  let c1_i32_941 : BitVec 32 := 1#32
  let v919 : BitVec 32 := Scalar.select v918 c1_i32_941 c32_i32_939
  let v920 : BitVec 32 := Scalar.remsi v917 v919
  let c0_i32_943 : BitVec 32 := 0#32
  let v922 : BitVec 1 := Scalar.cmpi .slt v920 c0_i32_943
  let c0_i32_944 : BitVec 32 := 0#32
  let v923 : BitVec 1 := Scalar.cmpi .slt v919 c0_i32_944
  let v924 : BitVec 1 := Scalar.xori v922 v923
  let c0_i32_942 : BitVec 32 := 0#32
  let v921 : BitVec 1 := Scalar.cmpi .ne v920 c0_i32_942
  let v925 : BitVec 1 := Scalar.andi v924 v921
  let v926 : BitVec 32 := Scalar.addi v920 v919
  let v927 : BitVec 32 := Scalar.select v925 v926 v920
  let v928 : Index := Scalar.indexCast v927
  ![v928.toNat]
def k0_off59 (v929 : BitVec 32) : Fin 2 → Nat :=
  let c128_i32_945 : BitVec 32 := 128#32
  let v930 : BitVec 32 := Scalar.muli v929 c128_i32_945
  let v931 : Index := Scalar.indexCast v930
  let c0_946 : Index := 0#32
  ![v931.toNat, 0]

def k0_chk31 (v929 : BitVec 32) : Prop :=
  (∀ a, (k0_off59 v929) a + S128x128.size a ≤ S4096x128.size a)
theorem k0_off59_inb : ∀ (v929 : BitVec 32) (k0_hw31 : k0_chk31 v929), ∀ a, (k0_off59 v929) a + S128x128.size a ≤ S4096x128.size a := fun v929 k0_hw31 => k0_hw31

def k0_dev47 (v30 : BitVec 32) : Nat :=
  let c0_i32_997 : BitVec 32 := 0#32
  let c1_i32_996 : BitVec 32 := 1#32
  let v961 : BitVec 32 := Scalar.muli v30 c1_i32_996
  let v962 : BitVec 32 := Scalar.addi c0_i32_997 v961
  v962.toNat
def k0_dev48 (v17 : BitVec 32) : Nat :=
  let c0_i32_1049 : BitVec 32 := 0#32
  let c1_i32_1048 : BitVec 32 := 1#32
  let v995 : BitVec 32 := Scalar.muli v17 c1_i32_1048
  let v996 : BitVec 32 := Scalar.addi c0_i32_1049 v995
  v996.toNat
def k0_dev49 (v30 : BitVec 32) : Nat :=
  let c0_i32_1101 : BitVec 32 := 0#32
  let c1_i32_1100 : BitVec 32 := 1#32
  let v1029 : BitVec 32 := Scalar.muli v30 c1_i32_1100
  let v1030 : BitVec 32 := Scalar.addi c0_i32_1101 v1029
  v1030.toNat

def k0_chk3 (v30 : BitVec 32) : Prop :=
  ((k0_dev2 v30) < nD) ∧
  ((k0_dev3 v30) < nD) ∧
  ((k0_dev5 v30) < nD) ∧
  ((k0_dev8 v30) < nD) ∧
  ((k0_dev9 v30) < nD) ∧
  ((k0_dev12 v30) < nD) ∧
  ((k0_dev13 v30) < nD) ∧
  ((k0_dev16 v30) < nD) ∧
  ((k0_dev17 v30) < nD) ∧
  ((k0_dev20 v30) < nD) ∧
  ((k0_dev21 v30) < nD) ∧
  ((k0_dev24 v30) < nD) ∧
  ((k0_dev25 v30) < nD) ∧
  ((k0_dev28 v30) < nD) ∧
  ((k0_dev29 v30) < nD) ∧
  ((k0_dev32 v30) < nD) ∧
  ((k0_dev33 v30) < nD) ∧
  ((k0_dev36 v30) < nD) ∧
  ((k0_dev37 v30) < nD) ∧
  ((k0_dev40 v30) < nD) ∧
  ((k0_dev41 v30) < nD) ∧
  ((k0_dev44 v30) < nD) ∧
  ((k0_dev45 v30) < nD) ∧
  ((k0_dev47 v30) < nD) ∧
  ((k0_dev49 v30) < nD)
theorem k0_dev2_lt : ∀ (v30 : BitVec 32) (k0_hw3 : k0_chk3 v30), (k0_dev2 v30) < nD := fun v30 k0_hw3 => k0_hw3.1
theorem k0_dev3_lt : ∀ (v30 : BitVec 32) (k0_hw3 : k0_chk3 v30), (k0_dev3 v30) < nD := fun v30 k0_hw3 => k0_hw3.2.1
theorem k0_dev5_lt : ∀ (v30 : BitVec 32) (k0_hw3 : k0_chk3 v30), (k0_dev5 v30) < nD := fun v30 k0_hw3 => k0_hw3.2.2.1
theorem k0_dev8_lt : ∀ (v30 : BitVec 32) (k0_hw3 : k0_chk3 v30), (k0_dev8 v30) < nD := fun v30 k0_hw3 => k0_hw3.2.2.2.1
theorem k0_dev9_lt : ∀ (v30 : BitVec 32) (k0_hw3 : k0_chk3 v30), (k0_dev9 v30) < nD := fun v30 k0_hw3 => k0_hw3.2.2.2.2.1
theorem k0_dev12_lt : ∀ (v30 : BitVec 32) (k0_hw3 : k0_chk3 v30), (k0_dev12 v30) < nD := fun v30 k0_hw3 => k0_hw3.2.2.2.2.2.1
theorem k0_dev13_lt : ∀ (v30 : BitVec 32) (k0_hw3 : k0_chk3 v30), (k0_dev13 v30) < nD := fun v30 k0_hw3 => k0_hw3.2.2.2.2.2.2.1
theorem k0_dev16_lt : ∀ (v30 : BitVec 32) (k0_hw3 : k0_chk3 v30), (k0_dev16 v30) < nD := fun v30 k0_hw3 => k0_hw3.2.2.2.2.2.2.2.1
theorem k0_dev17_lt : ∀ (v30 : BitVec 32) (k0_hw3 : k0_chk3 v30), (k0_dev17 v30) < nD := fun v30 k0_hw3 => k0_hw3.2.2.2.2.2.2.2.2.1
theorem k0_dev20_lt : ∀ (v30 : BitVec 32) (k0_hw3 : k0_chk3 v30), (k0_dev20 v30) < nD := fun v30 k0_hw3 => k0_hw3.2.2.2.2.2.2.2.2.2.1
theorem k0_dev21_lt : ∀ (v30 : BitVec 32) (k0_hw3 : k0_chk3 v30), (k0_dev21 v30) < nD := fun v30 k0_hw3 => k0_hw3.2.2.2.2.2.2.2.2.2.2.1
theorem k0_dev24_lt : ∀ (v30 : BitVec 32) (k0_hw3 : k0_chk3 v30), (k0_dev24 v30) < nD := fun v30 k0_hw3 => k0_hw3.2.2.2.2.2.2.2.2.2.2.2.1
theorem k0_dev25_lt : ∀ (v30 : BitVec 32) (k0_hw3 : k0_chk3 v30), (k0_dev25 v30) < nD := fun v30 k0_hw3 => k0_hw3.2.2.2.2.2.2.2.2.2.2.2.2.1
theorem k0_dev28_lt : ∀ (v30 : BitVec 32) (k0_hw3 : k0_chk3 v30), (k0_dev28 v30) < nD := fun v30 k0_hw3 => k0_hw3.2.2.2.2.2.2.2.2.2.2.2.2.2.1
theorem k0_dev29_lt : ∀ (v30 : BitVec 32) (k0_hw3 : k0_chk3 v30), (k0_dev29 v30) < nD := fun v30 k0_hw3 => k0_hw3.2.2.2.2.2.2.2.2.2.2.2.2.2.2.1
theorem k0_dev32_lt : ∀ (v30 : BitVec 32) (k0_hw3 : k0_chk3 v30), (k0_dev32 v30) < nD := fun v30 k0_hw3 => k0_hw3.2.2.2.2.2.2.2.2.2.2.2.2.2.2.2.1
theorem k0_dev33_lt : ∀ (v30 : BitVec 32) (k0_hw3 : k0_chk3 v30), (k0_dev33 v30) < nD := fun v30 k0_hw3 => k0_hw3.2.2.2.2.2.2.2.2.2.2.2.2.2.2.2.2.1
theorem k0_dev36_lt : ∀ (v30 : BitVec 32) (k0_hw3 : k0_chk3 v30), (k0_dev36 v30) < nD := fun v30 k0_hw3 => k0_hw3.2.2.2.2.2.2.2.2.2.2.2.2.2.2.2.2.2.1
theorem k0_dev37_lt : ∀ (v30 : BitVec 32) (k0_hw3 : k0_chk3 v30), (k0_dev37 v30) < nD := fun v30 k0_hw3 => k0_hw3.2.2.2.2.2.2.2.2.2.2.2.2.2.2.2.2.2.2.1
theorem k0_dev40_lt : ∀ (v30 : BitVec 32) (k0_hw3 : k0_chk3 v30), (k0_dev40 v30) < nD := fun v30 k0_hw3 => k0_hw3.2.2.2.2.2.2.2.2.2.2.2.2.2.2.2.2.2.2.2.1
theorem k0_dev41_lt : ∀ (v30 : BitVec 32) (k0_hw3 : k0_chk3 v30), (k0_dev41 v30) < nD := fun v30 k0_hw3 => k0_hw3.2.2.2.2.2.2.2.2.2.2.2.2.2.2.2.2.2.2.2.2.1
theorem k0_dev44_lt : ∀ (v30 : BitVec 32) (k0_hw3 : k0_chk3 v30), (k0_dev44 v30) < nD := fun v30 k0_hw3 => k0_hw3.2.2.2.2.2.2.2.2.2.2.2.2.2.2.2.2.2.2.2.2.2.1
theorem k0_dev45_lt : ∀ (v30 : BitVec 32) (k0_hw3 : k0_chk3 v30), (k0_dev45 v30) < nD := fun v30 k0_hw3 => k0_hw3.2.2.2.2.2.2.2.2.2.2.2.2.2.2.2.2.2.2.2.2.2.2.1
theorem k0_dev47_lt : ∀ (v30 : BitVec 32) (k0_hw3 : k0_chk3 v30), (k0_dev47 v30) < nD := fun v30 k0_hw3 => k0_hw3.2.2.2.2.2.2.2.2.2.2.2.2.2.2.2.2.2.2.2.2.2.2.2.1
theorem k0_dev49_lt : ∀ (v30 : BitVec 32) (k0_hw3 : k0_chk3 v30), (k0_dev49 v30) < nD := fun v30 k0_hw3 => k0_hw3.2.2.2.2.2.2.2.2.2.2.2.2.2.2.2.2.2.2.2.2.2.2.2.2

def k0_dev50 (v17 : BitVec 32) : Nat :=
  let c0_i32_1153 : BitVec 32 := 0#32
  let c1_i32_1152 : BitVec 32 := 1#32
  let v1063 : BitVec 32 := Scalar.muli v17 c1_i32_1152
  let v1064 : BitVec 32 := Scalar.addi c0_i32_1153 v1063
  v1064.toNat

def k0_chk2 (v17 : BitVec 32) : Prop :=
  ((k0_dev1 v17) < nD) ∧
  ((k0_dev4 v17) < nD) ∧
  ((k0_dev6 v17) < nD) ∧
  ((k0_dev7 v17) < nD) ∧
  ((k0_dev10 v17) < nD) ∧
  ((k0_dev11 v17) < nD) ∧
  ((k0_dev14 v17) < nD) ∧
  ((k0_dev15 v17) < nD) ∧
  ((k0_dev18 v17) < nD) ∧
  ((k0_dev19 v17) < nD) ∧
  ((k0_dev22 v17) < nD) ∧
  ((k0_dev23 v17) < nD) ∧
  ((k0_dev26 v17) < nD) ∧
  ((k0_dev27 v17) < nD) ∧
  ((k0_dev30 v17) < nD) ∧
  ((k0_dev31 v17) < nD) ∧
  ((k0_dev34 v17) < nD) ∧
  ((k0_dev35 v17) < nD) ∧
  ((k0_dev38 v17) < nD) ∧
  ((k0_dev39 v17) < nD) ∧
  ((k0_dev42 v17) < nD) ∧
  ((k0_dev43 v17) < nD) ∧
  ((k0_dev46 v17) < nD) ∧
  ((k0_dev48 v17) < nD) ∧
  ((k0_dev50 v17) < nD)
theorem k0_dev1_lt : ∀ (v17 : BitVec 32) (k0_hw2 : k0_chk2 v17), (k0_dev1 v17) < nD := fun v17 k0_hw2 => k0_hw2.1
theorem k0_dev4_lt : ∀ (v17 : BitVec 32) (k0_hw2 : k0_chk2 v17), (k0_dev4 v17) < nD := fun v17 k0_hw2 => k0_hw2.2.1
theorem k0_dev6_lt : ∀ (v17 : BitVec 32) (k0_hw2 : k0_chk2 v17), (k0_dev6 v17) < nD := fun v17 k0_hw2 => k0_hw2.2.2.1
theorem k0_dev7_lt : ∀ (v17 : BitVec 32) (k0_hw2 : k0_chk2 v17), (k0_dev7 v17) < nD := fun v17 k0_hw2 => k0_hw2.2.2.2.1
theorem k0_dev10_lt : ∀ (v17 : BitVec 32) (k0_hw2 : k0_chk2 v17), (k0_dev10 v17) < nD := fun v17 k0_hw2 => k0_hw2.2.2.2.2.1
theorem k0_dev11_lt : ∀ (v17 : BitVec 32) (k0_hw2 : k0_chk2 v17), (k0_dev11 v17) < nD := fun v17 k0_hw2 => k0_hw2.2.2.2.2.2.1
theorem k0_dev14_lt : ∀ (v17 : BitVec 32) (k0_hw2 : k0_chk2 v17), (k0_dev14 v17) < nD := fun v17 k0_hw2 => k0_hw2.2.2.2.2.2.2.1
theorem k0_dev15_lt : ∀ (v17 : BitVec 32) (k0_hw2 : k0_chk2 v17), (k0_dev15 v17) < nD := fun v17 k0_hw2 => k0_hw2.2.2.2.2.2.2.2.1
theorem k0_dev18_lt : ∀ (v17 : BitVec 32) (k0_hw2 : k0_chk2 v17), (k0_dev18 v17) < nD := fun v17 k0_hw2 => k0_hw2.2.2.2.2.2.2.2.2.1
theorem k0_dev19_lt : ∀ (v17 : BitVec 32) (k0_hw2 : k0_chk2 v17), (k0_dev19 v17) < nD := fun v17 k0_hw2 => k0_hw2.2.2.2.2.2.2.2.2.2.1
theorem k0_dev22_lt : ∀ (v17 : BitVec 32) (k0_hw2 : k0_chk2 v17), (k0_dev22 v17) < nD := fun v17 k0_hw2 => k0_hw2.2.2.2.2.2.2.2.2.2.2.1
theorem k0_dev23_lt : ∀ (v17 : BitVec 32) (k0_hw2 : k0_chk2 v17), (k0_dev23 v17) < nD := fun v17 k0_hw2 => k0_hw2.2.2.2.2.2.2.2.2.2.2.2.1
theorem k0_dev26_lt : ∀ (v17 : BitVec 32) (k0_hw2 : k0_chk2 v17), (k0_dev26 v17) < nD := fun v17 k0_hw2 => k0_hw2.2.2.2.2.2.2.2.2.2.2.2.2.1
theorem k0_dev27_lt : ∀ (v17 : BitVec 32) (k0_hw2 : k0_chk2 v17), (k0_dev27 v17) < nD := fun v17 k0_hw2 => k0_hw2.2.2.2.2.2.2.2.2.2.2.2.2.2.1
theorem k0_dev30_lt : ∀ (v17 : BitVec 32) (k0_hw2 : k0_chk2 v17), (k0_dev30 v17) < nD := fun v17 k0_hw2 => k0_hw2.2.2.2.2.2.2.2.2.2.2.2.2.2.2.1
theorem k0_dev31_lt : ∀ (v17 : BitVec 32) (k0_hw2 : k0_chk2 v17), (k0_dev31 v17) < nD := fun v17 k0_hw2 => k0_hw2.2.2.2.2.2.2.2.2.2.2.2.2.2.2.2.1
theorem k0_dev34_lt : ∀ (v17 : BitVec 32) (k0_hw2 : k0_chk2 v17), (k0_dev34 v17) < nD := fun v17 k0_hw2 => k0_hw2.2.2.2.2.2.2.2.2.2.2.2.2.2.2.2.2.1
theorem k0_dev35_lt : ∀ (v17 : BitVec 32) (k0_hw2 : k0_chk2 v17), (k0_dev35 v17) < nD := fun v17 k0_hw2 => k0_hw2.2.2.2.2.2.2.2.2.2.2.2.2.2.2.2.2.2.1
theorem k0_dev38_lt : ∀ (v17 : BitVec 32) (k0_hw2 : k0_chk2 v17), (k0_dev38 v17) < nD := fun v17 k0_hw2 => k0_hw2.2.2.2.2.2.2.2.2.2.2.2.2.2.2.2.2.2.2.1
theorem k0_dev39_lt : ∀ (v17 : BitVec 32) (k0_hw2 : k0_chk2 v17), (k0_dev39 v17) < nD := fun v17 k0_hw2 => k0_hw2.2.2.2.2.2.2.2.2.2.2.2.2.2.2.2.2.2.2.2.1
theorem k0_dev42_lt : ∀ (v17 : BitVec 32) (k0_hw2 : k0_chk2 v17), (k0_dev42 v17) < nD := fun v17 k0_hw2 => k0_hw2.2.2.2.2.2.2.2.2.2.2.2.2.2.2.2.2.2.2.2.2.1
theorem k0_dev43_lt : ∀ (v17 : BitVec 32) (k0_hw2 : k0_chk2 v17), (k0_dev43 v17) < nD := fun v17 k0_hw2 => k0_hw2.2.2.2.2.2.2.2.2.2.2.2.2.2.2.2.2.2.2.2.2.2.1
theorem k0_dev46_lt : ∀ (v17 : BitVec 32) (k0_hw2 : k0_chk2 v17), (k0_dev46 v17) < nD := fun v17 k0_hw2 => k0_hw2.2.2.2.2.2.2.2.2.2.2.2.2.2.2.2.2.2.2.2.2.2.2.1
theorem k0_dev48_lt : ∀ (v17 : BitVec 32) (k0_hw2 : k0_chk2 v17), (k0_dev48 v17) < nD := fun v17 k0_hw2 => k0_hw2.2.2.2.2.2.2.2.2.2.2.2.2.2.2.2.2.2.2.2.2.2.2.2.1
theorem k0_dev50_lt : ∀ (v17 : BitVec 32) (k0_hw2 : k0_chk2 v17), (k0_dev50 v17) < nD := fun v17 k0_hw2 => k0_hw2.2.2.2.2.2.2.2.2.2.2.2.2.2.2.2.2.2.2.2.2.2.2.2.2

def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1158 : BitVec 32 := 128#32
  let v1073 : BitVec 32 := Scalar.muli v2 c128_i32_1158
  let v1074 : Index := Scalar.indexCast v1073
  let c0_1159 : Index := 0#32
  ![v1074.toNat, 0]
def k0_off61 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1231 : Index := Scalar.indexCast v2
  let c0_1363 : Index := 0#32
  ![v1231.toNat, 0]
@[reducible] def k0_t2_loop : Scf.Loop 32 :=
  let c1_i32_1364 : BitVec 32 := 1#32
  let c31_i32 : BitVec 32 := 31#32
  let v1235 : BitVec 32 := Scalar.addi c1_i32_1364 c31_i32
  let c1_i32_1365 : BitVec 32 := 1#32
  ⟨c1_i32_1364, v1235, c1_i32_1365⟩
def k0_off62 (v4 : BitVec 32) (k0_t2 : Fin k0_t2_loop.trips) : Fin 1 → Nat :=
  let c1_i32_1364 : BitVec 32 := 1#32
  let c1_i32_1365 : BitVec 32 := 1#32
  let arg13 : BitVec 32 := Scf.iv c1_i32_1364 c1_i32_1365 k0_t2
  let v1285 : BitVec 32 := Scalar.addi v4 arg13
  let c32_i32_1396 : BitVec 32 := 32#32
  let c0_i32_1397 : BitVec 32 := 0#32
  let v1286 : BitVec 1 := Scalar.cmpi .eq c32_i32_1396 c0_i32_1397
  let c1_i32_1398 : BitVec 32 := 1#32
  let v1287 : BitVec 32 := Scalar.select v1286 c1_i32_1398 c32_i32_1396
  let v1288 : BitVec 32 := Scalar.remsi v1285 v1287
  let c0_i32_1400 : BitVec 32 := 0#32
  let v1290 : BitVec 1 := Scalar.cmpi .slt v1288 c0_i32_1400
  let c0_i32_1401 : BitVec 32 := 0#32
  let v1291 : BitVec 1 := Scalar.cmpi .slt v1287 c0_i32_1401
  let v1292 : BitVec 1 := Scalar.xori v1290 v1291
  let c0_i32_1399 : BitVec 32 := 0#32
  let v1289 : BitVec 1 := Scalar.cmpi .ne v1288 c0_i32_1399
  let v1293 : BitVec 1 := Scalar.andi v1292 v1289
  let v1294 : BitVec 32 := Scalar.addi v1288 v1287
  let v1295 : BitVec 32 := Scalar.select v1293 v1294 v1288
  let v1296 : Index := Scalar.indexCast v1295
  ![v1296.toNat]
def k0_off63 (k0_t2 : Fin k0_t2_loop.trips) : Fin 1 → Nat :=
  let c1_i32_1364 : BitVec 32 := 1#32
  let c1_i32_1365 : BitVec 32 := 1#32
  let arg13 : BitVec 32 := Scf.iv c1_i32_1364 c1_i32_1365 k0_t2
  ![arg13.toNat]
def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1404 : BitVec 32 := 0#32
  ![v2.toNat, 0]
def k0_dev51 (v1297 : BitVec 32) : Nat :=
  let c0_i32_1403 : BitVec 32 := 0#32
  let c1_i32_1402 : BitVec 32 := 1#32
  let v1298 : BitVec 32 := Scalar.muli v1297 c1_i32_1402
  let v1299 : BitVec 32 := Scalar.addi c0_i32_1403 v1298
  v1299.toNat

def k0_chk32 (v1297 : BitVec 32) : Prop :=
  ((k0_dev51 v1297) < nD)
theorem k0_dev51_lt : ∀ (v1297 : BitVec 32) (k0_hw32 : k0_chk32 v1297), (k0_dev51 v1297) < nD := fun v1297 k0_hw32 => k0_hw32

@[reducible] def k0_t3_loop : Scf.Loop 32 :=
  let c1_i32_1367 : BitVec 32 := 1#32
  let c31_i32_1368 : BitVec 32 := 31#32
  let v1236 : BitVec 32 := Scalar.addi c1_i32_1367 c31_i32_1368
  let c1_i32_1369 : BitVec 32 := 1#32
  ⟨c1_i32_1367, v1236, c1_i32_1369⟩
def k0_off66 (v4 : BitVec 32) (k0_t3 : Fin k0_t3_loop.trips) : Fin 1 → Nat :=
  let c1_i32_1367 : BitVec 32 := 1#32
  let c1_i32_1369 : BitVec 32 := 1#32
  let arg13 : BitVec 32 := Scf.iv c1_i32_1367 c1_i32_1369 k0_t3
  let v1285 : BitVec 32 := Scalar.subi v4 arg13
  let c32_i32_1396 : BitVec 32 := 32#32
  let c0_i32_1397 : BitVec 32 := 0#32
  let v1286 : BitVec 1 := Scalar.cmpi .eq c32_i32_1396 c0_i32_1397
  let c1_i32_1398 : BitVec 32 := 1#32
  let v1287 : BitVec 32 := Scalar.select v1286 c1_i32_1398 c32_i32_1396
  let v1288 : BitVec 32 := Scalar.remsi v1285 v1287
  let c0_i32_1400 : BitVec 32 := 0#32
  let v1290 : BitVec 1 := Scalar.cmpi .slt v1288 c0_i32_1400
  let c0_i32_1401 : BitVec 32 := 0#32
  let v1291 : BitVec 1 := Scalar.cmpi .slt v1287 c0_i32_1401
  let v1292 : BitVec 1 := Scalar.xori v1290 v1291
  let c0_i32_1399 : BitVec 32 := 0#32
  let v1289 : BitVec 1 := Scalar.cmpi .ne v1288 c0_i32_1399
  let v1293 : BitVec 1 := Scalar.andi v1292 v1289
  let v1294 : BitVec 32 := Scalar.addi v1288 v1287
  let v1295 : BitVec 32 := Scalar.select v1293 v1294 v1288
  let v1296 : Index := Scalar.indexCast v1295
  ![v1296.toNat]

def k0_chk1 (v4 : BitVec 32) : Prop :=
  (∀ a, (k0_off2 v4) a + S1.size a ≤ S32.size a) ∧
  (∀ a, (k0_off3 v4) a + S1.size a ≤ S32.size a) ∧
  (∀ a, (k0_off4 v4) a + S1.size a ≤ S32.size a) ∧
  (∀ a, (k0_off6 v4) a + S1.size a ≤ S32.size a) ∧
  (∀ a, (k0_off8 v4) a + S1.size a ≤ S32.size a) ∧
  (∀ a, (k0_off10 v4) a + S1.size a ≤ S32.size a) ∧
  (∀ a, (k0_off12 v4) a + S1.size a ≤ S32.size a) ∧
  (∀ a, (k0_off14 v4) a + S1.size a ≤ S32.size a) ∧
  (∀ a, (k0_off16 v4) a + S1.size a ≤ S32.size a) ∧
  (∀ a, (k0_off18 v4) a + S1.size a ≤ S32.size a) ∧
  (∀ a, (k0_off20 v4) a + S1.size a ≤ S32.size a) ∧
  (∀ a, (k0_off22 v4) a + S1.size a ≤ S32.size a) ∧
  (∀ a, (k0_off24 v4) a + S1.size a ≤ S32.size a) ∧
  (∀ a, (k0_off26 v4) a + S1.size a ≤ S32.size a) ∧
  (∀ k0_t1 : Fin k0_t1_loop.trips, ∀ a, (k0_off28 v4 k0_t1) a + S1.size a ≤ S32.size a) ∧
  (∀ k0_t1 : Fin k0_t1_loop.trips, ∀ a, (k0_off30 v4 k0_t1) a + S1.size a ≤ S32.size a) ∧
  (∀ k0_t1 : Fin k0_t1_loop.trips, ∀ a, (k0_off32 v4 k0_t1) a + S1.size a ≤ S32.size a) ∧
  (∀ k0_t1 : Fin k0_t1_loop.trips, ∀ a, (k0_off34 v4 k0_t1) a + S1.size a ≤ S32.size a) ∧
  (∀ k0_t1 : Fin k0_t1_loop.trips, ∀ a, (k0_off36 v4 k0_t1) a + S1.size a ≤ S32.size a) ∧
  (∀ k0_t1 : Fin k0_t1_loop.trips, ∀ a, (k0_off38 v4 k0_t1) a + S1.size a ≤ S32.size a) ∧
  (∀ k0_t1 : Fin k0_t1_loop.trips, ∀ a, (k0_off40 v4 k0_t1) a + S1.size a ≤ S32.size a) ∧
  (∀ k0_t1 : Fin k0_t1_loop.trips, ∀ a, (k0_off42 v4 k0_t1) a + S1.size a ≤ S32.size a) ∧
  (∀ a, (k0_off44 v4) a + S1.size a ≤ S32.size a) ∧
  (∀ a, (k0_off46 v4) a + S1.size a ≤ S32.size a) ∧
  (∀ a, (k0_off48 v4) a + S1.size a ≤ S32.size a) ∧
  (∀ a, (k0_off50 v4) a + S1.size a ≤ S32.size a) ∧
  (∀ a, (k0_off52 v4) a + S1.size a ≤ S32.size a) ∧
  (∀ a, (k0_off54 v4) a + S1.size a ≤ S32.size a) ∧
  (∀ a, (k0_off56 v4) a + S1.size a ≤ S32.size a) ∧
  (∀ a, (k0_off58 v4) a + S1.size a ≤ S32.size a) ∧
  (∀ k0_t2 : Fin k0_t2_loop.trips, ∀ a, (k0_off62 v4 k0_t2) a + S1.size a ≤ S32.size a) ∧
  (∀ k0_t3 : Fin k0_t3_loop.trips, ∀ a, (k0_off66 v4 k0_t3) a + S1.size a ≤ S32.size a)
theorem k0_off2_inb : ∀ (v4 : BitVec 32) (k0_hw1 : k0_chk1 v4), ∀ a, (k0_off2 v4) a + S1.size a ≤ S32.size a := fun v4 k0_hw1 => k0_hw1.1
theorem k0_off3_inb : ∀ (v4 : BitVec 32) (k0_hw1 : k0_chk1 v4), ∀ a, (k0_off3 v4) a + S1.size a ≤ S32.size a := fun v4 k0_hw1 => k0_hw1.2.1
theorem k0_off4_inb : ∀ (v4 : BitVec 32) (k0_hw1 : k0_chk1 v4), ∀ a, (k0_off4 v4) a + S1.size a ≤ S32.size a := fun v4 k0_hw1 => k0_hw1.2.2.1
theorem k0_off6_inb : ∀ (v4 : BitVec 32) (k0_hw1 : k0_chk1 v4), ∀ a, (k0_off6 v4) a + S1.size a ≤ S32.size a := fun v4 k0_hw1 => k0_hw1.2.2.2.1
theorem k0_off8_inb : ∀ (v4 : BitVec 32) (k0_hw1 : k0_chk1 v4), ∀ a, (k0_off8 v4) a + S1.size a ≤ S32.size a := fun v4 k0_hw1 => k0_hw1.2.2.2.2.1
theorem k0_off10_inb : ∀ (v4 : BitVec 32) (k0_hw1 : k0_chk1 v4), ∀ a, (k0_off10 v4) a + S1.size a ≤ S32.size a := fun v4 k0_hw1 => k0_hw1.2.2.2.2.2.1
theorem k0_off12_inb : ∀ (v4 : BitVec 32) (k0_hw1 : k0_chk1 v4), ∀ a, (k0_off12 v4) a + S1.size a ≤ S32.size a := fun v4 k0_hw1 => k0_hw1.2.2.2.2.2.2.1
theorem k0_off14_inb : ∀ (v4 : BitVec 32) (k0_hw1 : k0_chk1 v4), ∀ a, (k0_off14 v4) a + S1.size a ≤ S32.size a := fun v4 k0_hw1 => k0_hw1.2.2.2.2.2.2.2.1
theorem k0_off16_inb : ∀ (v4 : BitVec 32) (k0_hw1 : k0_chk1 v4), ∀ a, (k0_off16 v4) a + S1.size a ≤ S32.size a := fun v4 k0_hw1 => k0_hw1.2.2.2.2.2.2.2.2.1
theorem k0_off18_inb : ∀ (v4 : BitVec 32) (k0_hw1 : k0_chk1 v4), ∀ a, (k0_off18 v4) a + S1.size a ≤ S32.size a := fun v4 k0_hw1 => k0_hw1.2.2.2.2.2.2.2.2.2.1
theorem k0_off20_inb : ∀ (v4 : BitVec 32) (k0_hw1 : k0_chk1 v4), ∀ a, (k0_off20 v4) a + S1.size a ≤ S32.size a := fun v4 k0_hw1 => k0_hw1.2.2.2.2.2.2.2.2.2.2.1
theorem k0_off22_inb : ∀ (v4 : BitVec 32) (k0_hw1 : k0_chk1 v4), ∀ a, (k0_off22 v4) a + S1.size a ≤ S32.size a := fun v4 k0_hw1 => k0_hw1.2.2.2.2.2.2.2.2.2.2.2.1
theorem k0_off24_inb : ∀ (v4 : BitVec 32) (k0_hw1 : k0_chk1 v4), ∀ a, (k0_off24 v4) a + S1.size a ≤ S32.size a := fun v4 k0_hw1 => k0_hw1.2.2.2.2.2.2.2.2.2.2.2.2.1
theorem k0_off26_inb : ∀ (v4 : BitVec 32) (k0_hw1 : k0_chk1 v4), ∀ a, (k0_off26 v4) a + S1.size a ≤ S32.size a := fun v4 k0_hw1 => k0_hw1.2.2.2.2.2.2.2.2.2.2.2.2.2.1
theorem k0_off28_inb : ∀ (v4 : BitVec 32) (k0_hw1 : k0_chk1 v4) (k0_t1 : Fin k0_t1_loop.trips), ∀ a, (k0_off28 v4 k0_t1) a + S1.size a ≤ S32.size a := fun v4 k0_hw1 k0_t1 => k0_hw1.2.2.2.2.2.2.2.2.2.2.2.2.2.2.1 k0_t1
theorem k0_off30_inb : ∀ (v4 : BitVec 32) (k0_hw1 : k0_chk1 v4) (k0_t1 : Fin k0_t1_loop.trips), ∀ a, (k0_off30 v4 k0_t1) a + S1.size a ≤ S32.size a := fun v4 k0_hw1 k0_t1 => k0_hw1.2.2.2.2.2.2.2.2.2.2.2.2.2.2.2.1 k0_t1
theorem k0_off32_inb : ∀ (v4 : BitVec 32) (k0_hw1 : k0_chk1 v4) (k0_t1 : Fin k0_t1_loop.trips), ∀ a, (k0_off32 v4 k0_t1) a + S1.size a ≤ S32.size a := fun v4 k0_hw1 k0_t1 => k0_hw1.2.2.2.2.2.2.2.2.2.2.2.2.2.2.2.2.1 k0_t1
theorem k0_off34_inb : ∀ (v4 : BitVec 32) (k0_hw1 : k0_chk1 v4) (k0_t1 : Fin k0_t1_loop.trips), ∀ a, (k0_off34 v4 k0_t1) a + S1.size a ≤ S32.size a := fun v4 k0_hw1 k0_t1 => k0_hw1.2.2.2.2.2.2.2.2.2.2.2.2.2.2.2.2.2.1 k0_t1
theorem k0_off36_inb : ∀ (v4 : BitVec 32) (k0_hw1 : k0_chk1 v4) (k0_t1 : Fin k0_t1_loop.trips), ∀ a, (k0_off36 v4 k0_t1) a + S1.size a ≤ S32.size a := fun v4 k0_hw1 k0_t1 => k0_hw1.2.2.2.2.2.2.2.2.2.2.2.2.2.2.2.2.2.2.1 k0_t1
theorem k0_off38_inb : ∀ (v4 : BitVec 32) (k0_hw1 : k0_chk1 v4) (k0_t1 : Fin k0_t1_loop.trips), ∀ a, (k0_off38 v4 k0_t1) a + S1.size a ≤ S32.size a := fun v4 k0_hw1 k0_t1 => k0_hw1.2.2.2.2.2.2.2.2.2.2.2.2.2.2.2.2.2.2.2.1 k0_t1
theorem k0_off40_inb : ∀ (v4 : BitVec 32) (k0_hw1 : k0_chk1 v4) (k0_t1 : Fin k0_t1_loop.trips), ∀ a, (k0_off40 v4 k0_t1) a + S1.size a ≤ S32.size a := fun v4 k0_hw1 k0_t1 => k0_hw1.2.2.2.2.2.2.2.2.2.2.2.2.2.2.2.2.2.2.2.2.1 k0_t1
theorem k0_off42_inb : ∀ (v4 : BitVec 32) (k0_hw1 : k0_chk1 v4) (k0_t1 : Fin k0_t1_loop.trips), ∀ a, (k0_off42 v4 k0_t1) a + S1.size a ≤ S32.size a := fun v4 k0_hw1 k0_t1 => k0_hw1.2.2.2.2.2.2.2.2.2.2.2.2.2.2.2.2.2.2.2.2.2.1 k0_t1
theorem k0_off44_inb : ∀ (v4 : BitVec 32) (k0_hw1 : k0_chk1 v4), ∀ a, (k0_off44 v4) a + S1.size a ≤ S32.size a := fun v4 k0_hw1 => k0_hw1.2.2.2.2.2.2.2.2.2.2.2.2.2.2.2.2.2.2.2.2.2.2.1
theorem k0_off46_inb : ∀ (v4 : BitVec 32) (k0_hw1 : k0_chk1 v4), ∀ a, (k0_off46 v4) a + S1.size a ≤ S32.size a := fun v4 k0_hw1 => k0_hw1.2.2.2.2.2.2.2.2.2.2.2.2.2.2.2.2.2.2.2.2.2.2.2.1
theorem k0_off48_inb : ∀ (v4 : BitVec 32) (k0_hw1 : k0_chk1 v4), ∀ a, (k0_off48 v4) a + S1.size a ≤ S32.size a := fun v4 k0_hw1 => k0_hw1.2.2.2.2.2.2.2.2.2.2.2.2.2.2.2.2.2.2.2.2.2.2.2.2.1
theorem k0_off50_inb : ∀ (v4 : BitVec 32) (k0_hw1 : k0_chk1 v4), ∀ a, (k0_off50 v4) a + S1.size a ≤ S32.size a := fun v4 k0_hw1 => k0_hw1.2.2.2.2.2.2.2.2.2.2.2.2.2.2.2.2.2.2.2.2.2.2.2.2.2.1
theorem k0_off52_inb : ∀ (v4 : BitVec 32) (k0_hw1 : k0_chk1 v4), ∀ a, (k0_off52 v4) a + S1.size a ≤ S32.size a := fun v4 k0_hw1 => k0_hw1.2.2.2.2.2.2.2.2.2.2.2.2.2.2.2.2.2.2.2.2.2.2.2.2.2.2.1
theorem k0_off54_inb : ∀ (v4 : BitVec 32) (k0_hw1 : k0_chk1 v4), ∀ a, (k0_off54 v4) a + S1.size a ≤ S32.size a := fun v4 k0_hw1 => k0_hw1.2.2.2.2.2.2.2.2.2.2.2.2.2.2.2.2.2.2.2.2.2.2.2.2.2.2.2.1
theorem k0_off56_inb : ∀ (v4 : BitVec 32) (k0_hw1 : k0_chk1 v4), ∀ a, (k0_off56 v4) a + S1.size a ≤ S32.size a := fun v4 k0_hw1 => k0_hw1.2.2.2.2.2.2.2.2.2.2.2.2.2.2.2.2.2.2.2.2.2.2.2.2.2.2.2.2.1
theorem k0_off58_inb : ∀ (v4 : BitVec 32) (k0_hw1 : k0_chk1 v4), ∀ a, (k0_off58 v4) a + S1.size a ≤ S32.size a := fun v4 k0_hw1 => k0_hw1.2.2.2.2.2.2.2.2.2.2.2.2.2.2.2.2.2.2.2.2.2.2.2.2.2.2.2.2.2.1
theorem k0_off62_inb : ∀ (v4 : BitVec 32) (k0_hw1 : k0_chk1 v4) (k0_t2 : Fin k0_t2_loop.trips), ∀ a, (k0_off62 v4 k0_t2) a + S1.size a ≤ S32.size a := fun v4 k0_hw1 k0_t2 => k0_hw1.2.2.2.2.2.2.2.2.2.2.2.2.2.2.2.2.2.2.2.2.2.2.2.2.2.2.2.2.2.2.1 k0_t2
theorem k0_off66_inb : ∀ (v4 : BitVec 32) (k0_hw1 : k0_chk1 v4) (k0_t3 : Fin k0_t3_loop.trips), ∀ a, (k0_off66 v4 k0_t3) a + S1.size a ≤ S32.size a := fun v4 k0_hw1 k0_t3 => k0_hw1.2.2.2.2.2.2.2.2.2.2.2.2.2.2.2.2.2.2.2.2.2.2.2.2.2.2.2.2.2.2.2 k0_t3

def k0_off67 (v1297 : BitVec 32) : Fin 1 → Nat :=
  ![v1297.toNat]

def k0_off68 (v1297 : BitVec 32) : Fin 2 → Nat :=
  let c0_i32_1404 : BitVec 32 := 0#32
  ![v1297.toNat, 0]

def k0_chk33 (v1297 : BitVec 32) : Prop :=
  (∀ a, (k0_off67 v1297) a + S1.size a ≤ S32.size a) ∧
  (∀ a, (k0_off68 v1297) a + S1x128.size a ≤ S32x128.size a)
theorem k0_off67_inb : ∀ (v1297 : BitVec 32) (k0_hw33 : k0_chk33 v1297), ∀ a, (k0_off67 v1297) a + S1.size a ≤ S32.size a := fun v1297 k0_hw33 => k0_hw33.1
theorem k0_off68_inb : ∀ (v1297 : BitVec 32) (k0_hw33 : k0_chk33 v1297), ∀ a, (k0_off68 v1297) a + S1x128.size a ≤ S32x128.size a := fun v1297 k0_hw33 => k0_hw33.2

@[reducible] def k0_t4_loop : Scf.Loop 32 :=
  let c1_i32_1371 : BitVec 32 := 1#32
  let c31_i32_1372 : BitVec 32 := 31#32
  let v1237 : BitVec 32 := Scalar.addi c1_i32_1371 c31_i32_1372
  let c1_i32_1373 : BitVec 32 := 1#32
  ⟨c1_i32_1371, v1237, c1_i32_1373⟩
def k0_off69 (k0_t4 : Fin k0_t4_loop.trips) : Fin 1 → Nat :=
  let c1_i32_1371 : BitVec 32 := 1#32
  let c1_i32_1373 : BitVec 32 := 1#32
  let arg13 : BitVec 32 := Scf.iv c1_i32_1371 c1_i32_1373 k0_t4
  ![arg13.toNat]
def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1397 : BitVec 32 := 0#32
  ![v2.toNat, 0]
abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_cst_4 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]
-- ==== Proof.Program.lean ====
/- The kernel's program, written with one definition for each step of the ring: the hops differ only in
   the hop word, the slot they read and the slot they fill. `body_eq` says that the printed body, called on the
   buffers the launch hands it, is this program. -/
module

public import proofs.«01_k».proof.Proof.Gen.KernelIdeal.Points
public import proofs.«01_k».proof.Proof.Gen.KernelIdeal.Skeleton
public import Idealize.ShloMosaic.Lib.Pipeline.Regions
public import Idealize.ShloMosaic.Lib.Tactic.OpenCalls

@[expose] public section

noncomputable section

namespace Cert.KernelIdeal.Ring

open Cert.KernelIdeal Cert.KernelIdeal.Gen
open Idealize.ShloMosaic Idealize.SL.Sem

/-! ## The buffers and semaphores -/

def ringR : Memref sig .tc .smem S32 .i32 := Memref.whole cc0_stg0_0
def posR : Memref sig .tc .smem S32 .i32 := Memref.whole cc0_stg1_0
def xR : Memref sig .tc .vmem S4096x128 .bf16 := Memref.whole cc0_stg2_0
def wR : Memref sig .tc .vmem S128x8192 .bf16 := Memref.whole cc0_stg3_0
def outR : Memref sig .tc .vmem S128x8192 .f32 := Memref.whole cc0_stg4_0
def sndR : Memref sig .tc .vmem S4x2x128x2048 .bf16 := Memref.whole cc0_scratch0
def rcvR : Memref sig .tc .vmem S4x2x128x2048 .bf16 := Memref.whole cc0_scratch1
def rowR : Memref sig .tc .vmem S32x128 .f32 := Memref.whole cc0_scratch2

theorem sndR_whole : sndR.IsWhole := Memref.isWhole_whole _
theorem rcvR_whole : rcvR.IsWhole := Memref.isWhole_whole _

theorem slot_inb : ∀ (j : Fin 4) (b : Fin 2), ∀ a, (![j.val, b.val, 0, 0] : Fin 4 → Nat) a + S1x1x128x2048.size a ≤ S4x2x128x2048.size a := by
  decide
/-- Slot `b` of stream `j` in a send or receive buffer. -/
abbrev slotRect (j : Fin 4) (b : Fin 2) : Rect S4x2x128x2048 :=
  Rect.unit (s := S4x2x128x2048) ![j.val, b.val, 0, 0] S1x1x128x2048.size (slot_inb j b)

theorem slot_packed : ∀ (j : Fin 4) (b : Fin 2), (slotRect j b).PackedRows (EltTy.packing .bf16) := by decide
theorem slot_words (j : Fin 4) (b : Fin 2) : (slotRect j b).WholeWords (EltTy.packing .bf16) := .inl (slot_packed j b)

/-- A slot as the copies name it: a 128 by 2048 block. -/
def slotM (m : Memref sig .tc .vmem S4x2x128x2048 .bf16) (j : Fin 4) (b : Fin 2) : Memref sig .tc .vmem S128x2048 .bf16 :=
  (m.slice (slotRect j b) (fun _ => rfl)).squeeze S128x2048 squeezes_S1x1x128x2048_S128x2048

theorem slotM_words {m : Memref sig .tc .vmem S4x2x128x2048 .bf16} (h : m.IsWhole) (j : Fin 4) (b : Fin 2) :
    (slotM m j b).view.WordExact :=
  (h.wordExact_slice rfl _ (slot_words j b)).reshape _ _

theorem sem2_inb : ∀ (j : Fin 4) (b : Fin 2), ∀ a, (![j.val, b.val] : Fin 2 → Nat) a + S1x1.size a ≤ S4x2.size a := by decide
theorem sem1_inb : ∀ (j : Fin 4), ∀ a, (![j.val] : Fin 1 → Nat) a + S1.size a ≤ S4.size a := by decide
/-- The semaphores of the sends and of the arrivals, by stream and slot; of the credits, by stream; of the barrier. -/
def sendS (j : Fin 4) (b : Fin 2) : DmaSem sig :=
  ((cc0_scratch3.slice (Rect.unit (s := S4x2) ![j.val, b.val] S1x1.size (sem2_inb j b))).squeeze S_ squeezes_S1x1_S_).sem
def recvS (j : Fin 4) (b : Fin 2) : DmaSem sig :=
  ((cc0_scratch4.slice (Rect.unit (s := S4x2) ![j.val, b.val] S1x1.size (sem2_inb j b))).squeeze S_ squeezes_S1x1_S_).sem
def credS (j : Fin 4) : Sem sig :=
  ((cc0_scratch7.slice (Rect.unit (s := S4) ![j.val] S1.size (sem1_inb j))).squeeze S_ squeezes_S1_S_).sem
def barS : Sem sig := (SemArray.scalar (sig.barrier 0 rfl) : Sems sig S_).sem

/-! ## Words -/

/-- The floored remainder of a word by 32. -/
def fmod (w : BitVec 32) : BitVec 32 :=
  Scalar.select
    (Scalar.andi (Scalar.xori (Scalar.cmpi .slt (Scalar.remsi w (Scalar.select (Scalar.cmpi .eq (32#32 : BitVec 32) 0#32) 1#32 32#32)) 0#32)
        (Scalar.cmpi .slt (Scalar.select (Scalar.cmpi .eq (32#32 : BitVec 32) 0#32) 1#32 32#32) 0#32))
      (Scalar.cmpi .ne (Scalar.remsi w (Scalar.select (Scalar.cmpi .eq (32#32 : BitVec 32) 0#32) 1#32 32#32)) 0#32))
    (Scalar.addi (Scalar.remsi w (Scalar.select (Scalar.cmpi .eq (32#32 : BitVec 32) 0#32) 1#32 32#32))
      (Scalar.select (Scalar.cmpi .eq (32#32 : BitVec 32) 0#32) 1#32 32#32))
    (Scalar.remsi w (Scalar.select (Scalar.cmpi .eq (32#32 : BitVec 32) 0#32) 1#32 32#32))

theorem fmod_toInt (w : BitVec 32) : (fmod w).toInt = w.toInt % 32 := by
  have hs : Scalar.select (Scalar.cmpi .eq (32#32 : BitVec 32) 0#32) 1#32 (32#32 : BitVec 32) = 32#32 := by decide
  have hr : Scalar.remsi w 32#32 = w.srem 32#32 := if_neg (by rintro (h | ⟨-, h⟩) <;> exact absurd h (by decide))
  have h0 := Int.emod_nonneg w.toInt (b := 32) (by decide)
  have h1 := Int.emod_lt_of_pos w.toInt (b := 32) (by decide)
  have hv : (w.srem 32#32).toInt = w.toInt.tmod 32 := BitVec.toInt_srem w 32#32
  have ht : w.toInt.tmod 32 = _ := Int.tmod_eq_emod
  unfold fmod
  rw [hs, hr]
  generalize w.srem 32#32 = v at hv
  have c0 : Scalar.cmpi .slt (32#32 : BitVec 32) 0#32 = 0#1 := by decide
  rw [c0]
  by_cases hneg : v.toInt < 0
  · have e1 : Scalar.cmpi .slt v 0#32 = 1#1 := by
      show BitVec.ofBool (v.slt 0#32) = _; rw [BitVec.slt, decide_eq_true (by simpa using hneg)]; rfl
    have e2 : Scalar.cmpi .ne v 0#32 = 1#1 := by
      show BitVec.ofBool (v != 0#32) = _
      rw [bne_iff_ne.mpr (by rintro rfl; exact absurd hneg (by decide))]; rfl
    rw [e1, e2]
    show (v + 32#32).toInt = _
    rw [BitVec.toInt_add, hv]
    rw [hv] at hneg
    have : (32#32 : BitVec 32).toInt = 32 := by decide
    rw [this, Int.bmod_eq_of_le (by split at ht <;> omega) (by split at ht <;> omega)]
    split at ht <;> omega
  · have e1 : Scalar.cmpi .slt v 0#32 = 0#1 := by
      show BitVec.ofBool (v.slt 0#32) = _; rw [BitVec.slt, decide_eq_false (by simpa using hneg)]; rfl
    rw [e1]
    have e3 : ∀ c : BitVec 1, Scalar.andi (Scalar.xori 0#1 0#1) c = 0#1 := by decide
    rw [e3]
    show v.toInt = _
    rw [hv] at hneg ⊢
    split at ht <;> omega

theorem fmod_lt (w : BitVec 32) : (fmod w).toNat < 32 := by
  have h := fmod_toInt w
  have h0 := Int.emod_nonneg w.toInt (b := 32) (by decide)
  have h1 := Int.emod_lt_of_pos w.toInt (b := 32) (by decide)
  have := (fmod w).isLt
  rw [BitVec.toInt_eq_toNat_cond] at h
  split at h <;> omega

/-- Streams 0 and 2 run with the ring, streams 1 and 3 against it. -/
def fwd (j : Fin 4) : Bool := j.val % 2 == 0

/-- The ring positions, not yet reduced, of the chunks that the streams with and against the ring add to at a hop. -/
def hopF (v4 hop : BitVec 32) : BitVec 32 := Scalar.subi (Scalar.subi v4 1#32) hop
def hopB (v4 hop : BitVec 32) : BitVec 32 := Scalar.addi (Scalar.addi v4 1#32) hop

/-- The first of the 2048 columns of stream `j`. -/
def col : Fin 4 → Nat := ![0, 4096, 2048, 6144]
theorem col_inb : ∀ j : Fin 4, ∀ a, (![0, col j] : Fin 2 → Nat) a + S128x2048.size a ≤ S128x8192.size a := by decide
abbrev colRect (j : Fin 4) : Rect S128x8192 := Rect.unit (s := S128x8192) ![0, col j] S128x2048.size (col_inb j)

theorem tab_inb {w : BitVec 32} (h : w.toNat < 32) : ∀ a, (![w.toNat] : Fin 1 → Nat) a + S1.size a ≤ S32.size a := by
  intro a; obtain rfl : a = 0 := Subsingleton.elim _ _; exact h
abbrev tabRect (w : BitVec 32) : Rect S32 := Rect.unit (s := S32) ![(Scalar.indexCast (fmod w)).toNat] S1.size (tab_inb (fmod_lt w))

theorem dev_lt₂ {v : BitVec 32} (h : k0_chk2 v) : k0_dev1 v < nD := h.1
theorem dev_lt₃ {v : BitVec 32} (h : k0_chk3 v) : k0_dev1 v < nD := h.1

/-- A device as the kernel names it by a word. -/
structure Nbr where
  w : BitVec 32
  lt : k0_dev1 w < nD
def Nbr.dev (n : Nbr) : Dev nD := ⟨k0_dev1 n.w, n.lt⟩

/-- The neighbour that stream `j` comes from, and the one it goes to. -/
def prodN (j : Fin 4) (l r : Nbr) : Nbr := bif fwd j then l else r
def consN (j : Fin 4) (l r : Nbr) : Nbr := bif fwd j then r else l

variable {F : FTy → Type} [FloatOps F]

abbrev P (F : FTy → Type) := Prog (TpuEff nD τ sig (Elt F) Λ₀ .tc) PUnit.{1}

/-! ## The steps -/

/-- Read the device at a ring position. -/
def tabLoad (w : BitVec 32) (k : BitVec 32 → P F) : P F :=
  smemLoadElt (Val := Elt F) ringR (tabRect w) (View.loads_smem_one rfl numel1_S1) (Shape.Idx.first (numel1_S1.symm ▸ Nat.one_pos)) k

/-- Stream `j`'s partial product at the chunk of the device at ring position `fmod w`. -/
def chunk (j : Fin 4) (w : BitVec 32) (k : FVec F S128x2048 .f32 → P F) : P F :=
  tabLoad w fun v => .op (.assume (k0_chk4 v) (k0_chk4.dec v)) fun h =>
    .op (.load xR (Rect.unit (s := S4096x128) (k0_off5 v) S128x128.size (k0_off5_inb v h.down)).toLoadRect (View.loadsAt_vmem h_S128x128)) fun x =>
    .op (.load wR (colRect j).toLoadRect (View.loadsAt_vmem h_S128x2048)) fun y => k (k0_pay2 x y)

/-- Put a block in stream `j`'s send slot `b`. -/
def fill (j : Fin 4) (b : Fin 2) (u : FVec F S1x1x128x2048 .bf16) (k : P F) : P F :=
  .op (.load sndR (slotRect j b).toLoadRect (View.loadsAt_vmem h_S1x1x128x2048)) fun _ =>
  .op (.store sndR (slotRect j b) u Finset.univ
    (View.stores_vmem h_S1x1x128x2048 (sndR_whole.storeExact_slice rfl _ (slot_packed j b)) (fun _ => rfl)) (.inl rfl)) fun _ => k

/-- Start the copy of stream `j`'s send slot `b` into slot `b` of the device `n`. -/
def push (j : Fin 4) (b : Fin 2) (n : Nbr) (k : P F) : P F :=
  .op (.enqueueDma (slotM sndR j b) (.remote (Dev.tc n.dev) (slotM rcvR j b) (.dma (sendS j b))) (.dma (recvS j b))
    (slotM_words sndR_whole j b) (slotM_words rcvR_whole j b) ⟨⟨rfl, Or.inl rfl⟩, trivial⟩) fun _ => k

/-- Wait for the arrival in stream `j`'s receive slot `b` and read it. -/
def recv (j : Fin 4) (b : Fin 2) (k : Vec F S1x1x128x2048 .bf16 → P F) : P F :=
  .op (.waitDma2 (recvS j b) (slotM sndR j b) (slotM rcvR j b) (slotM_words sndR_whole j b) (slotM_words rcvR_whole j b)) fun _ =>
  .op (.load rcvR (slotRect j b).toLoadRect (View.loadsAt_vmem h_S1x1x128x2048)) fun (u : Vec F S1x1x128x2048 .bf16) => k u

/-- Wait until the copy out of stream `j`'s send slot `b` has read it. -/
def sent (j : Fin 4) (b : Fin 2) (k : P F) : P F :=
  .op (.waitDma2 (sendS j b) (slotM rcvR j b) (slotM sndR j b) (slotM_words rcvR_whole j b) (slotM_words sndR_whole j b)) fun _ => k

def signal (n : Nbr) (s : Sem sig) (k : P F) : P F := .op (.semSignal (n.dev, .tc) s (1#32).toInt) fun _ => k
def await (s : Sem sig) (n : BitVec 32) (k : P F) : P F := .op (.semWait s n.toInt) fun _ => k

/-- Stream `j`'s first message: its partial product, unsummed. -/
def first (j : Fin 4) (w : BitVec 32) (l r : Nbr) (k : P F) : P F :=
  chunk j w fun p => fill j 0 (k0_pay7 p) (push j 0 (consN j l r) k)

/-- Stream `j`'s part of a hop: read the message in slot `b`, tell its sender that the slot is free (`cr`), wait until the
    slot to fill is free here and there (`ck`), and send on the message with this device's partial product `p` added. -/
def stream (j : Fin 4) (b b' : Fin 2) (cr ck : Bool) (l r : Nbr) (p : FVec F S128x2048 .f32) (k : P F) : P F :=
  recv j b fun u =>
    (bif cr then signal (prodN j l r) (credS j) else id)
      ((bif ck then fun k => await (credS j) 1#32 (sent j b' k) else id)
        (fill j b' (k0_pay7 (k0_pay6 p u)) (push j b' (consN j l r) k)))

/-- A hop: the four partial products, then the four streams. -/
def hop (h : BitVec 32) (b b' : Fin 2) (cr ck : Bool) (v4 : BitVec 32) (l r : Nbr) (k : P F) : P F :=
  chunk 0 (hopF v4 h) fun p0 => chunk 1 (hopB v4 h) fun p1 => chunk 2 (hopF v4 h) fun p2 => chunk 3 (hopB v4 h) fun p3 =>
    stream 0 b b' cr ck l r p0 <| stream 1 b b' cr ck l r p1 <| stream 2 b b' cr ck l r p2 <| stream 3 b b' cr ck l r p3 k

/-- Two hops, the loop's body. -/
def twoHops (v4 : BitVec 32) (l r : Nbr) (t : Fin k0_t1_loop.trips) (_ : Unit) : P F :=
  hop (Scalar.addi (Scalar.muli 2#32 (Scf.iv 1#32 1#32 t)) 1#32) 0 1 true true v4 l r <|
  hop (Scalar.addi (Scalar.addi (Scalar.muli 2#32 (Scf.iv 1#32 1#32 t)) 1#32) 1#32) 1 0 true true v4 l r (.ret ⟨⟩)

/-- The device's own partial product of stream `j`. -/
def own (j : Fin 4) (d : Dev nD) (k : FVec F S128x2048 .f32 → P F) : P F :=
  .op (.load xR (Rect.unit (s := S4096x128) (k0_off60 d) S128x128.size (k0_off60_inb d)).toLoadRect (View.loadsAt_vmem h_S128x128)) fun x =>
  .op (.load wR (colRect j).toLoadRect (View.loadsAt_vmem h_S128x2048)) fun y => k (k0_pay2 x y)

/-- The row of the table of maxima that device `d` fills. -/
def rowM (d : Dev nD) : Memref sig .tc .vmem S1x128 .f32 :=
  rowR.slice (Rect.unit (s := S32x128) (k0_off65 d) S1x128.size (k0_off65_inb d)) (fun _ => rfl)

/-- The semaphores of the exchange of maxima: one for each copy out, by distance; one for each arrival, by device. -/
def outS (t : Fin k0_t2_loop.trips) : DmaSem sig :=
  ((cc0_scratch5.slice (Rect.unit (s := S32) (k0_off63 t) S1.size (k0_off63_inb t))).squeeze S_ squeezes_S1_S_).sem
def inS (d : Dev nD) : DmaSem sig :=
  ((cc0_scratch6.slice (Rect.unit (s := S32) (k0_off64 d) S1.size (k0_off64_inb d))).squeeze S_ squeezes_S1_S_).sem

/-- Send the own row to the device `t + 1` ring positions on. -/
def rowPush (v4 : BitVec 32) (d : Dev nD) (t : Fin k0_t2_loop.trips) (_ : Unit) : P F :=
  tabLoad (Scalar.addi v4 (Scf.iv 1#32 1#32 t)) fun v => .op (.assume (k0_chk32 v) (k0_chk32.dec v)) fun h =>
    .op (.enqueueDma (rowM d) (.remote (Dev.tc (⟨k0_dev51 v, k0_dev51_lt v h.down⟩ : Dev nD)) (rowM d) (.dma (outS t))) (.dma (inS d))
      (View.wordExact_bits rfl) (View.wordExact_bits rfl) ⟨⟨rfl, Or.inl rfl⟩, trivial⟩) .ret

/-- Wait for the row of the device `t + 1` ring positions back. -/
def rowRecv (v4 : BitVec 32) (t : Fin k0_t3_loop.trips) (_ : Unit) : P F :=
  tabLoad (Scalar.subi v4 (Scf.iv 1#32 1#32 t)) fun v => .op (.assume (k0_chk33 v) (k0_chk33.dec v)) fun h =>
    .op (.waitDma2 ((cc0_scratch6.slice (Rect.unit (s := S32) (k0_off67 v) S1.size (k0_off67_inb v h.down))).squeeze S_ squeezes_S1_S_).sem
      (rowR.slice (Rect.unit (s := S32x128) (k0_off68 v) S1x128.size (k0_off68_inb v h.down)) (fun _ => rfl))
      (rowR.slice (Rect.unit (s := S32x128) (k0_off68 v) S1x128.size (k0_off68_inb v h.down)) (fun _ => rfl))
      (View.wordExact_bits rfl) (View.wordExact_bits rfl)) .ret

/-- Wait until copy `t` has read the own row. -/
def rowSent (d : Dev nD) (t : Fin k0_t4_loop.trips) (_ : Unit) : P F :=
  .op (.waitDma2 ((cc0_scratch5.slice (Rect.unit (s := S32) (k0_off69 t) S1.size (k0_off69_inb t))).squeeze S_ squeezes_S1_S_).sem
    (rowM d) (rowM d) (View.wordExact_bits rfl) (View.wordExact_bits rfl)) .ret

/-- Write stream `j`'s columns of the result. -/
def emit (j : Fin 4) (u : FVec F S128x2048 .f32) (k : P F) : P F :=
  .op (.load outR (colRect j).toLoadRect (View.loadsAt_vmem h_S128x2048)) fun _ =>
  .op (.store outR (colRect j) u Finset.univ (View.stores_vmem_bits_univ h_S128x2048 rfl) (.inl rfl)) fun _ => k

/-- From the exchange of the maxima to the end. -/
def finish (v4 : BitVec 32) (d : Dev nD) (y : Fin 4 → FVec F S128x2048 .f32) : P F :=
  .op (.load rowR (Rect.unit (s := S32x128) (k0_off61 d) S1x128.size (k0_off61_inb d)).toLoadRect (View.loadsAt_vmem h_S1x128)) fun _ =>
  .op (.store rowR (Rect.unit (s := S32x128) (k0_off61 d) S1x128.size (k0_off61_inb d)) (k0_pay83 (y 0) (y 1) (y 2) (y 3)) Finset.univ
    (View.stores_vmem_bits_univ h_S1x128 rfl) (.inl rfl)) fun _ =>
  Scf.Loop.for k0_t2_loop k0_t2_ok ⟨⟩ (rowPush v4 d) >>= fun _ =>
  Scf.Loop.for k0_t3_loop k0_t3_ok ⟨⟩ (rowRecv v4) >>= fun _ =>
  Scf.Loop.for k0_t4_loop k0_t4_ok ⟨⟩ (rowSent d) >>= fun _ =>
  .op (.load rowR (Rect.unit (s := S32x128) ![0, 0] S32x128.size inb_S32x128_S32x128_0_0).toLoadRect (View.loadsAt_vmem h_S32x128)) fun a =>
  emit 0 (k0_pay85 (y 0) a) <| emit 1 (k0_pay85 (y 1) a) <| emit 2 (k0_pay85 (y 2) a) <| emit 3 (k0_pay85 (y 3) a) <| .ret ⟨⟩

/-- From the last hop's sends to the exchange of the maxima. -/
def gather (d : Dev nD) (k : (Fin 4 → FVec F S128x2048 .f32) → P F) : P F :=
  own 0 d fun p0 => own 1 d fun p1 => own 2 d fun p2 => own 3 d fun p3 =>
    recv 0 0 fun u0 => recv 1 0 fun u1 => recv 2 0 fun u2 => recv 3 0 fun u3 =>
      sent 0 0 <| sent 0 1 <| sent 1 0 <| sent 1 1 <| sent 2 0 <| sent 2 1 <| sent 3 0 <| sent 3 1 <|
        k ![k0_pay79 p0 u0, k0_pay79 p1 u1, k0_pay79 p2 u2, k0_pay79 p3 u3]

/-- Read the own ring position and the two neighbours, and meet them. -/
def meet (k : Dev nD → BitVec 32 → Nbr → Nbr → P F) : P F :=
  .op .deviceId fun d =>
  smemLoadElt (Val := Elt F) posR (Rect.unit (s := S32) (k0_off1 d) S1.size (k0_off1_inb d)) (View.loads_smem_one rfl numel1_S1) (Shape.Idx.first (numel1_S1.symm ▸ Nat.one_pos)) fun v4 =>
  .op (.assume (k0_chk1 v4) (k0_chk1.dec v4)) fun _ =>
  tabLoad (Scalar.subi v4 1#32) fun v17 => .op (.assume (k0_chk2 v17) (k0_chk2.dec v17)) fun h2 =>
  tabLoad (Scalar.addi v4 1#32) fun v30 => .op (.assume (k0_chk3 v30) (k0_chk3.dec v30)) fun h3 =>
  signal ⟨v17, dev_lt₂ h2.down⟩ barS <| signal ⟨v30, dev_lt₃ h3.down⟩ barS <| await barS 2#32 <|
  k d v4 ⟨v17, dev_lt₂ h2.down⟩ ⟨v30, dev_lt₃ h3.down⟩

/-- The hops after the loop, and what follows them. -/
def tail (d : Dev nD) (v4 : BitVec 32) (l r : Nbr) : P F :=
  hop 29#32 0 1 true true v4 l r <| hop 30#32 1 0 false true v4 l r <| gather d (finish v4 d)

/-- The whole body. -/
def body : P F :=
  meet fun d v4 l r =>
    first 0 (hopF v4 0#32) l r <| first 1 (hopB v4 0#32) l r <| first 2 (hopF v4 0#32) l r <| first 3 (hopB v4 0#32) l r <|
    hop 1#32 0 1 true false v4 l r <| hop 2#32 1 0 true true v4 l r <|
    Scf.Loop.for k0_t1_loop k0_t1_ok ⟨⟩ (twoHops v4 l r) >>= fun _ => tail d v4 l r

end Cert.KernelIdeal.Ring

end
-- ==== Proof.Ring.lean ====
/- The ring: the devices by position, the neighbours, and the words by which the kernel names them. -/
module

public import proofs.«01_k».proof.Proof.Program

@[expose] public section

noncomputable section

namespace Cert.KernelIdeal.Ring

open Cert.KernelIdeal Cert.KernelIdeal.Gen
open Idealize.ShloMosaic Idealize.SL.Sem

/-! ## Positions -/

theorem lit0_lt : ∀ p : Fin 32, (lit0 p).toNat < nD := by decide
theorem lit1_lt : ∀ d : Fin 32, (lit1 d).toNat < 32 := by decide

/-- The index below 32 of an integer taken modulo 32. -/
def ix (z : ℤ) : Fin 32 := ⟨(z % 32).toNat, by omega⟩
/-- The device at a ring position, positions being taken modulo 32. -/
def ringAt (z : ℤ) : Dev nD := ⟨(lit0 (ix z)).toNat, lit0_lt _⟩
/-- A device's ring position. -/
def pos (d : Dev nD) : ℤ := (lit1 d).toNat

theorem ix_congr {z z' : ℤ} (h : z % 32 = z' % 32) : ix z = ix z' := by unfold ix; simp only [h]
theorem ringAt_congr {z z' : ℤ} (h : z % 32 = z' % 32) : ringAt z = ringAt z' := by unfold ringAt; simp only [ix_congr h]

theorem ix_cast (p : Fin 32) : ix (p.val : ℤ) = p := by
  apply Fin.ext; show ((p.val : ℤ) % 32).toNat = p.val; omega
theorem ix_val (z : ℤ) : ((ix z).val : ℤ) = z % 32 := by show (((z % 32).toNat : ℕ) : ℤ) = _; omega

theorem lit1_lit0 : ∀ p : Fin 32, (lit1 ⟨(lit0 p).toNat, lit0_lt p⟩).toNat = p.val := by decide
theorem lit0_lit1 : ∀ d : Fin 32, (lit0 ⟨(lit1 d).toNat, lit1_lt d⟩).toNat = d.val := by decide

theorem pos_ringAt (z : ℤ) : pos (ringAt z) = z % 32 := by
  rw [← ix_val]; exact congrArg Nat.cast (lit1_lit0 (ix z))
theorem ringAt_pos (d : Dev nD) : ringAt (pos d) = d := by
  have h : ix (pos d) = ⟨(lit1 d).toNat, lit1_lt d⟩ := ix_cast ⟨(lit1 d).toNat, lit1_lt d⟩
  apply Fin.ext; show (lit0 (ix (pos d))).toNat = d.val
  rw [h]; exact lit0_lit1 d
theorem pos_nonneg (d : Dev nD) : 0 ≤ pos d := Int.natCast_nonneg _
theorem pos_lt (d : Dev nD) : pos d < 32 := by have := lit1_lt d; unfold pos; omega
theorem pos_inj {d d' : Dev nD} (h : pos d = pos d') : d = d' := by rw [← ringAt_pos d, h, ringAt_pos]

theorem ringAt_inj {z z' : ℤ} : ringAt z = ringAt z' ↔ z % 32 = z' % 32 :=
  ⟨fun h => by rw [← pos_ringAt, h, pos_ringAt], ringAt_congr⟩

/-- The direction in which stream `j` moves. -/
def dir (j : Fin 4) : ℤ := bif fwd j then 1 else -1
theorem dir_cases (j : Fin 4) : dir j = 1 ∨ dir j = -1 := by unfold dir; cases fwd j; exacts [.inr rfl, .inl rfl]

/-- The device `n` positions on. -/
def turn (n : ℤ) (c : Dev nD) : Dev nD := ringAt (pos c + n)
theorem turn_turn (m n : ℤ) (c : Dev nD) : turn m (turn n c) = turn (n + m) c := by
  unfold turn; rw [pos_ringAt]; exact ringAt_congr (by omega)
theorem turn_zero (c : Dev nD) : turn 0 c = c := by unfold turn; rw [add_zero, ringAt_pos]
theorem turn_congr {m n : ℤ} (h : m % 32 = n % 32) (c : Dev nD) : turn m c = turn n c := ringAt_congr (by omega)
theorem turn_inj (n : ℤ) : Function.Injective (turn n) := fun a b h => by
  have h : turn (-n) (turn n a) = turn (-n) (turn n b) := congrArg _ h
  rwa [turn_turn, turn_turn, add_neg_cancel, turn_zero, turn_zero] at h
theorem turn_eq_iff {m n : ℤ} (c : Dev nD) : turn m c = turn n c ↔ m % 32 = n % 32 := by
  unfold turn; rw [ringAt_inj]; omega
/-- Moving all devices on by `n` positions. -/
def turnEquiv (n : ℤ) : Dev nD ≃ Dev nD where
  toFun := turn n
  invFun := turn (-n)
  left_inv c := by rw [turn_turn, add_neg_cancel, turn_zero]
  right_inv c := by rw [turn_turn, neg_add_cancel, turn_zero]

/-- The device stream `j` takes messages from, and the one it gives them to. -/
def frm (j : Fin 4) (c : Dev nD) : Dev nD := turn (-dir j) c
def nxt (j : Fin 4) (c : Dev nD) : Dev nD := turn (dir j) c
theorem frm_nxt (j : Fin 4) (c : Dev nD) : frm j (nxt j c) = c := by unfold frm nxt; rw [turn_turn, add_neg_cancel, turn_zero]
theorem nxt_frm (j : Fin 4) (c : Dev nD) : nxt j (frm j c) = c := by unfold frm nxt; rw [turn_turn, neg_add_cancel, turn_zero]

/-- The device whose chunk stream `j` of device `c` adds to at hop `s`. -/
def chunkDev (j : Fin 4) (s : ℕ) (c : Dev nD) : Dev nD := turn (-(dir j * (1 + s))) c
theorem chunkDev_frm (j : Fin 4) (s : ℕ) (c : Dev nD) : chunkDev j s (frm j c) = chunkDev j (s + 1) c := by
  unfold chunkDev frm; rw [turn_turn]; congr 1; rcases dir_cases j with h | h <;> rw [h] <;> omega
theorem chunkDev_last (j : Fin 4) (c : Dev nD) : chunkDev j 31 c = c := by
  unfold chunkDev; conv_rhs => rw [← turn_zero c]
  apply turn_congr; rcases dir_cases j with h | h <;> rw [h] <;> rfl

/-! ## Words -/

/-- A device as the word the kernel reads from the ring's table. -/
def devW (d : Dev nD) : BitVec 32 := BitVec.ofNat 32 d.val
theorem devW_lit : ∀ p : Fin 32, lit0 p = BitVec.ofNat 32 (lit0 p).toNat := by decide
theorem lit0_ix (z : ℤ) : lit0 (ix z) = devW (ringAt z) := devW_lit _
/-- A device's position as the word the kernel reads from the table of positions. -/
def posW (d : Dev nD) : BitVec 32 := lit1 d

theorem posW_toInt (d : Dev nD) : (posW d).toInt = pos d := by
  have := lit1_lt d
  unfold posW pos; rw [BitVec.toInt_eq_toNat_of_lt (by omega)]

theorem toInt_add_small {a b : BitVec 32} (h1 : -1000 ≤ a.toInt) (h2 : a.toInt ≤ 1000) (h3 : -1000 ≤ b.toInt) (h4 : b.toInt ≤ 1000) :
    (Scalar.addi a b).toInt = a.toInt + b.toInt := by
  show (a + b).toInt = _
  rw [BitVec.toInt_add, Int.bmod_eq_of_le (by omega) (by omega)]
theorem toInt_sub_small {a b : BitVec 32} (h1 : -1000 ≤ a.toInt) (h2 : a.toInt ≤ 1000) (h3 : -1000 ≤ b.toInt) (h4 : b.toInt ≤ 1000) :
    (Scalar.subi a b).toInt = a.toInt - b.toInt := by
  show (a - b).toInt = _
  rw [BitVec.toInt_sub, Int.bmod_eq_of_le (by omega) (by omega)]

/-- The index into a table that the word `w` gives. -/
theorem fmod_index (w : BitVec 32) : (Scalar.indexCast (fmod w)).toNat = (ix w.toInt).val := by
  have h := fmod_toInt w
  have h2 := fmod_lt w
  show (fmod w).toNat = (w.toInt % 32).toNat
  rw [BitVec.toInt_eq_toNat_of_lt (by omega)] at h
  omega

theorem hop_word {w : BitVec 32} {s : ℕ} (hs : s ≤ 31) (hw : w.toInt = s) (d : Dev nD) (j : Fin 4) :
    (bif fwd j then hopF (posW d) w else hopB (posW d) w).toInt = pos d - dir j * (1 + s) := by
  have h0 := pos_nonneg d
  have h1 := pos_lt d
  have h2 := posW_toInt d
  have h3 : (1#32 : BitVec 32).toInt = 1 := by decide
  unfold dir hopF hopB
  cases fwd j
  · show (Scalar.addi (Scalar.addi (posW d) 1#32) w).toInt = _ - (-1) * _
    have h4 := toInt_add_small (a := posW d) (b := 1#32) (by omega) (by omega) (by omega) (by omega)
    rw [toInt_add_small (by omega) (by omega) (by omega) (by omega), h4, h2, h3, hw]; omega
  · show (Scalar.subi (Scalar.subi (posW d) 1#32) w).toInt = _ - 1 * _
    have h4 := toInt_sub_small (a := posW d) (b := 1#32) (by omega) (by omega) (by omega) (by omega)
    rw [toInt_sub_small (by omega) (by omega) (by omega) (by omega), h4, h2, h3, hw]; omega

theorem chk4 : ∀ d : Dev nD, k0_chk4 (devW d) := by decide
theorem chk1 : ∀ d : Dev nD, k0_chk1 (posW d) := by decide
theorem chk2 : ∀ d : Dev nD, k0_chk2 (devW d) := by decide
theorem chk3 : ∀ d : Dev nD, k0_chk3 (devW d) := by decide
theorem chk32 : ∀ d : Dev nD, k0_chk32 (devW d) := by decide
theorem chk33 : ∀ d : Dev nD, k0_chk33 (devW d) := by decide
theorem dev1_devW : ∀ d : Dev nD, k0_dev1 (devW d) = d.val := by decide
theorem dev51_devW : ∀ d : Dev nD, k0_dev51 (devW d) = d.val := by decide

/-- Device `d` as the kernel names it. -/
def nbr (d : Dev nD) : Nbr := ⟨devW d, by rw [dev1_devW]; exact d.isLt⟩
theorem nbr_dev (d : Dev nD) : (nbr d).dev = d := Fin.ext (dev1_devW d)

theorem prodN_nbr (j : Fin 4) (c : Dev nD) : prodN j (nbr (turn (-1) c)) (nbr (turn 1 c)) = nbr (frm j c) := by
  unfold prodN frm dir; cases fwd j <;> rfl
theorem consN_nbr (j : Fin 4) (c : Dev nD) : consN j (nbr (turn (-1) c)) (nbr (turn 1 c)) = nbr (nxt j c) := by
  unfold consN nxt dir; cases fwd j <;> rfl

/-- The block of rows that device `c` takes of its own argument at device `d`'s chunk. -/
theorem rows_inb : ∀ d : Dev nD, ∀ a, (![128 * d.val, 0] : Fin 2 → Nat) a + S128x128.size a ≤ S4096x128.size a := by decide
abbrev rowsRect (d : Dev nD) : Rect S4096x128 := Rect.unit (s := S4096x128) ![128 * d.val, 0] S128x128.size (rows_inb d)
theorem off5_devW : ∀ d : Dev nD, k0_off5 (devW d) = ![128 * d.val, 0] := by decide
theorem off60_eq : ∀ d : Dev nD, k0_off60 d = ![128 * d.val, 0] := by decide
theorem off1_eq : ∀ d : Dev nD, k0_off1 d = ![d.val] := by decide

/-! ## The semaphores by number -/

/-- What a semaphore is for. -/
inductive Use
  | bar | cred (j : Fin 4) | send (j : Fin 4) (b : Fin 2) | recv (j : Fin 4) (b : Fin 2) | out (t : Fin 31) | inn (d : Fin 32) | other
deriving DecidableEq

def use : SemLoc sig → Use
  | .reg s => if h : s.val < 4 then .cred ⟨s.val, h⟩ else if s.val = 4 then .bar else .other
  | .dma s => if s.val < 5 then .other
    else if h : s.val < 13 then .send ⟨(s.val - 5) / 2, by omega⟩ ⟨(s.val - 5) % 2, by omega⟩
    else if h : s.val < 21 then .recv ⟨(s.val - 13) / 2, by omega⟩ ⟨(s.val - 13) % 2, by omega⟩
    else if s.val < 22 then .other
    else if h : s.val < 53 then .out ⟨s.val - 22, by omega⟩
    else if h : s.val < 85 then .inn ⟨s.val - 53, by omega⟩ else .other

theorem use_bar : use (.reg barS) = .bar := by decide
theorem use_cred : ∀ j, use (.reg (credS j)) = .cred j := by decide
theorem use_send : ∀ j b, use (.dma (sendS j b)) = .send j b := by decide
theorem use_recv : ∀ j b, use (.dma (recvS j b)) = .recv j b := by decide
theorem use_in : ∀ d, use (.dma (inS d)) = .inn d := by decide

end Cert.KernelIdeal.Ring

end
-- ==== Proof.Values.lean ====
/- What the messages and the result hold, as functions of the devices' arguments. -/
module

public import proofs.«01_k».proof.Proof.Ring
public import Idealize.ShloMosaic.Lib.ViewIndex

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

/-- The contents of the two argument blocks on every device. -/
structure Args (F : FTy → Type) where
  x : Dev nD → BufTy.Contents (Elt F) ⟨S4096x128, .bf16⟩
  w : Dev nD → BufTy.Contents (Elt F) ⟨S128x8192, .bf16⟩

/-- A row of the table of maxima. -/
theorem row_inb : ∀ d : Dev nD, ∀ a, (![d.val, 0] : Fin 2 → Nat) a + S1x128.size a ≤ S32x128.size a := by decide
abbrev rowRect (d : Dev nD) : Rect S32x128 := Rect.unit (s := S32x128) ![d.val, 0] S1x128.size (row_inb d)

namespace Args

variable (A : Args F)

/-- Device `c`'s partial product on stream `j` at device `d`'s chunk. -/
def part (c : Dev nD) (j : Fin 4) (d : Dev nD) : FVec F S128x2048 .f32 :=
  k0_pay2 ((xR.access (rowsRect d)).read (Elt F) (A.x c)) ((wR.access (colRect j)).read (Elt F) (A.w c))

/-- Message `s` that device `c` sends on stream `j`. -/
def msg : ℕ → Dev nD → Fin 4 → FVec F S1x1x128x2048 .bf16
  | 0, c, j => k0_pay7 (A.part c j (chunkDev j 0 c))
  | s + 1, c, j => k0_pay7 (k0_pay6 (A.part c j (chunkDev j (s + 1) c)) (msg s (frm j c) j))

/-- Device `c`'s block of the product, the columns of stream `j`. -/
def sum (c : Dev nD) (j : Fin 4) : FVec F S128x2048 .f32 := k0_pay79 (A.part c j c) (A.msg 30 (frm j c) j)

/-- The row of maxima that device `c` sends to all. -/
def row (c : Dev nD) : FVec F S1x128 .f32 := k0_pay83 (A.sum c 0) (A.sum c 1) (A.sum c 2) (A.sum c 3)

/-- The whole table of maxima. -/
def table : BufTy.Contents (Elt F) ⟨S32x128, .f32⟩ :=
  fun i => A.row (i 0) (fun a => match a with | ⟨0, _⟩ => (0 : Fin 1) | ⟨1, _⟩ => (i 1))

end Args

theorem row_set (d : Dev nD) (x : S1x128.Idx) : (rowRect d).emb x 0 = d ∧ (rowRect d).emb x 1 = x 1 := by
  constructor
  · apply Fin.ext
    show d.val + 1 * (x 0).val = d.val
    have : (x 0).val < 1 := (x 0).isLt
    omega
  · apply Fin.ext
    show 0 + 1 * (x 1).val = (x 1).val
    omega

theorem Args.table_row (A : Args F) (d : Dev nD) : (rowR.access (rowRect d)).read (Elt F) A.table = A.row d := by
  funext x
  show A.table ((rowRect d).emb x) = A.row d x
  unfold Args.table
  rw [(row_set d x).1]
  congr 1
  funext a
  match a with
  | ⟨0, _⟩ => exact Subsingleton.elim (α := Fin 1) _ _
  | ⟨1, _⟩ => exact (row_set d x).2

/-- Contents that read as row `d` agree with the table there. -/
theorem Args.eq_table (A : Args F) (d : Dev nD) {f : BufTy.Contents (Elt F) ⟨S32x128, .f32⟩}
    (h : (rowR.access (rowRect d)).read (Elt F) f = A.row d) : ∀ i ∈ (rowR.access (rowRect d)).set, f i = A.table i := by
  intro i hi
  rw [← A.table_row d] at h
  obtain ⟨x, rfl⟩ := View.exists_of_mem_set_slice hi
  exact View.eq_of_read_eq (v := rowR.access (rowRect d)) (x := x) (congrFun h x)

/-- A block copied from one slot to another reads there as it did here. -/
theorem slot_copied (j : Fin 4) (b : Fin 2) (fd fs : BufTy.Contents (Elt F) ⟨S4x2x128x2048, .bf16⟩) :
    (rcvR.access (slotRect j b)).read (Elt F) ((slotM rcvR j b).view.write (Elt F) fd ((slotM sndR j b).view.read (Elt F) fs) Finset.univ)
      = (sndR.access (slotRect j b)).read (Elt F) fs := by
  funext x
  obtain ⟨y, rfl⟩ := (Shape.reshapeEquiv squeezes_S1x1x128x2048_S128x2048.numel_eq).surjective x
  exact View.read_write_reshape (v := rcvR.access (slotRect j b)) squeezes_S1x1x128x2048_S128x2048.numel_eq fd _ y

theorem slotM_set (m : Memref sig .tc .vmem S4x2x128x2048 .bf16) (j : Fin 4) (b : Fin 2) :
    (slotM m j b).view.set = (m.access (slotRect j b)).set := View.set_reshape _ _

end Cert.KernelIdeal.Ring

end
-- ==== Proof.Schedule.lean ====
/- The rounds on every cell: who pays what, with which resources, and at which index. -/
module

public import proofs.«01_k».proof.Proof.Values
public import Idealize.ShloMosaic.Lib.Release
public import Idealize.ShloMosaic.Lib.ShareLeaves
public import Idealize.ShloMosaic.Lib.Pipeline.Regions
public import Idealize.ShloMosaic.Lib.Pipeline.Kit
public import Idealize.ShloMosaic.Lib.StableHlo
public import Idealize.ShloMosaic.Lib.Tactic
public import Idealize.ShloMosaic.Lib.Pipeline.RegionTalk

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The ghost algebra -/

/-- A receive slot: its device, stream and number. -/
abbrev Key : Type := Dev nD × Fin 4 × Fin 2
abbrev UU : Type := UR sig nD τ × (URounds (GSem nD τ sig) ℕ × USlots Key)

local notation "𝕄" => MT nD τ sig ℕ (Elt F) ℕ UU ℕ

abbrev EP : Emb (UR sig nD τ) (MT nD τ sig ℕ (Elt F) ℕ UU ℕ) := embL
def ER : Emb (URounds (GSem nD τ sig) ℕ) (MT nD τ sig ℕ (Elt F) ℕ UU ℕ) :=
  (Emb.inl : Emb _ (URounds (GSem nD τ sig) ℕ × USlots Key)).trans embR
def ES : Emb (USlots Key) (MT nD τ sig ℕ (Elt F) ℕ UU ℕ) :=
  (Emb.inr : Emb _ (URounds (GSem nD τ sig) ℕ × USlots Key)).trans embR
instance ER_landsIn : (ER : Emb _ 𝕄).LandsIn (upEmb : UEmb _ 𝕄) := by unfold ER; infer_instance
instance ES_landsIn : (ES : Emb _ 𝕄).LandsIn (upEmb : UEmb _ 𝕄) := by unfold ES; infer_instance

/-! ## Cells -/

abbrev reg (c : Dev nD) (s : Sem sig) : GSem nD τ sig := ((c : Thread nD τ), .reg s)
abbrev dma (c : Dev nD) (s : DmaSem sig) : GSem nD τ sig := ((c : Thread nD τ), .dma s)

/-- The semaphore of the `t`-th copy of the own row. -/
def outC (t : Fin 31) : DmaSem sig := outS (show Fin k0_t2_loop.trips from t)
theorem use_out : ∀ t : Fin 31, use (.dma (outC t)) = .out t := by decide

/-- What a copy of a slot, and of a row, credits. -/
def slotN : ℕ := (slotM rcvR 0 0).view.dmaCredit
def rowN : ℕ := (rowM 0).view.dmaCredit
theorem slotN_pos : 0 < slotN := View.dmaCredit_pos _ (by decide)
theorem rowN_pos : 0 < rowN := View.dmaCredit_pos _ (by decide)
theorem rcv_credit (j : Fin 4) (b : Fin 2) : (slotM rcvR j b).view.dmaCredit = slotN := rfl
theorem snd_credit (j : Fin 4) (b : Fin 2) : (slotM sndR j b).view.dmaCredit = slotN := rfl
theorem row_credit (d : Dev nD) : (rowM d).view.dmaCredit = rowN := rfl

/-! ## What the payments carry -/

/-- The parity of a message, the slot it uses. -/
def par (n : ℕ) : Fin 2 := ⟨n % 2, Nat.mod_lt _ (by decide)⟩

/-- A slot of the send, of the receive buffer, at contents not chosen. -/
def sndAny (c : Dev nD) (j : Fin 4) (b : Fin 2) : sProp 𝕄 :=
  slot (sndR.view.loc (c : Thread nD τ)) (sndR.access (slotRect j b)).set
def rcvAny (c : Dev nD) (j : Fin 4) (b : Fin 2) : sProp 𝕄 :=
  slot (rcvR.view.loc (c : Thread nD τ)) (rcvR.access (slotRect j b)).set
/-- A receive slot that reads as `u`. -/
def rcvAt (c : Dev nD) (j : Fin 4) (b : Fin 2) (u : FVec F S1x1x128x2048 .bf16) : sProp 𝕄 :=
  iprop(∃ f, (rcvR.view.loc (c : Thread nD τ) ↦[(rcvR.access (slotRect j b)).set]{fullShare} f)
    ∗ ⌜(rcvR.access (slotRect j b)).read (Elt F) f = u⌝)
/-- Row `d` of device `c`'s table of maxima, as in the full table; at contents not chosen. -/
def rowPts (A : Args F) (q : PosShare TreeShare) (c d : Dev nD) : sProp 𝕄 :=
  rowR.view.loc (c : Thread nD τ) ↦[(rowR.access (rowRect d)).set]{q} A.table
def rowAny (c d : Dev nD) : sProp 𝕄 := slot (rowR.view.loc (c : Thread nD τ)) (rowR.access (rowRect d)).set
/-- The share of its own row that a device lends to copy `t`. -/
def lent (t : Fin 32) : PosShare TreeShare := ShareLeaves.leaf 5 fullShare t

/-- Device `x` has freed stream `j`'s slots as of its `k`-th credit. -/
def Freed (j : Fin 4) (k : ℕ) (x : Dev nD) : sProp 𝕄 :=
  iprop((released ES (x, j, 0) ((k + 1) / 2 + 1) ∗ reached ER (dma x (recvS j 0)) ((k + 1) / 2))
    ∗ (released ES (x, j, 1) (k / 2 + 1) ∗ reached ER (dma x (recvS j 1)) (k / 2)))
/-- What device `x`, the right neighbour (`up`) or the left one, tells at the barrier. -/
def Told (up : Bool) (x : Dev nD) (j : Fin 4) : sProp 𝕄 :=
  if fwd j = up then Freed j 0 x else reached ER (reg x (credS j)) 0
/-- Row `d` of device `q`'s table, ready to be written. -/
def Row (q d : Dev nD) : sProp 𝕄 := iprop(rowAny q d ∗ reached ER (dma q (inS d)) 0)
/-- The rows that ride along with message `n` of stream 0 to device `c`. -/
def Extra (n : ℕ) (c : Dev nD) : sProp 𝕄 :=
  bigSep (Finset.range (n + 1)) fun i => Row (turn (-(1 + i)) c) (turn (-(n + 2)) c)

/-- The rows that ride along with message `n` of stream `j`: only stream 0 carries any. -/
def Ride (j : Fin 4) (n : ℕ) (c : Dev nD) : sProp 𝕄 := if j = 0 then Extra n c else iprop(emp)

instance Freed_persistent (j : Fin 4) (k : ℕ) (x : Dev nD) : BI.Persistent (Freed j k x : sProp 𝕄) := by
  unfold Freed; infer_instance
instance Told_persistent (up : Bool) (x : Dev nD) (j : Fin 4) : BI.Persistent (Told up x j : sProp 𝕄) := by
  unfold Told; split <;> infer_instance

instance Freed_storable (j : Fin 4) (k : ℕ) (x : Dev nD) : BI.Storable (upEmb : UEmb _ 𝕄) (Freed j k x) := by
  unfold Freed; infer_instance
instance Told_storable (up : Bool) (x : Dev nD) (j : Fin 4) : BI.Storable (upEmb : UEmb _ 𝕄) (Told up x j) := by
  unfold Told; split <;> infer_instance
theorem pts_storable {ℓ : Loc nD τ sig} (I : Finset (Idx ℓ)) (q : PosShare TreeShare) (f : Buf (Elt F) ℓ) :
    BI.Storable (upEmb : UEmb _ 𝕄) (ℓ ↦[I]{q} f) := inferInstance
instance sndAny_storable (c : Dev nD) (j : Fin 4) (b : Fin 2) : BI.Storable (upEmb : UEmb _ 𝕄) (sndAny c j b) := by
  unfold sndAny; infer_instance
instance rcvAny_storable (c : Dev nD) (j : Fin 4) (b : Fin 2) : BI.Storable (upEmb : UEmb _ 𝕄) (rcvAny c j b) := by
  unfold rcvAny; infer_instance
instance rcvAt_storable (c : Dev nD) (j : Fin 4) (b : Fin 2) (u : FVec F S1x1x128x2048 .bf16) :
    BI.Storable (upEmb : UEmb _ 𝕄) (rcvAt c j b u) := by unfold rcvAt; infer_instance
instance rowAny_storable (c d : Dev nD) : BI.Storable (upEmb : UEmb _ 𝕄) (rowAny c d) := by unfold rowAny; infer_instance
instance rowPts_storable (A : Args F) (q : PosShare TreeShare) (c d : Dev nD) : BI.Storable (upEmb : UEmb _ 𝕄) (rowPts A q c d) :=
  pts_storable ..
instance Ride_storable (j : Fin 4) (n : ℕ) (c : Dev nD) : BI.Storable (upEmb : UEmb _ 𝕄) (Ride j n c) := by
  unfold Ride Extra Row; split <;> infer_instance

/-! ## The schedule -/

variable (A : Args F)

def sched : Schedule (GSem nD τ sig) ℕ 𝕄 where
  unitless _ := False
  duties g r := if g.1.2 = .tc then
      match use g.2 with
      | .bar => if r = 0 then {0, 1} else ∅
      | .cred _ => if r = 0 then Finset.Icc 1 29 else ∅
      | .send _ b => if 2 * r + b.val ≤ 30 then {0} else ∅
      | .recv _ b => if 2 * r + b.val ≤ 30 then {0} else ∅
      | .out _ => if r = 0 then {0} else ∅
      | .inn d => if r = 0 ∧ d ≠ g.1.1 then {0} else ∅
      | .other => ∅
    else ∅
  amount g _ _ := match use g.2 with
    | .send _ _ => slotN
    | .recv _ _ => slotN
    | .out _ => rowN
    | .inn _ => rowN
    | _ => 1
  payload g r d := match use g.2 with
    | .bar => if d = 0 then bigSep Finset.univ (Told true (turn 1 g.1.1)) else bigSep Finset.univ (Told false (turn (-1) g.1.1))
    | .cred j => Freed j d (nxt j g.1.1)
    | .send j b => sndAny g.1.1 j b
    | .recv j b => iprop(rcvAt g.1.1 j b (A.msg (2 * r + b.val) (frm j g.1.1) j) ∗ Ride j (2 * r + b.val) g.1.1)
    | .out t => rowPts A (lent t.castSucc) g.1.1 g.1.1
    | .inn d => rowPts A fullShare g.1.1 d
    | .other => iprop(emp)
  amount_pos g _ _ _ := by split <;> first | exact slotN_pos | exact rowN_pos | exact Nat.one_pos

instance sched_storable (g : GSem nD τ sig) (r : ℕ) (d : ℕ) : BI.Storable (upEmb : UEmb _ 𝕄) ((sched A).payload g r d) := by
  dsimp only [sched]
  (repeat' split) <;> infer_instance

/-! ### What the schedule says of each cell -/

section Lookup

variable (c : Dev nD)

theorem duties_bar : (sched A).duties (reg c barS) 0 = {0, 1} := by dsimp only [sched]; rw [use_bar]; rfl
theorem duties_cred (j : Fin 4) : (sched A).duties (reg c (credS j)) 0 = Finset.Icc 1 29 := by dsimp only [sched]; rw [use_cred]; rfl
theorem duties_send (j : Fin 4) (n : ℕ) (h : n ≤ 30) : (sched A).duties (dma c (sendS j (par n))) (n / 2) = {0} := by
  dsimp only [sched]; rw [use_send, if_pos rfl]; exact if_pos (by show 2 * (n / 2) + n % 2 ≤ 30; omega)
theorem duties_recv (j : Fin 4) (n : ℕ) (h : n ≤ 30) : (sched A).duties (dma c (recvS j (par n))) (n / 2) = {0} := by
  dsimp only [sched]; rw [use_recv, if_pos rfl]; exact if_pos (by show 2 * (n / 2) + n % 2 ≤ 30; omega)
theorem duties_out (t : Fin 31) : (sched A).duties (dma c (outC t)) 0 = {0} := by dsimp only [sched]; rw [use_out]; rfl
theorem duties_inn (d : Dev nD) (h : d ≠ c) : (sched A).duties (dma c (inS d)) 0 = {0} := by
  dsimp only [sched]; rw [use_in, if_pos rfl]; exact if_pos ⟨rfl, h⟩

theorem amount_bar (r d : ℕ) : (sched A).amount (reg c barS) r d = 1 := by dsimp only [sched]; rw [use_bar]
theorem amount_cred (j : Fin 4) (r d : ℕ) : (sched A).amount (reg c (credS j)) r d = 1 := by dsimp only [sched]; rw [use_cred]
theorem amount_send (j : Fin 4) (b : Fin 2) (r d : ℕ) : (sched A).amount (dma c (sendS j b)) r d = slotN := by dsimp only [sched]; rw [use_send]
theorem amount_recv (j : Fin 4) (b : Fin 2) (r d : ℕ) : (sched A).amount (dma c (recvS j b)) r d = slotN := by dsimp only [sched]; rw [use_recv]
theorem amount_out (t : Fin 31) (r d : ℕ) : (sched A).amount (dma c (outC t)) r d = rowN := by dsimp only [sched]; rw [use_out]
theorem amount_inn (e : Dev nD) (r d : ℕ) : (sched A).amount (dma c (inS e)) r d = rowN := by dsimp only [sched]; rw [use_in]

theorem expect_bar : (sched A).expect (reg c barS) 0 = 2 := by
  unfold Schedule.expect Schedule.amountOf; rw [duties_bar]; rfl
theorem expect_cred (j : Fin 4) : (sched A).expect (reg c (credS j)) 0 = 29 := by
  unfold Schedule.expect Schedule.amountOf
  rw [duties_cred, Finset.sum_congr rfl (fun d _ => amount_cred A c j 0 d)]; rfl
theorem expect_send (j : Fin 4) (n : ℕ) (h : n ≤ 30) : (sched A).expect (dma c (sendS j (par n))) (n / 2) = slotN := by
  unfold Schedule.expect Schedule.amountOf; rw [duties_send A c j n h, Finset.sum_singleton, amount_send]
theorem expect_recv (j : Fin 4) (n : ℕ) (h : n ≤ 30) : (sched A).expect (dma c (recvS j (par n))) (n / 2) = slotN := by
  unfold Schedule.expect Schedule.amountOf; rw [duties_recv A c j n h, Finset.sum_singleton, amount_recv]
theorem expect_out (t : Fin 31) : (sched A).expect (dma c (outC t)) 0 = rowN := by
  unfold Schedule.expect Schedule.amountOf; rw [duties_out, Finset.sum_singleton, amount_out]
theorem expect_inn (d : Dev nD) (h : d ≠ c) : (sched A).expect (dma c (inS d)) 0 = rowN := by
  unfold Schedule.expect Schedule.amountOf; rw [duties_inn A c d h, Finset.sum_singleton, amount_inn]

theorem payload_bar (d : ℕ) : (sched A).payload (reg c barS) 0 d
    = if d = 0 then bigSep Finset.univ (Told true (turn 1 c)) else bigSep Finset.univ (Told false (turn (-1) c)) := by
  dsimp only [sched]; rw [use_bar]
theorem payload_cred (j : Fin 4) (k : ℕ) : (sched A).payload (reg c (credS j)) 0 k = Freed j k (nxt j c) := by
  dsimp only [sched]; rw [use_cred]
theorem payload_send (j : Fin 4) (b : Fin 2) (r d : ℕ) : (sched A).payload (dma c (sendS j b)) r d = sndAny c j b := by
  dsimp only [sched]; rw [use_send]
theorem payload_recv (j : Fin 4) (n : ℕ) (d : ℕ) : (sched A).payload (dma c (recvS j (par n))) (n / 2) d
    = iprop(rcvAt c j (par n) (A.msg n (frm j c) j) ∗ Ride j n c) := by
  have e : 2 * (n / 2) + (par n).val = n := by show 2 * (n / 2) + n % 2 = n; omega
  dsimp only [sched]; rw [use_recv]; dsimp only; rw [e]
theorem payload_out (t : Fin 31) (d : ℕ) : (sched A).payload (dma c (outC t)) 0 d = rowPts A (lent t.castSucc) c c := by
  dsimp only [sched]; rw [use_out]
theorem payload_inn (e : Dev nD) (d : ℕ) : (sched A).payload (dma c (inS e)) 0 d = rowPts A fullShare c e := by
  dsimp only [sched]; rw [use_in]

theorem rest_bar : bigSep ((sched A).duties (reg c barS) 0 \ ∅) (fun u => (sched A).payload (reg c barS) 0 u)
    = iprop(bigSep Finset.univ (Told true (turn 1 c)) ∗ bigSep Finset.univ (Told false (turn (-1) c))) := by
  rw [Finset.sdiff_empty, duties_bar, bigSep_insert (by decide), bigSep_singleton, payload_bar, payload_bar, if_pos rfl, if_neg (by decide)]
  rfl
theorem rest_send (j : Fin 4) (n : ℕ) (h : n ≤ 30) :
    bigSep ((sched A).duties (dma c (sendS j (par n))) (n / 2) \ ∅) (fun u => (sched A).payload (dma c (sendS j (par n))) (n / 2) u)
      = sndAny c j (par n) := by
  rw [Finset.sdiff_empty, duties_send A c j n h, bigSep_singleton, payload_send]
theorem rest_recv (j : Fin 4) (n : ℕ) (h : n ≤ 30) :
    bigSep ((sched A).duties (dma c (recvS j (par n))) (n / 2) \ ∅) (fun u => (sched A).payload (dma c (recvS j (par n))) (n / 2) u)
      = iprop(rcvAt c j (par n) (A.msg n (frm j c) j) ∗ Ride j n c) := by
  rw [Finset.sdiff_empty, duties_recv A c j n h, bigSep_singleton, payload_recv]
theorem rest_out (t : Fin 31) :
    bigSep ((sched A).duties (dma c (outC t)) 0 \ ∅) (fun u => (sched A).payload (dma c (outC t)) 0 u) = rowPts A (lent t.castSucc) c c := by
  rw [Finset.sdiff_empty, duties_out, bigSep_singleton, payload_out]
theorem rest_inn (d : Dev nD) (h : d ≠ c) :
    bigSep ((sched A).duties (dma c (inS d)) 0 \ ∅) (fun u => (sched A).payload (dma c (inS d)) 0 u) = rowPts A fullShare c d := by
  rw [Finset.sdiff_empty, duties_inn A c d h, bigSep_singleton, payload_inn]

end Lookup

/-- The round after a cell's last, and that nothing is due from there on. -/
def lastRound (g : GSem nD τ sig) : ℕ := match use g.2 with
  | .bar => 1
  | .cred _ => 1
  | .send _ b => 16 - b.val
  | .recv _ b => 16 - b.val
  | .out _ => 1
  | .inn d => if d = g.1.1 then 0 else 1
  | .other => 0

theorem duties_last (g : GSem nD τ sig) (r : ℕ) (hr : lastRound g ≤ r) : (sched A).duties g r = ∅ := by
  dsimp only [sched]
  unfold lastRound at hr
  generalize use g.2 = u at hr ⊢
  split
  · cases u with
    | bar => exact if_neg (by have : 1 ≤ r := hr; omega)
    | cred _ => exact if_neg (by have : 1 ≤ r := hr; omega)
    | send _ b => exact if_neg (by have : 16 - b.val ≤ r := hr; have := b.isLt; omega)
    | recv _ b => exact if_neg (by have : 16 - b.val ≤ r := hr; have := b.isLt; omega)
    | out _ => exact if_neg (by have : 1 ≤ r := hr; omega)
    | inn d =>
      refine if_neg (fun h => ?_)
      have hr : (if d = g.1.1 then 0 else 1) ≤ r := hr
      rw [if_neg h.2] at hr; omega
    | other => rfl
  · rfl

end Cert.KernelIdeal.Ring

end
-- ==== Proof.Debts.lean ====
/- What each device owes as it runs, and why it may wait. -/
module

public import proofs.«01_k».proof.Proof.Schedule

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ

/-- Payments are indexed by when they are due: the index is the level. -/
def L (g : GSem nD τ sig) : Finset ℕ := if g.1.2 = .tc then Finset.range 200 else ∅
def lv (_ : GSem nD τ sig) (i : ℕ) : ℕ := i
theorem L_of_ne (g : GSem nD τ sig) (h : g.1.2 ≠ .tc) : L g = ∅ := if_neg h
theorem L_tc (c : Dev nD) (sm : SemLoc sig) : L ((c : Thread nD τ), sm) = Finset.range 200 := if_pos rfl

abbrev Debt : Type := CellTallies nD τ sig ℕ

/-- Everything in `O` is due after `b`. -/
def Above (b : ℕ) (O : Debt) : Prop := ∀ g i, 0 < O g i → i ∈ L g ∧ b < i

theorem Above.zero (b : ℕ) : Above b 0 := fun _ _ h => absurd h (Nat.lt_irrefl 0)
theorem Above.add {b : ℕ} {O O' : Debt} (h : Above b O) (h' : Above b O') : Above b (O + O') := fun g i hg => by
  rw [Pi.add_apply, Finsupp.add_apply] at hg
  rcases Nat.eq_zero_or_pos (O g i) with e | e
  · exact h' g i (by omega)
  · exact h g i e
theorem Above.tally {b : ℕ} (c : Dev nD) (sm : SemLoc sig) (i k : ℕ) (hi : i < 200) (hb : b < i) :
    Above b (tallyAt ((c : Thread nD τ), sm) i k) := fun g i' hg => by
  rw [tallyAt_apply] at hg
  by_cases h : g = ((c : Thread nD τ), sm) ∧ i' = i
  · rw [h.1, h.2, L_tc]; exact ⟨Finset.mem_range.mpr hi, hb⟩
  · rw [if_neg h] at hg; exact absurd hg (Nat.lt_irrefl 0)
theorem Above.mono {b b' : ℕ} (hb : b' ≤ b) {O : Debt} (h : Above b O) : Above b' O :=
  fun g i hg => ⟨(h g i hg).1, Nat.lt_of_le_of_lt hb (h g i hg).2⟩

/-- A device may wait at index `i` while everything it owes is due later. -/
theorem mayWait (c : Dev nD) (sm : SemLoc sig) (i : ℕ) (hi : i < 200) {O : Debt} (h : Above i O) :
    (levAts L lv : sProp 𝕄) ⊢ MayWait (c : Thread nD τ) sm i O :=
  MayOwe.of_cut (L := L) (lev := lv) i (fun p hp => by rw [Finset.mem_singleton.mp hp, L_tc]; exact Finset.mem_range.mpr hi)
    (fun g u hg => (h g u hg).1) (fun p hp => by rw [Finset.mem_singleton.mp hp]; exact Nat.le_refl _) (fun g u hg => (h g u hg).2)

/-! ## The debts in the order they are paid -/

def creditT (c : Dev nD) (j : Fin 4) (s : ℕ) : Debt :=
  if 1 ≤ s ∧ s ≤ 29 then tallyAt (reg (frm j c) (credS j)) (2 * s + 2) 1 else 0
def msgT (c : Dev nD) (j : Fin 4) (s : ℕ) : Debt := tallyAt (dma (nxt j c) (recvS j (par s))) (2 * s + 3) slotN
def rowT (c : Dev nD) (t : ℕ) : Debt := tallyAt (dma (turn (t + 1) c) (inS c)) 100 rowN
def barT (c : Dev nD) (z : ℤ) : Debt := tallyAt (reg (turn z c) barS) 1 1

/-- Owed while `n` copies of the own row are left to start. -/
def rowDebt (c : Dev nD) : ℕ → Debt
  | 0 => 0
  | n + 1 => rowDebt c n + rowT c (30 - n)
/-- Owed while `n` hops are left. -/
def debt (c : Dev nD) : ℕ → Debt
  | 0 => rowDebt c 31
  | n + 1 => debt c n + (msgT c 3 (30 - n) + creditT c 3 (30 - n)) + (msgT c 2 (30 - n) + creditT c 2 (30 - n))
      + (msgT c 1 (30 - n) + creditT c 1 (30 - n)) + (msgT c 0 (30 - n) + creditT c 0 (30 - n))
/-- Owed at the start. -/
def debt₀ (c : Dev nD) : Debt := debt c 31 + barT c 1 + barT c (-1)

theorem msgT_above (c : Dev nD) (j : Fin 4) (s : ℕ) (hs : s ≤ 30) : Above (2 * s + 1) (msgT c j s) :=
  Above.tally _ _ _ _ (by omega) (by omega)
theorem creditT_above (c : Dev nD) (j : Fin 4) (s : ℕ) : Above (2 * s + 1) (creditT c j s) := by
  unfold creditT
  by_cases h : 1 ≤ s ∧ s ≤ 29
  · rw [if_pos h]; exact Above.tally _ _ _ _ (by omega) (by omega)
  · rw [if_neg h]; exact Above.zero _
theorem hopT_above (c : Dev nD) (j : Fin 4) (s : ℕ) (hs : s ≤ 30) : Above (2 * s + 1) (msgT c j s + creditT c j s) :=
  (msgT_above c j s hs).add (creditT_above c j s)
theorem rowDebt_above (c : Dev nD) : ∀ n, Above 99 (rowDebt c n)
  | 0 => Above.zero _
  | n + 1 => (rowDebt_above c n).add (Above.tally _ _ _ _ (by decide) (by decide))
theorem debt_above (c : Dev nD) : ∀ n, n ≤ 31 → Above (2 * (31 - n) + 1) (debt c n)
  | 0, _ => (rowDebt_above c 31).mono (by decide)
  | n + 1, h => by
    have e : 2 * (31 - (n + 1)) + 1 = 2 * (30 - n) + 1 := by omega
    rw [e]
    exact (((((debt_above c n (by omega)).mono (by omega)).add (hopT_above c 3 _ (by omega))).add (hopT_above c 2 _ (by omega))).add
      (hopT_above c 1 _ (by omega))).add (hopT_above c 0 _ (by omega))

end Cert.KernelIdeal.Ring

end
-- ==== Proof.Steps.lean ====
/- One step of the kernel at a time: what each needs and what it gives back. -/
module

public import proofs.«01_k».proof.Proof.Debts

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ

abbrev 𝒱₀ : Variants := Variants.none

/-- Device `c` runs `p` to `Q`. -/
abbrev Run (c : Dev nD) (p : P F) (Q : PUnit.{1} → sProp 𝕄) : sProp 𝕄 :=
  wp frame (wpE (defs₀ (F := F)) 𝒱₀ (c : Thread nD τ) none) Set.univ p Q

/-! ## The shared context -/

/-- The kernel's own scoped semaphores. -/
def osem (i : Fin 84) : SemLoc sig :=
  if h : i.val < 4 then .reg (show Fin 5 from ⟨i.val, by omega⟩) else .dma (show Fin 85 from ⟨i.val + 1, by omega⟩)

theorem osem_cred : ∀ j, ∃ i, osem i = .reg (credS j) := by decide
theorem osem_send : ∀ j b, ∃ i, osem i = .dma (sendS j b) := by decide
theorem osem_recv : ∀ j b, ∃ i, osem i = .dma (recvS j b) := by decide
theorem osem_out : ∀ t, ∃ i, osem i = .dma (outC t) := by decide
theorem osem_in : ∀ d, ∃ i, osem i = .dma (inS d) := by decide

def barEmb : Dev nD ↪ GSem nD τ sig := ⟨fun c => reg c barS, fun a b h => by
  have := congrArg (fun g => g.1.1) h; exact this⟩
theorem osem_inj : Function.Injective osem := fun a b h => by
  unfold osem at h
  apply Fin.ext
  by_cases ha : a.val < 4 <;> by_cases hb : b.val < 4
  · rw [dif_pos ha, dif_pos hb] at h
    have := congrArg Fin.val (SemLoc.reg.inj h); exact this
  · rw [dif_pos ha, dif_neg hb] at h; cases h
  · rw [dif_neg ha, dif_pos hb] at h; cases h
  · rw [dif_neg ha, dif_neg hb] at h
    have := congrArg Fin.val (SemLoc.dma.inj h)
    have : a.val + 1 = b.val + 1 := this
    omega
def ownEmb : Dev nD × Fin 84 ↪ GSem nD τ sig := ⟨fun p => ((p.1 : Thread nD τ), osem p.2), fun a b h => by
  have h1 : a.1 = b.1 := congrArg (fun g => g.1.1) h
  have h2 : osem a.2 = osem b.2 := congrArg (fun g => g.2) h
  exact Prod.ext h1 (osem_inj h2)⟩
def barCells : Finset (GSem nD τ sig) := Finset.univ.map barEmb
def ownCells : Finset (GSem nD τ sig) := Finset.univ.map ownEmb

theorem mem_bar (c : Dev nD) : reg c barS ∈ barCells ∪ ownCells :=
  Finset.mem_union_left _ (Finset.mem_map_of_mem barEmb (Finset.mem_univ c))
theorem mem_own (c : Dev nD) {sm : SemLoc sig} (h : ∃ i, osem i = sm) : ((c : Thread nD τ), sm) ∈ barCells ∪ ownCells := by
  obtain ⟨i, rfl⟩ := h
  exact Finset.mem_union_right _ (Finset.mem_map_of_mem ownEmb (Finset.mem_univ (c, i)))

variable (A : Args F) (K : GSem nD τ sig → ℕ) (κ : Key → ℕ)

def Ctx : sProp 𝕄 :=
  iprop((bigSep (barCells ∪ ownCells) fun g => cellInv ER (sched A) (K g) g)
    ∗ (bigSep Finset.univ fun k : Key => slotInv ES (κ k) k (rcvAny (F := F) k.1 k.2.1 k.2.2)) ∗ levAts L lv)

instance Ctx_persistent : BI.Persistent (Ctx A K κ) := by unfold Ctx; infer_instance

variable {A K κ}

theorem ctx_bar (c : Dev nD) : Ctx A K κ ⊢ cellInv ER (sched A) (K (reg c barS)) (reg c barS) := by
  unfold Ctx; exact sep_elim_left.trans (BI.bigSep_elim (Φ := fun g => cellInv ER (sched A) (K g) g) (mem_bar c))
theorem ctx_own (c : Dev nD) {sm : SemLoc sig} (h : ∃ i, osem i = sm) :
    Ctx A K κ ⊢ cellInv ER (sched A) (K ((c : Thread nD τ), sm)) ((c : Thread nD τ), sm) := by
  unfold Ctx; exact sep_elim_left.trans (BI.bigSep_elim (Φ := fun g => cellInv ER (sched A) (K g) g) (mem_own c h))
theorem ctx_slot (c : Dev nD) (j : Fin 4) (b : Fin 2) : Ctx A K κ ⊢ slotInv ES (κ (c, j, b)) (c, j, b) (rcvAny (F := F) c j b) := by

  unfold Ctx
  exact sep_elim_right.trans (sep_elim_left.trans
    (BI.bigSep_elim (Φ := fun k : Key => slotInv ES (κ k) k (rcvAny (F := F) k.1 k.2.1 k.2.2)) (Finset.mem_univ (c, j, b))))
theorem ctx_lev : Ctx A K κ ⊢ levAts L lv := by unfold Ctx; iintro ⟨-, -, H⟩; iexact H

theorem ctx_wait (c : Dev nD) (sm : SemLoc sig) (i : ℕ) (hi : i < 200) {O : Debt} (h : Above i O) :
    Ctx A K κ ⊢ MayWait (c : Thread nD τ) sm i O := ctx_lev.trans (mayWait c sm i hi h)

/-! ## Reading the tables and the arguments -/

def ringTab : BufTy.Contents (Elt F) ⟨S32, .i32⟩ := fun i => lit0 (S32.rowMajor i)
def posTab : BufTy.Contents (Elt F) ⟨S32, .i32⟩ := fun i => lit1 (S32.rowMajor i)

/-- Device `c`'s tables and arguments. -/
def RingPts (c : Dev nD) : sProp 𝕄 := ringR.view.loc (c : Thread nD τ) ↦[Finset.univ]{fullShare} (ringTab (F := F))
def Mem (A : Args F) (c : Dev nD) : sProp 𝕄 :=
  iprop(RingPts (F := F) c ∗ (xR.view.loc (c : Thread nD τ) ↦[Finset.univ]{fullShare} A.x c)
    ∗ (wR.view.loc (c : Thread nD τ) ↦[Finset.univ]{fullShare} A.w c))

variable {c : Dev nD}

theorem tabLoad_step {Q : PUnit.{1} → sProp 𝕄} (w : BitVec 32) (k : BitVec 32 → P F) :
    iprop(RingPts (F := F) c ∗ (RingPts (F := F) c -∗ Run c (k (devW (ringAt w.toInt))) Q)) ⊢ Run c (tabLoad w k) Q := by
  unfold tabLoad RingPts
  iintro ⟨H, Hk⟩
  iapply (wp_smemLoadElt (Val := Elt F) 𝒱₀ (c : Thread nD τ) none Set.univ (m := ringR) (r := tabRect w) (S := Finset.univ) (f := ringTab) (Finset.subset_univ _)) $$ H
  have e : (ringR.access (tabRect w)).read (Elt F) ringTab (Shape.Idx.first (numel1_S1.symm ▸ Nat.one_pos)) = devW (ringAt w.toInt) := by
    rw [← lit0_ix]
    show lit0 (S32.rowMajor ((tabRect w).emb _)) = lit0 (ix w.toInt)
    congr 1
    apply Fin.ext
    rw [Shape.rowMajor_val_one, ← fmod_index]
    rfl
  rw [e]
  iexact Hk

theorem part_eq (c : Dev nD) (j : Fin 4) (d : Dev nD) {o : Fin 2 → Nat} (ho : o = ![128 * d.val, 0])
    (hi : ∀ a, o a + S128x128.size a ≤ S4096x128.size a) :
    k0_pay2 ((xR.access (Rect.unit (s := S4096x128) o S128x128.size hi)).read (Elt F) (A.x c)) ((wR.access (colRect j)).read (Elt F) (A.w c))
      = A.part c j d := by
  subst ho; rfl

theorem chunk_step {Q : PUnit.{1} → sProp 𝕄} (j : Fin 4) (w : BitVec 32) (k : FVec F S128x2048 .f32 → P F) :
    iprop(Mem A c ∗ (Mem A c -∗ Run c (k (A.part c j (ringAt w.toInt))) Q)) ⊢ Run c (chunk j w k) Q := by
  unfold chunk Mem
  iintro ⟨⟨Hr, Hx, Hw⟩, Hk⟩
  iapply (tabLoad_step w)
  isplitl [Hr]; · iexact Hr
  iintro Hr
  iapply (wp_assume 𝒱₀ (c : Thread nD τ) none Set.univ (chk4 _))
  iapply (wp_load_rect (Val := Elt F) 𝒱₀ (c : Thread nD τ) none Set.univ (m := xR)
    (r := Rect.unit (s := S4096x128) (k0_off5 (devW (ringAt w.toInt))) S128x128.size (k0_off5_inb _ (chk4 _))) (S := Finset.univ) (f := A.x c) (Finset.subset_univ _)) $$ Hx
  iintro Hx
  iapply (wp_load_rect (Val := Elt F) 𝒱₀ (c : Thread nD τ) none Set.univ (m := wR) (r := colRect j) (S := Finset.univ) (f := A.w c) (Finset.subset_univ _)) $$ Hw
  iintro Hw
  have e : k0_pay2 ((xR.access (Rect.unit (s := S4096x128) (k0_off5 (devW (ringAt w.toInt))) S128x128.size (k0_off5_inb _ (chk4 _)))).read (Elt F) (A.x c))
      ((wR.access (colRect j)).read (Elt F) (A.w c)) = A.part c j (ringAt w.toInt) := by
    exact part_eq c j _ (off5_devW _) _
  rw [e]
  iapply Hk
  isplitl [Hr]; · iexact Hr
  isplitl [Hx] <;> iassumption

theorem own_step {Q : PUnit.{1} → sProp 𝕄} (j : Fin 4) (k : FVec F S128x2048 .f32 → P F) :
    iprop(Mem A c ∗ (Mem A c -∗ Run c (k (A.part c j c)) Q)) ⊢ Run c (own j c k) Q := by
  unfold own Mem
  iintro ⟨⟨Hr, Hx, Hw⟩, Hk⟩
  iapply (wp_load_rect (Val := Elt F) 𝒱₀ (c : Thread nD τ) none Set.univ (m := xR)
    (r := Rect.unit (s := S4096x128) (k0_off60 c) S128x128.size (k0_off60_inb c)) (S := Finset.univ) (f := A.x c) (Finset.subset_univ _)) $$ Hx
  iintro Hx
  iapply (wp_load_rect (Val := Elt F) 𝒱₀ (c : Thread nD τ) none Set.univ (m := wR) (r := colRect j) (S := Finset.univ) (f := A.w c) (Finset.subset_univ _)) $$ Hw
  iintro Hw
  have e : k0_pay2 ((xR.access (Rect.unit (s := S4096x128) (k0_off60 c) S128x128.size (k0_off60_inb c))).read (Elt F) (A.x c))
      ((wR.access (colRect j)).read (Elt F) (A.w c)) = A.part c j c := by
    exact part_eq c j _ (off60_eq _) _
  rw [e]
  iapply Hk
  isplitl [Hr]; · iexact Hr
  isplitl [Hx] <;> iassumption

/-! ## The copies and their waits -/

theorem recv_wait (c : Dev nD) (j : Fin 4) (b : Fin 2) (R : PUnit.{1} → sProp 𝕄) :
    wpE (defs₀ (F := F)) 𝒱₀ (c : Thread nD τ) none Set.univ
      (.waitDma2 (recvS j b) (slotM sndR j b) (slotM rcvR j b) (slotM_words sndR_whole j b) (slotM_words rcvR_whole j b)) R
      = waitSpec (c : Thread nD τ) Set.univ (.dma (recvS j b)) slotN R := by
  rw [← rcv_credit j b]; exact wpE_waitDma2_eq 𝒱₀ (c : Thread nD τ) none Set.univ R
theorem sent_wait (c : Dev nD) (j : Fin 4) (b : Fin 2) (R : PUnit.{1} → sProp 𝕄) :
    wpE (defs₀ (F := F)) 𝒱₀ (c : Thread nD τ) none Set.univ
      (.waitDma2 (sendS j b) (slotM rcvR j b) (slotM sndR j b) (slotM_words rcvR_whole j b) (slotM_words sndR_whole j b)) R
      = waitSpec (c : Thread nD τ) Set.univ (.dma (sendS j b)) slotN R := by
  rw [← snd_credit j b]; exact wpE_waitDma2_eq 𝒱₀ (c : Thread nD τ) none Set.univ R

/-- Nothing is left of the arrival of message `n` but the slot, its reading known. -/
theorem recv_step {Q : PUnit.{1} → sProp 𝕄} (j : Fin 4) (n : ℕ) (hn : n ≤ 30) {O : Debt} (hO : Above (2 * n + 3) O)
    {W : Waits sig ℕ} (k : FVec F S1x1x128x2048 .bf16 → P F) :
    iprop(Ctx A K κ ∗ cred (tallyAt (dma c (recvS j (par n))) (2 * n + 3) slotN) ∗ owes (c : Thread nD τ) O W
        ∗ atPos ER (dma c (recvS j (par n))) (n / 2) ∅ 0
        ∗ ((∃ W, owes (c : Thread nD τ) O W) ∗ atPos ER (dma c (recvS j (par n))) (n / 2 + 1) ∅ 0
            ∗ reached ER (dma c (recvS j (par n))) (n / 2 + 1) ∗ rcvAny c j (par n) ∗ Ride j n c
          -∗ Run c (k (A.msg n (frm j c) j)) Q))
      ⊢ Run c (recv j (par n) k) Q := by
  unfold recv
  iintro ⟨#Hx, Hc, HO, Hat, Hk⟩
  iapply (Rounds.wp_wait_rest_token 𝒱₀ ER (sched A) (c : Thread nD τ) none (κ := K (dma c (recvS j (par n))))
      (recv_wait c j (par n)) (Set.mem_univ _) (2 * n + 3) (k' := slotN) (O := O) (W := W) (R := n / 2) (m := 0) (T := ∅)
      ((Nat.zero_add slotN).trans (expect_recv A c j n hn).symm)) $$ [Hc HO Hat]
  · isplitr; · iapply (ctx_own c (osem_recv j (par n))); iexact Hx
    isplitl [Hc]; · iexact Hc
    isplitl [HO]; · iexact HO
    isplitr; · iapply (ctx_wait c _ (2 * n + 3) (by omega) hO); iexact Hx
    iexact Hat
  iintro ⟨HO, Hat, #Hr, Hpay⟩
  ihave Hp := (Entails.of_eq (rest_recv A c j n hn)) $$ Hpay
  unfold rcvAt
  icases Hp with ⟨⟨%f, Hs, %hf⟩, Hride⟩
  iapply (wp_load_rect (Val := Elt F) 𝒱₀ (c : Thread nD τ) none Set.univ (m := rcvR) (r := slotRect j (par n)) (Finset.Subset.refl _)) $$ Hs
  iintro Hs
  rw [hf]
  iapply Hk
  isplitl [HO]; · iexists _; iexact HO
  isplitl [Hat]; · iexact Hat
  isplitr; · iexact Hr
  isplitl [Hs]; · unfold rcvAny slot; iexists f; iexact Hs
  iexact Hride

/-- A send slot comes back once its copy has read it. -/
theorem sent_step {Q : PUnit.{1} → sProp 𝕄} (j : Fin 4) (n : ℕ) (hn : n ≤ 30) {O : Debt} (hO : Above 0 O) {W : Waits sig ℕ} (k : P F) :
    iprop(Ctx A K κ ∗ cred (tallyAt (dma c (sendS j (par n))) 0 slotN) ∗ owes (c : Thread nD τ) O W
        ∗ atPos ER (dma c (sendS j (par n))) (n / 2) ∅ 0
        ∗ ((∃ W, owes (c : Thread nD τ) O W) ∗ atPos ER (dma c (sendS j (par n))) (n / 2 + 1) ∅ 0
            ∗ reached ER (dma c (sendS j (par n))) (n / 2 + 1) ∗ sndAny c j (par n) -∗ Run c k Q))
      ⊢ Run c (sent j (par n) k) Q := by
  unfold sent
  iintro ⟨#Hx, Hc, HO, Hat, Hk⟩
  iapply (Rounds.wp_wait_rest_token 𝒱₀ ER (sched A) (c : Thread nD τ) none (κ := K (dma c (sendS j (par n))))
      (sent_wait c j (par n)) (Set.mem_univ _) 0 (k' := slotN) (O := O) (W := W) (R := n / 2) (m := 0) (T := ∅)
      ((Nat.zero_add slotN).trans (expect_send A c j n hn).symm)) $$ [Hc HO Hat]
  · isplitr; · iapply (ctx_own c (osem_send j (par n))); iexact Hx
    isplitl [Hc]; · iexact Hc
    isplitl [HO]; · iexact HO
    isplitr; · iapply (ctx_wait c _ 0 (by omega) hO); iexact Hx
    iexact Hat
  iintro ⟨HO, Hat, #Hr, Hpay⟩
  ihave Hp := (Entails.of_eq (rest_send A c j n hn)) $$ Hpay
  iapply Hk
  isplitl [HO]; · iexists _; iexact HO
  isplitl [Hat]; · iexact Hat
  isplitr; · iexact Hr
  iexact Hp

/-- A push to the device the kernel names by `n`. -/
theorem push_eq (j : Fin 4) (b : Fin 2) (k : P F) (d : Dev nD) : ∀ (n : Nbr), n.dev = d → push j b n k
    = .op (.enqueueDma (slotM sndR j b) (.remote (Dev.tc d) (slotM rcvR j b) (.dma (sendS j b))) (.dma (recvS j b))
        (slotM_words sndR_whole j b) (slotM_words rcvR_whole j b) ⟨⟨rfl, Or.inl rfl⟩, trivial⟩) fun _ => k := by
  rintro n rfl; rfl

/-- Message `n` put in its send slot and sent. -/
theorem send_step {Q : PUnit.{1} → sProp 𝕄} (j : Fin 4) (n : ℕ) (hn : n ≤ 30) {O : Debt} {W : Waits sig ℕ} (k : P F) :
    iprop(Ctx A K κ ∗ sndAny c j (par n) ∗ owes (c : Thread nD τ) (O + msgT c j n) W
        ∗ reached ER (dma c (sendS j (par n))) (n / 2) ∗ dutyTok ER (dma c (sendS j (par n))) (n / 2) 0
        ∗ reached ER (dma (nxt j c) (recvS j (par n))) (n / 2) ∗ dutyTok ER (dma (nxt j c) (recvS j (par n))) (n / 2) 0
        ∗ released ES (nxt j c, j, par n) (n / 2 + 1) ∗ writeTok ES (nxt j c, j, par n) (n / 2 + 1) ∗ Ride j n (nxt j c)
        ∗ ((∃ W, owes (c : Thread nD τ) O W) ∗ cred (tallyAt (dma c (sendS j (par n))) 0 slotN) -∗ Run c k Q))
      ⊢ Run c (fill j (par n) (A.msg n c j) (push j (par n) (nbr (nxt j c)) k)) Q := by
  rw [push_eq j (par n) k (nxt j c) _ (nbr_dev _)]
  unfold fill sndAny slot
  iintro ⟨#Hx, ⟨%f, Hs⟩, HO, #Hr1, Ht1, #Hr2, Ht2, #Hrel, Hwt, Hride, Hk⟩
  iapply (wp_load_rect (Val := Elt F) 𝒱₀ (c : Thread nD τ) none Set.univ (m := sndR) (r := slotRect j (par n)) (Finset.Subset.refl _)) $$ Hs
  iintro Hs
  iapply (wp_store (Val := Elt F) 𝒱₀ (c : Thread nD τ) none Set.univ (m := sndR) (r := slotRect j (par n)) (Mk := Finset.univ)
    (S := (sndR.access (slotRect j (par n))).set) (Finset.Subset.refl _)) $$ Hs
  iintro Hs
  imod (slot_take ES (Set.mem_univ (κ (nxt j c, j, par n))) (n / 2 + 1)) $$ [Hwt] with Hd
  · isplitr; · iapply (ctx_slot (nxt j c) j (par n)); iexact Hx
    isplitr; · iexact Hrel
    iexact Hwt
  unfold rcvAny slot
  icases Hd with ⟨%g, Hd⟩
  iapply (Rounds.wp_send_pointsTo_with 𝒱₀ ER (sched A) (c : Thread nD τ) none (c' := (nxt j c : Thread nD τ)) (src := slotM sndR j (par n)) (dst := slotM rcvR j (par n))
      (sS := .dma (sendS j (par n))) (sem := .dma (recvS j (par n))) (q := fullShare)
      (fs := (sndR.access (slotRect j (par n))).write (Elt F) f (A.msg n c j) Finset.univ) (fd := g) (F := Ride j n (nxt j c))
      (κ₁ := K (dma c (sendS j (par n)))) (κ₂ := K (dma (nxt j c) (recvS j (par n))))
      (r₁ := n / 2) (r₂ := n / 2) (d₁ := 0) (d₂ := 0)
      (by rw [duties_send A c j n hn]; exact Finset.mem_singleton_self _) (by rw [duties_recv A (nxt j c) j n hn]; exact Finset.mem_singleton_self _)
      (2 * n + 3) 0 slotN rfl (amount_send A c j (par n) _ _) (amount_recv A (nxt j c) j (par n) _ _) O rfl (W := W)
      (by rw [payload_send, slotM_set]; unfold sndAny slot; iintro H; iexists _; iexact H)
      (by
        rw [payload_recv, slotM_set, frm_nxt]; unfold rcvAt
        iintro ⟨H, Hr⟩
        isplitl [H]
        · iexists _; isplitl [H]; · iexact H
          ipureintro
          exact (slot_copied j (par n) g _).trans (View.read_write_univ _ _)
        · iexact Hr)) $$ [Hs Hd Hride HO Ht1 Ht2]
  · isplitr; · iapply (ctx_own c (osem_send j (par n))); iexact Hx
    isplitr; · iapply (ctx_own (nxt j c) (osem_recv j (par n))); iexact Hx
    rw [slotM_set, slotM_set]
    isplitl [Hs]; · iexact Hs
    isplitl [Hd Hride]
    · isplitl [Hd]; · iexact Hd
      iexact Hride
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  iexact Hc

end Cert.KernelIdeal.Ring

end
-- ==== Proof.Stream.lean ====
/- One stream's part of a hop. -/
module

public import proofs.«01_k».proof.Proof.Steps
public import Idealize.SL.BI.BigOpNat

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ

theorem par_two (n : ℕ) : par (n + 2) = par n := Fin.ext (by show (n + 2) % 2 = n % 2; omega)
theorem par_even {n : ℕ} (h : n % 2 = 0) : par n = 0 := Fin.ext h
theorem par_odd {n : ℕ} (h : n % 2 = 1) : par n = 1 := Fin.ext h

/-! ## The state of a stream -/

variable (c : Dev nD) (j : Fin 4)

/-- The device owes `O`, whatever it has waited at. -/
def Owes (O : Debt) : sProp 𝕄 := iprop(∃ W, owes (c : Thread nD τ) O W)

/-- Slot `par n` of device `x` may be filled with message `n`. -/
def Ok (n : ℕ) (x : Dev nD) : sProp 𝕄 :=
  iprop(released ES (x, j, par n) (n / 2 + 1) ∗ reached ER (dma x (recvS j (par n))) (n / 2))
instance Ok_persistent (n : ℕ) (x : Dev nD) : BI.Persistent (Ok j n x : sProp 𝕄) := by unfold Ok; infer_instance

/-- The tokens for the arrivals from message `n` on. -/
def Coming (n : ℕ) : sProp 𝕄 := bigSep (Finset.Ico n 31) fun m => cred (tallyAt (dma c (recvS j (par m))) (2 * m + 3) slotN)

/-- Before message `n` is received. -/
def Rcv (n : ℕ) : sProp 𝕄 :=
  iprop(atPos ER (dma c (recvS j (par n))) (n / 2) ∅ 0 ∗ atPos ER (dma c (recvS j (par (n + 1)))) ((n + 1) / 2) ∅ 0
    ∗ readerAt ES (c, j, par n) (n / 2 + 1) ∗ readerAt ES (c, j, par (n + 1)) ((n + 1) / 2 + 1)
    ∗ Ok j (n + 1) c ∗ Coming c j n)
/-- After message `n` is received, its slot not yet given back. -/
def Got (n : ℕ) : sProp 𝕄 :=
  iprop(atPos ER (dma c (recvS j (par n))) (n / 2 + 1) ∅ 0 ∗ reached ER (dma c (recvS j (par n))) (n / 2 + 1)
    ∗ rcvAny c j (par n) ∗ atPos ER (dma c (recvS j (par (n + 1)))) ((n + 1) / 2) ∅ 0
    ∗ readerAt ES (c, j, par n) (n / 2 + 1) ∗ readerAt ES (c, j, par (n + 1)) ((n + 1) / 2 + 1)
    ∗ Ok j (n + 1) c ∗ Coming c j (n + 1))

/-- Message `n` sent, its slot not yet known to be read. -/
def Flying (n : ℕ) : sProp 𝕄 :=
  iprop(atPos ER (dma c (sendS j (par n))) (n / 2) ∅ 0 ∗ cred (tallyAt (dma c (sendS j (par n))) 0 slotN))
/-- The slot of message `n` is free. -/
def Idle (n : ℕ) : sProp 𝕄 :=
  iprop(sndAny c j (par n) ∗ atPos ER (dma c (sendS j (par n))) (n / 2) ∅ 0 ∗ reached ER (dma c (sendS j (par n))) (n / 2))

/-- What is used up by sending message `n`; from message `n` on. -/
def Tok (n : ℕ) : sProp 𝕄 :=
  iprop(dutyTok ER (dma c (sendS j (par n))) (n / 2) 0 ∗ dutyTok ER (dma (nxt j c) (recvS j (par n))) (n / 2) 0
    ∗ writeTok ES (nxt j c, j, par n) (n / 2 + 1))
def Toks (n : ℕ) : sProp 𝕄 := bigSep (Finset.Ico n 31) (Tok c j)
/-- The credits to be paid from the `n`-th on. -/
def Dues (n : ℕ) : sProp 𝕄 :=
  iprop(reached ER (reg (frm j c) (credS j)) 0 ∗ bigSep (Finset.Ico n 30) fun k => dutyTok ER (reg (frm j c) (credS j)) 0 k)
/-- After `a` credits have come. -/
def Crd (a : ℕ) : sProp 𝕄 :=
  iprop(∃ T : Finset ℕ, atPos ER (reg c (credS j)) 0 T a ∗ ⌜T ⊆ Finset.Icc 1 29 ∧ a ≤ T.card⌝
    ∗ bigSep T (fun k => Freed j k (nxt j c)) ∗ bigSep (Finset.Ico (a + 1) 30) fun k => cred (tallyAt (reg c (credS j)) (2 * k + 2) 1))
/-- The own rows not yet sent along. -/
def Mine (n : ℕ) : sProp 𝕄 := if j = 0 then bigSep (Finset.Ico n 31) (fun m => Row c (chunkDev 0 m c)) else iprop(emp)

variable {c j}

theorem freed_intro (n : ℕ) (x : Dev nD) :
    iprop(Ok j (n + 2) x ∗ Ok j (n + 1) x) ⊢ (Freed j (n + 1) x : sProp 𝕄) := by
  unfold Ok Freed
  rw [par_two]
  rcases Nat.mod_two_eq_zero_or_one n with h | h
  · rw [par_even h, par_odd (n := n + 1) (by omega)]
  · rw [par_odd h, par_even (n := n + 1) (by omega), show (n + 1 + 1) / 2 = (n + 2) / 2 by omega, show (n + 2) / 2 = (n + 1) / 2 by omega]
    exact sep_comm.1

theorem freed_elim (n k : ℕ) (h : n ≤ k + 1) (x : Dev nD) : (Freed j k x : sProp 𝕄) ⊢ Ok j n x := by
  unfold Ok Freed
  rcases Nat.mod_two_eq_zero_or_one n with e | e
  · rw [par_even e]
    exact sep_elim_left.trans (BIClass.sep_mono (released_mono ES (by omega)) (reached_mono ER (by omega)))
  · rw [par_odd e]
    exact sep_elim_right.trans (BIClass.sep_mono (released_mono ES (by omega)) (reached_mono ER (by omega)))

theorem exists_le_of_card {T : Finset ℕ} {a : ℕ} (h : T ⊆ Finset.Icc 1 29) (ha : a + 1 ≤ T.card) : ∃ k ∈ T, a + 1 ≤ k := by
  by_contra hc
  have hs : T ⊆ Finset.Icc 1 a := fun k hk => by
    have h1 := Finset.mem_Icc.mp (h hk)
    refine Finset.mem_Icc.mpr ⟨h1.1, ?_⟩
    by_contra h2
    exact hc ⟨k, hk, by omega⟩
  have := Finset.card_le_card hs
  rw [Nat.card_Icc] at this
  omega

theorem bigSep_from_one (b : ℕ) (Φ : ℕ → sProp 𝕄) : bigSep (Finset.Ico (0 + 1) (b + 1)) Φ = bigSep (Finset.Ico 0 b) fun i => Φ (i + 1) := by
  have h : Finset.Ico (0 + 1) (b + 1) = (Finset.Ico 0 b).map (addRightEmbedding 1) := by
    ext x
    rw [Finset.mem_map, Finset.mem_Ico]
    constructor
    · intro h
      exact ⟨x - 1, Finset.mem_Ico.mpr (by omega), by show x - 1 + 1 = x; omega⟩
    · rintro ⟨y, hy, rfl⟩
      have := Finset.mem_Ico.mp hy
      show 0 + 1 ≤ y + 1 ∧ y + 1 < b + 1
      omega
  rw [h, bigSep_map]; rfl

theorem bigSep_join {T S : Finset ℕ} (h : T ⊆ S) {Φ : ℕ → sProp 𝕄} : iprop(bigSep T Φ ∗ bigSep (S \ T) Φ) ⊢ bigSep S Φ := by
  refine Entails.of_eq ?_
  conv_rhs => rw [← Finset.union_sdiff_of_subset h, BI.bigSep_union Finset.disjoint_sdiff]
  rfl

theorem ride_zero : (Mine c j 0 : sProp 𝕄) ⊢ iprop(Ride j 0 (nxt j c) ∗ Mine c j 1) := by
  unfold Mine Ride
  split
  · next h =>
    subst h
    rw [bigSep_Ico_succ_bot (by decide)]
    refine sep_mono_left (Entails.of_eq ?_)
    unfold Extra
    rw [Finset.range_one, bigSep_singleton]
    unfold chunkDev nxt
    rw [turn_turn, turn_turn]
    congr 1
    conv_lhs => rw [← turn_zero c]
    rfl
  · iintro -; isplitr <;> iempintro

theorem extra_succ (n : ℕ) (c : Dev nD) :
    (Extra (n + 1) (nxt 0 c) : sProp 𝕄) = iprop(Row c (chunkDev 0 (n + 1) c) ∗ Extra n c) := by
  unfold Extra
  have e1 : (Row (turn (-(1 + ((0 : ℕ) : ℤ))) (nxt 0 c)) (turn (-(((n + 1 : ℕ) : ℤ) + 2)) (nxt 0 c)) : sProp 𝕄) = Row c (chunkDev 0 (n + 1) c) := by
    unfold chunkDev nxt
    rw [turn_turn, turn_turn]
    congr 1
    · conv_rhs => rw [← turn_zero c]
      rfl
    · apply turn_congr
      show (1 + -(((n + 1 : ℕ) : ℤ) + 2)) % 32 = (-(1 * (1 + ((n + 1 : ℕ) : ℤ)))) % 32
      omega
  have e2 : ∀ i : ℕ, (Row (turn (-(1 + ((i + 1 : ℕ) : ℤ))) (nxt 0 c)) (turn (-(((n + 1 : ℕ) : ℤ) + 2)) (nxt 0 c)) : sProp 𝕄)
      = Row (turn (-(1 + (i : ℤ))) c) (turn (-((n : ℤ) + 2)) c) := fun i => by
    unfold nxt
    rw [turn_turn, turn_turn]
    have h1 : turn (dir 0 + -(1 + ((i + 1 : ℕ) : ℤ))) c = turn (-(1 + (i : ℤ))) c :=
      turn_congr (by show (1 + -(1 + ((i + 1 : ℕ) : ℤ))) % 32 = _; omega) c
    have h2 : turn (dir 0 + -(((n + 1 : ℕ) : ℤ) + 2)) c = turn (-((n : ℤ) + 2)) c :=
      turn_congr (by show (1 + -(((n + 1 : ℕ) : ℤ) + 2)) % 32 = _; omega) c
    rw [h1, h2]
  rw [Finset.range_eq_Ico, bigSep_Ico_succ_bot (a := 0) (b := n + 1 + 1) (by omega), bigSep_from_one, e1, bigSep_congr (fun i _ => e2 i), ← Finset.range_eq_Ico]

theorem ride_succ (n : ℕ) (hn : n + 1 < 31) :
    iprop(Ride j n c ∗ Mine c j (n + 1)) ⊢ (iprop(Ride j (n + 1) (nxt j c) ∗ Mine c j (n + 2)) : sProp 𝕄) := by
  unfold Mine Ride
  split
  · next h =>
    subst h
    rw [bigSep_Ico_succ_bot hn, extra_succ]
    iintro ⟨H1, H2, H3⟩
    isplitl [H1 H2]
    · isplitl [H2]; · iexact H2
      iexact H1
    iexact H3
  · iintro -; isplitr <;> iempintro

theorem rcvAny_twice (c : Dev nD) (j : Fin 4) (b : Fin 2) : iprop(rcvAny c j b ∗ rcvAny c j b) ⊢ (False : sProp 𝕄) := by
  unfold rcvAny; exact slot_slot_false (View.set_nonempty (show 0 < S1x1x128x2048.numel by decide))

variable {A : Args F} {K : GSem nD τ sig → ℕ} {κ : Key → ℕ}

/-! ## The signals and the waits for them -/

theorem signal_eq (s : Sem sig) (k : P F) (d : Dev nD) : ∀ (n : Nbr), n.dev = d → signal n s k
    = .op (.semSignal (d : Thread nD τ) s ((1 : ℕ) : ℤ)) fun _ => k := by
  rintro n rfl; rfl
theorem await_one (s : Sem sig) (k : P F) : await s 1#32 k = .op (.semWait s ((1 : ℕ) : ℤ)) fun _ => k := rfl

theorem credit_step {Q : PUnit.{1} → sProp 𝕄} (n : ℕ) (hn : n + 1 ≤ 29) {O : Debt} (k : P F) :
    iprop(Ctx A K κ ∗ Got c j n ∗ Dues c j (n + 1) ∗ Owes c (O + creditT c j (n + 1))
        ∗ (Rcv c j (n + 1) ∗ Dues c j (n + 2) ∗ Owes c O -∗ Run c k Q))
      ⊢ Run c (signal (nbr (frm j c)) (credS j) k) Q := by
  rw [signal_eq (credS j) k (frm j c) _ (nbr_dev _)]
  unfold Got Dues Owes
  rw [bigSep_Ico_succ_bot (by omega)]
  iintro ⟨#Hx, ⟨Hat, #Hr, Hs, Hat', Hrd, Hrd', #Hok, Hcm⟩, ⟨#Hcr, Ht, Hts⟩, ⟨%W, HO⟩, Hk⟩
  imod (slot_release ES (Set.mem_univ (κ (c, j, par n))) (rcvAny_twice c j (par n)) (n / 2 + 1)) $$ [Hrd Hs] with ⟨Hrd, #Hrel⟩
  · isplitr; · iapply (ctx_slot c j (par n)); iexact Hx
    isplitl [Hrd]; · iexact Hrd
    iexact Hs
  ihave #Hok' : Ok j (n + 2) c $$ []
  · unfold Ok
    rw [par_two, show (n + 2) / 2 = n / 2 + 1 by omega]
    isplitr; · iexact Hrel
    iexact Hr
  iapply (Rounds.wp_signal 𝒱₀ ER (sched A) (c : Thread nD τ) none (dst := (frm j c : Thread nD τ)) (sem := credS j) (r := 0) (d := n + 1)
    (κ := K (reg (frm j c) (credS j)))
    (by rw [duties_cred]; exact Finset.mem_Icc.mpr ⟨by omega, by omega⟩) (amount_cred A (frm j c) j 0 (n + 1)) (2 * (n + 1) + 2)
    (O₀ := O + creditT c j (n + 1)) O
    (by unfold creditT; rw [if_pos ⟨by omega, by omega⟩])) $$ [HO Ht]
  · isplitr; · iapply (ctx_own (frm j c) (osem_cred j)); iexact Hx
    isplitl [HO]; · iexact HO
    isplitl [Ht]; · iexact Ht
    isplitr
    · rw [payload_cred, nxt_frm]; iapply (freed_intro n c)
      isplitr; · iexact Hok'
      iexact Hok
    iexact Hcr
  iintro HO
  iapply Hk
  isplitl [Hat Hat' Hrd Hrd' Hcm]
  · unfold Rcv
    rw [par_two, show (n + 1 + 1) / 2 = n / 2 + 1 by omega]
    isplitl [Hat']; · iexact Hat'
    isplitl [Hat]; · iexact Hat
    isplitl [Hrd']; · iexact Hrd'
    isplitl [Hrd]; · iexact Hrd
    isplitr; · iexact Hok'
    iexact Hcm
  isplitr [HO]
  · isplitr; · iexact Hcr
    iexact Hts
  iexists W; iexact HO

theorem await_step {Q : PUnit.{1} → sProp 𝕄} (a : ℕ) (ha : a + 1 ≤ 29) {O : Debt} (hO : Above (2 * (a + 1) + 2) O) (k : P F) :
    iprop(Ctx A K κ ∗ Crd c j a ∗ Owes c O
        ∗ (Crd c j (a + 1) ∗ Ok j (a + 2) (nxt j c) ∗ Owes c O -∗ Run c k Q))
      ⊢ Run c (await (credS j) 1#32 k) Q := by
  rw [await_one]
  unfold Crd Owes
  rw [bigSep_Ico_succ_bot (by omega)]
  iintro ⟨#Hx, ⟨%T, Hat, %hT, #HF, Hc, Hcs⟩, ⟨%W, HO⟩, Hk⟩
  iapply (Rounds.wp_wait 𝒱₀ ER (sched A) (c : Thread nD τ) none (κ := K (reg c (credS j))) (k' := 1)
    (wpE_semWait_eq 𝒱₀ (c : Thread nD τ) none Set.univ) (Set.mem_univ _) (cr := Finsupp.single (2 * (a + 1) + 2) 1) (O := O) (W := W)
    {(SemLoc.reg (credS j), 2 * (a + 1) + 2)} (R := 0) (m := a) (T := T) (by rw [Util.total_single])
    (image_single_subset (SemLoc.reg (credS j)) (2 * (a + 1) + 2) 1)) $$ [Hc HO Hat]
  · isplitr; · iapply (ctx_own c (osem_cred j)); iexact Hx
    isplitl [Hc]; · iexact Hc
    isplitl [HO]; · iexact HO
    isplitr; · iapply (ctx_wait c _ (2 * (a + 1) + 2) (by omega) hO); iexact Hx
    iexact Hat
  iintro %S ⟨%hS, HO, Hat, HF'⟩
  obtain ⟨h1, h2, h3⟩ := hS
  rw [duties_cred] at h2 h3
  rw [expect_cred] at h3
  have hc : a + 1 ≤ S.card := by
    have := Finset.card_sdiff_add_card_eq_card h2
    rw [Nat.card_Icc] at this
    omega
  obtain ⟨i, hi, hai⟩ := exists_le_of_card h2 hc
  ihave HS : bigSep S (fun k => Freed j k (nxt j c)) $$ [HF']
  · iapply (bigSep_join h1)
    isplitr; · iexact HF
    iapply (show bigSep (S \ T) (fun d => (sched A).payload (reg c (credS j)) 0 d) ⊢ (bigSep (S \ T) (fun k => Freed j k (nxt j c)) : sProp 𝕄) from
      Entails.of_eq (bigSep_congr fun k _ => payload_cred A c j k))
    iexact HF'
  icases HS with #HS
  iapply Hk
  isplitl [Hat Hcs]
  · iexists S
    isplitl [Hat]; · iexact Hat
    isplitr; · ipureintro; exact ⟨h2, hc⟩
    isplitr; · iexact HS
    iexact Hcs
  isplitr
  · iapply (show bigSep S (fun k => Freed j k (nxt j c)) ⊢ (Ok j (a + 2) (nxt j c) : sProp 𝕄) from
      (BI.bigSep_elim (Φ := fun k => Freed j k (nxt j c)) hi).trans (freed_elim (a + 2) i (by omega) (nxt j c)))
    iexact HS
  iexists _; iexact HO

/-! ## The steps on the state -/

theorem got_step {Q : PUnit.{1} → sProp 𝕄} (n : ℕ) (hn : n ≤ 30) {O : Debt} (hO : Above (2 * n + 3) O)
    (k : FVec F S1x1x128x2048 .bf16 → P F) :
    iprop(Ctx A K κ ∗ Rcv c j n ∗ Owes c O ∗ (Got c j n ∗ Ride j n c ∗ Owes c O -∗ Run c (k (A.msg n (frm j c) j)) Q))
      ⊢ Run c (recv j (par n) k) Q := by
  unfold Rcv Coming Owes
  rw [bigSep_Ico_succ_bot (by omega)]
  iintro ⟨#Hx, ⟨Hat, Hat', Hrd, Hrd', Hok, Hc, Hcs⟩, ⟨%W, HO⟩, Hk⟩
  iapply (recv_step j n hn hO (W := W) k)
  isplitr; · iexact Hx
  isplitl [Hc]; · iexact Hc
  isplitl [HO]; · iexact HO
  isplitl [Hat]; · iexact Hat
  iintro ⟨HO, Hat, Hr, Hs, Hride⟩
  iapply Hk
  isplitr [HO Hride]
  · unfold Got Coming
    isplitl [Hat]; · iexact Hat
    isplitl [Hr]; · iexact Hr
    isplitl [Hs]; · iexact Hs
    isplitl [Hat']; · iexact Hat'
    isplitl [Hrd]; · iexact Hrd
    isplitl [Hrd']; · iexact Hrd'
    isplitl [Hok]; · iexact Hok
    iexact Hcs
  isplitl [Hride]; · iexact Hride
  iexact HO

theorem idle_step {Q : PUnit.{1} → sProp 𝕄} (n : ℕ) (hn : n ≤ 30) {O : Debt} (hO : Above 0 O) (k : P F) :
    iprop(Ctx A K κ ∗ Flying c j n ∗ Owes c O ∗ (Idle c j (n + 2) ∗ Owes c O -∗ Run c k Q)) ⊢ Run c (sent j (par n) k) Q := by
  unfold Flying Owes
  iintro ⟨#Hx, ⟨Hat, Hc⟩, ⟨%W, HO⟩, Hk⟩
  iapply (sent_step j n hn hO (W := W) k)
  isplitr; · iexact Hx
  isplitl [Hc]; · iexact Hc
  isplitl [HO]; · iexact HO
  isplitl [Hat]; · iexact Hat
  iintro ⟨HO, Hat, Hr, Hs⟩
  iapply Hk
  isplitr [HO]
  · unfold Idle
    rw [par_two, show (n + 2) / 2 = n / 2 + 1 by omega]
    isplitl [Hs]; · iexact Hs
    isplitl [Hat]; · iexact Hat
    iexact Hr
  iexact HO

theorem put_step {Q : PUnit.{1} → sProp 𝕄} (n : ℕ) (hn : n ≤ 30) {O : Debt} (k : P F) :
    iprop(Ctx A K κ ∗ Idle c j n ∗ Ok j n (nxt j c) ∗ Toks c j n ∗ Ride j n (nxt j c) ∗ Owes c (O + msgT c j n)
        ∗ (Flying c j n ∗ Toks c j (n + 1) ∗ Owes c O -∗ Run c k Q))
      ⊢ Run c (fill j (par n) (A.msg n c j) (push j (par n) (nbr (nxt j c)) k)) Q := by
  unfold Toks Owes Idle Ok Tok
  rw [bigSep_Ico_succ_bot (by omega)]
  iintro ⟨#Hx, ⟨Hs, Hat, Hr⟩, ⟨Hrel, Hr'⟩, ⟨⟨Ht1, Ht2, Hwt⟩, Hts⟩, Hride, ⟨%W, HO⟩, Hk⟩
  iapply (send_step j n hn (W := W) (O := O) k)
  isplitr; · iexact Hx
  isplitl [Hs]; · iexact Hs
  isplitl [HO]; · iexact HO
  isplitl [Hr]; · iexact Hr
  isplitl [Ht1]; · iexact Ht1
  isplitl [Hr']; · iexact Hr'
  isplitl [Ht2]; · iexact Ht2
  isplitl [Hrel]; · iexact Hrel
  isplitl [Hwt]; · iexact Hwt
  isplitl [Hride]; · iexact Hride
  iintro ⟨HO, Hc⟩
  iapply Hk
  isplitl [Hat Hc]
  · unfold Flying
    isplitl [Hat]; · iexact Hat
    iexact Hc
  isplitl [Hts]; · iexact Hts
  iexact HO

/-! ## One stream's part of a hop -/

variable (c j)
/-- Before hop 1. -/
def St1 : sProp 𝕄 :=
  iprop(Rcv c j 0 ∗ Flying c j 0 ∗ Idle c j 1 ∗ Toks c j 1 ∗ Dues c j 1 ∗ Crd c j 0 ∗ Mine c j 1 ∗ Ok j 1 (nxt j c))
/-- Before hop `m + 2`. -/
def St (m : ℕ) : sProp 𝕄 :=
  iprop(Rcv c j (m + 1) ∗ Flying c j (m + 1) ∗ Flying c j m ∗ Toks c j (m + 2) ∗ Dues c j (m + 2) ∗ Crd c j m ∗ Mine c j (m + 2))
/-- After hop 30. -/
def StEnd : sProp 𝕄 := iprop(Got c j 29 ∗ Flying c j 30 ∗ Flying c j 29 ∗ Crd c j 29)
variable {c j}

theorem stream_one {Q : PUnit.{1} → sProp 𝕄} {O : Debt} (hO : Above 3 O) (k : P F) :
    iprop(Ctx A K κ ∗ St1 c j ∗ Owes c (O + (msgT c j 1 + creditT c j 1)) ∗ (St c j 0 ∗ Owes c O -∗ Run c k Q))
      ⊢ Run c (stream j 0 1 true false (nbr (turn (-1) c)) (nbr (turn 1 c)) (A.part c j (chunkDev j 1 c)) k) Q := by
  unfold stream St1
  rw [prodN_nbr, consN_nbr]
  simp only [cond_true, cond_false, id]
  iintro ⟨#Hx, ⟨Hrcv, Hfl, Hid, Hts, Hdu, Hcrd, Hmi, #Hok⟩, HO, Hk⟩
  iapply (got_step (j := j) 0 (by decide) (hO.add (hopT_above c j 1 (by decide))))
  isplitr; · iexact Hx
  isplitl [Hrcv]; · iexact Hrcv
  isplitl [HO]; · iexact HO
  iintro ⟨Hgot, Hride, HO⟩
  ihave Hrm := (ride_succ 0 (by decide)) $$ [Hride Hmi]
  · isplitl [Hride] <;> iassumption
  icases Hrm with ⟨Hride, Hmi⟩
  iapply (credit_step (j := j) 0 (by decide) (O := O + msgT c j 1))
  isplitr; · iexact Hx
  isplitl [Hgot]; · iexact Hgot
  isplitl [Hdu]; · iexact Hdu
  isplitl [HO]; · rw [add_assoc]; iexact HO
  iintro ⟨Hrcv, Hdu, HO⟩
  iapply (put_step (j := j) 1 (by decide) (O := O))
  isplitr; · iexact Hx
  isplitl [Hid]; · iexact Hid
  isplitr; · iexact Hok
  isplitl [Hts]; · iexact Hts
  isplitl [Hride]; · iexact Hride
  isplitl [HO]; · iexact HO
  iintro ⟨Hfl', Hts, HO⟩
  iapply Hk
  isplitr [HO]
  · unfold St
    isplitl [Hrcv]; · iexact Hrcv
    isplitl [Hfl']; · iexact Hfl'
    isplitl [Hfl]; · iexact Hfl
    isplitl [Hts]; · iexact Hts
    isplitl [Hdu]; · iexact Hdu
    isplitl [Hcrd]; · iexact Hcrd
    iexact Hmi
  iexact HO

theorem stream_mid {Q : PUnit.{1} → sProp 𝕄} (m : ℕ) (hm : m ≤ 27) {O : Debt} (hO : Above (2 * (m + 2) + 1) O) (k : P F) :
    iprop(Ctx A K κ ∗ St c j m ∗ Owes c (O + (msgT c j (m + 2) + creditT c j (m + 2))) ∗ (St c j (m + 1) ∗ Owes c O -∗ Run c k Q))
      ⊢ Run c (stream j (par (m + 1)) (par m) true true (nbr (turn (-1) c)) (nbr (turn 1 c)) (A.part c j (chunkDev j (m + 2) c)) k) Q := by
  unfold stream St
  rw [prodN_nbr, consN_nbr]
  simp only [cond_true, cond_false, id]
  iintro ⟨#Hx, ⟨Hrcv, Hfl, Hfl', Hts, Hdu, Hcrd, Hmi⟩, HO, Hk⟩
  iapply (got_step (j := j) (m + 1) (by omega) (hO.add (hopT_above c j (m + 2) (by omega))))
  isplitr; · iexact Hx
  isplitl [Hrcv]; · iexact Hrcv
  isplitl [HO]; · iexact HO
  iintro ⟨Hgot, Hride, HO⟩
  ihave Hrm := (ride_succ (m + 1) (by omega)) $$ [Hride Hmi]
  · isplitl [Hride] <;> iassumption
  icases Hrm with ⟨Hride, Hmi⟩
  iapply (credit_step (j := j) (m + 1) (by omega) (O := O + msgT c j (m + 2)))
  isplitr; · iexact Hx
  isplitl [Hgot]; · iexact Hgot
  isplitl [Hdu]; · iexact Hdu
  isplitl [HO]; · rw [add_assoc]; iexact HO
  iintro ⟨Hrcv, Hdu, HO⟩
  have hO' : Above (2 * (m + 2) + 1) (O + msgT c j (m + 2)) := hO.add (msgT_above c j (m + 2) (by omega))
  iapply (await_step (j := j) m (by omega) (hO'.mono (by omega)))
  isplitr; · iexact Hx
  isplitl [Hcrd]; · iexact Hcrd
  isplitl [HO]; · iexact HO
  iintro ⟨Hcrd, Hok, HO⟩
  iapply (idle_step (j := j) m (by omega) (hO'.mono (by omega)))
  isplitr; · iexact Hx
  isplitl [Hfl']; · iexact Hfl'
  isplitl [HO]; · iexact HO
  iintro ⟨Hid, HO⟩
  rw [← par_two m]
  iapply (put_step (j := j) (m + 2) (by omega) (O := O))
  isplitr; · iexact Hx
  isplitl [Hid]; · iexact Hid
  isplitl [Hok]; · iexact Hok
  isplitl [Hts]; · iexact Hts
  isplitl [Hride]; · iexact Hride
  isplitl [HO]; · iexact HO
  iintro ⟨Hfl', Hts, HO⟩
  iapply Hk
  isplitr [HO]
  · isplitl [Hrcv]; · iexact Hrcv
    isplitl [Hfl']; · iexact Hfl'
    isplitl [Hfl]; · iexact Hfl
    isplitl [Hts]; · iexact Hts
    isplitl [Hdu]; · iexact Hdu
    isplitl [Hcrd]; · iexact Hcrd
    iexact Hmi
  iexact HO

theorem stream_last {Q : PUnit.{1} → sProp 𝕄} {O : Debt} (hO : Above 61 O) (k : P F) :
    iprop(Ctx A K κ ∗ St c j 28 ∗ Owes c (O + (msgT c j 30 + creditT c j 30)) ∗ (StEnd c j ∗ Owes c O -∗ Run c k Q))
      ⊢ Run c (stream j 1 0 false true (nbr (turn (-1) c)) (nbr (turn 1 c)) (A.part c j (chunkDev j 30 c)) k) Q := by
  unfold stream St
  rw [prodN_nbr, consN_nbr, show creditT c j 30 = 0 from rfl, add_zero]
  simp only [cond_true, cond_false, id]
  have hO' : Above 61 (O + msgT c j 30) := hO.add (msgT_above c j 30 (by decide))
  iintro ⟨#Hx, ⟨Hrcv, Hfl, Hfl', Hts, -, Hcrd, Hmi⟩, HO, Hk⟩
  iapply (got_step (j := j) 29 (by decide) hO')
  isplitr; · iexact Hx
  isplitl [Hrcv]; · iexact Hrcv
  isplitl [HO]; · iexact HO
  iintro ⟨Hgot, Hride, HO⟩
  ihave Hrm := (ride_succ 29 (by decide)) $$ [Hride Hmi]
  · isplitl [Hride] <;> iassumption
  icases Hrm with ⟨Hride, -⟩
  iapply (await_step (j := j) 28 (by decide) (hO'.mono (by decide)))
  isplitr; · iexact Hx
  isplitl [Hcrd]; · iexact Hcrd
  isplitl [HO]; · iexact HO
  iintro ⟨Hcrd, Hok, HO⟩
  iapply (idle_step (j := j) 28 (by decide) (hO'.mono (by decide)))
  isplitr; · iexact Hx
  isplitl [Hfl']; · iexact Hfl'
  isplitl [HO]; · iexact HO
  iintro ⟨Hid, HO⟩
  iapply (put_step (j := j) 30 (by decide) (O := O))
  isplitr; · iexact Hx
  isplitl [Hid]; · iexact Hid
  isplitl [Hok]; · iexact Hok
  isplitl [Hts]; · iexact Hts
  isplitl [Hride]; · iexact Hride
  isplitl [HO]; · iexact HO
  iintro ⟨Hfl', -, HO⟩
  iapply Hk
  isplitr [HO]
  · unfold StEnd
    isplitl [Hgot]; · iexact Hgot
    isplitl [Hfl']; · iexact Hfl'
    isplitl [Hfl]; · iexact Hfl
    iexact Hcrd
  iexact HO

end Cert.KernelIdeal.Ring

end
-- ==== Proof.Hop.lean ====
/- The hops, and the loop over them. -/
module

public import proofs.«01_k».proof.Proof.Stream

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ

theorem ret_step {Q : PUnit.{1} → sProp 𝕄} {c : Dev nD} : Q ⟨⟩ ⊢ Run c (.ret ⟨⟩) Q := by
  unfold Run
  rw [wp_ret]
  iintro H
  imodintro
  iexact H

/-- One thing of each stream. -/
def Four (Φ : Fin 4 → sProp 𝕄) : sProp 𝕄 := iprop(Φ 0 ∗ Φ 1 ∗ Φ 2 ∗ Φ 3)

variable {A : Args F} {K : GSem nD τ sig → ℕ} {κ : Key → ℕ} {c : Dev nD}

/-- What stream `j` pays at hop `s`. -/
def hopT (c : Dev nD) (j : Fin 4) (s : ℕ) : Debt := msgT c j s + creditT c j s

theorem debt_hop (c : Dev nD) (s : ℕ) (hs : s ≤ 30) :
    debt c (31 - s) = debt c (30 - s) + hopT c 3 s + hopT c 2 s + hopT c 1 s + hopT c 0 s := by
  obtain ⟨n, hn⟩ : ∃ n, n + s = 30 := ⟨30 - s, by omega⟩
  obtain rfl : s = 30 - n := by omega
  rw [show 31 - (30 - n) = n + 1 by omega, show 30 - (30 - n) = n by omega]
  rfl

theorem hop_above (c : Dev nD) (j : Fin 4) (s : ℕ) (hs : s ≤ 30) : Above (2 * s + 1) (hopT c j s) := hopT_above c j s hs

theorem chunk_hop {Q : PUnit.{1} → sProp 𝕄} (j : Fin 4) (w v : BitVec 32) (s : ℕ) (hs : s ≤ 31) (hw : w.toInt = s)
    (hv : v = bif fwd j then hopF (posW c) w else hopB (posW c) w) (k : FVec F S128x2048 .f32 → P F) :
    iprop(Mem A c ∗ (Mem A c -∗ Run c (k (A.part c j (chunkDev j s c))) Q)) ⊢ Run c (chunk j v k) Q := by
  have e : ringAt v.toInt = chunkDev j s c := by
    unfold chunkDev turn
    rw [hv, hop_word hs hw, ← sub_eq_add_neg]
  rw [← e]
  exact chunk_step j v k

theorem hop_step {Q : PUnit.{1} → sProp 𝕄} (w : BitVec 32) (s : ℕ) (hs : s ≤ 30) (hw : w.toInt = s) (b b' : Fin 2) (cr ck : Bool)
    (Pre Post : Fin 4 → sProp 𝕄)
    (hst : ∀ (j : Fin 4) (O : Debt), Above (2 * s + 1) O → ∀ k : P F,
      iprop(Ctx A K κ ∗ Pre j ∗ Owes c (O + hopT c j s) ∗ (Post j ∗ Owes c O -∗ Run c k Q))
        ⊢ Run c (stream j b b' cr ck (nbr (turn (-1) c)) (nbr (turn 1 c)) (A.part c j (chunkDev j s c)) k) Q)
    (k : P F) :
    iprop(Ctx A K κ ∗ Mem A c ∗ Four Pre ∗ Owes c (debt c (31 - s)) ∗ (Mem A c ∗ Four Post ∗ Owes c (debt c (30 - s)) -∗ Run c k Q))
      ⊢ Run c (hop w b b' cr ck (posW c) (nbr (turn (-1) c)) (nbr (turn 1 c)) k) Q := by
  have h0 : Above (2 * s + 1) (debt c (30 - s)) := (debt_above c (30 - s) (by omega)).mono (by omega)
  have h1 := h0.add (hop_above c 3 s hs)
  have h2 := h1.add (hop_above c 2 s hs)
  have h3 := h2.add (hop_above c 1 s hs)
  rw [debt_hop c s hs]
  unfold hop Four
  iintro ⟨#Hx, Hm, ⟨P0, P1, P2, P3⟩, HO, Hk⟩
  iapply (chunk_hop 0 w _ s (by omega) hw rfl)
  isplitl [Hm]; · iexact Hm
  iintro Hm
  iapply (chunk_hop 1 w _ s (by omega) hw rfl)
  isplitl [Hm]; · iexact Hm
  iintro Hm
  iapply (chunk_hop 2 w _ s (by omega) hw rfl)
  isplitl [Hm]; · iexact Hm
  iintro Hm
  iapply (chunk_hop 3 w _ s (by omega) hw rfl)
  isplitl [Hm]; · iexact Hm
  iintro Hm
  iapply (hst 0 _ h3)
  isplitr; · iexact Hx
  isplitl [P0]; · iexact P0
  isplitl [HO]; · iexact HO
  iintro ⟨P0, HO⟩
  iapply (hst 1 _ h2)
  isplitr; · iexact Hx
  isplitl [P1]; · iexact P1
  isplitl [HO]; · iexact HO
  iintro ⟨P1, HO⟩
  iapply (hst 2 _ h1)
  isplitr; · iexact Hx
  isplitl [P2]; · iexact P2
  isplitl [HO]; · iexact HO
  iintro ⟨P2, HO⟩
  iapply (hst 3 _ h0)
  isplitr; · iexact Hx
  isplitl [P3]; · iexact P3
  isplitl [HO]; · iexact HO
  iintro ⟨P3, HO⟩
  iapply Hk
  isplitl [Hm]; · iexact Hm
  isplitr [HO]
  · isplitl [P0]; · iexact P0
    isplitl [P1]; · iexact P1
    isplitl [P2]; · iexact P2
    iexact P3
  iexact HO

theorem hop_one {Q : PUnit.{1} → sProp 𝕄} (k : P F) :
    iprop(Ctx A K κ ∗ Mem A c ∗ Four (St1 c) ∗ Owes c (debt c 30) ∗ (Mem A c ∗ Four (fun j => St c j 0) ∗ Owes c (debt c 29) -∗ Run c k Q))
      ⊢ Run c (hop 1#32 0 1 true false (posW c) (nbr (turn (-1) c)) (nbr (turn 1 c)) k) Q :=
  hop_step 1#32 1 (by decide) (by decide) 0 1 true false (St1 c) (fun j => St c j 0) (fun _ _ hO k => stream_one hO k) k

theorem hop_mid {Q : PUnit.{1} → sProp 𝕄} (w : BitVec 32) (m : ℕ) (hm : m ≤ 27) (hw : w.toInt = (m + 2 : ℕ)) (k : P F) :
    iprop(Ctx A K κ ∗ Mem A c ∗ Four (fun j => St c j m) ∗ Owes c (debt c (29 - m))
        ∗ (Mem A c ∗ Four (fun j => St c j (m + 1)) ∗ Owes c (debt c (28 - m)) -∗ Run c k Q))
      ⊢ Run c (hop w (par (m + 1)) (par m) true true (posW c) (nbr (turn (-1) c)) (nbr (turn 1 c)) k) Q := by
  have h := hop_step (A := A) (K := K) (κ := κ) (c := c) (Q := Q) w (m + 2) (by omega) hw (par (m + 1)) (par m) true true
    (fun j => St c j m) (fun j => St c j (m + 1)) (fun _ _ hO k => stream_mid m hm hO k) k
  rw [show 31 - (m + 2) = 29 - m by omega, show 30 - (m + 2) = 28 - m by omega] at h
  exact h

theorem hop_last {Q : PUnit.{1} → sProp 𝕄} (k : P F) :
    iprop(Ctx A K κ ∗ Mem A c ∗ Four (fun j => St c j 28) ∗ Owes c (debt c 1) ∗ (Mem A c ∗ Four (StEnd c) ∗ Owes c (debt c 0) -∗ Run c k Q))
      ⊢ Run c (hop 30#32 1 0 false true (posW c) (nbr (turn (-1) c)) (nbr (turn 1 c)) k) Q :=
  hop_step 30#32 30 (by decide) (by decide) 1 0 false true (fun j => St c j 28) (StEnd c) (fun _ _ hO k => stream_last hO k) k

/-! ## The loop -/

theorem trips_one : k0_t1_loop.trips = 13 := by decide
theorem word_a : ∀ t : Fin k0_t1_loop.trips, (Scalar.addi (Scalar.muli 2#32 (Scf.iv 1#32 1#32 t)) 1#32).toInt = (2 * t.val + 3 : ℕ) := by decide
theorem word_b : ∀ t : Fin k0_t1_loop.trips,
    (Scalar.addi (Scalar.addi (Scalar.muli 2#32 (Scf.iv 1#32 1#32 t)) 1#32) 1#32).toInt = (2 * t.val + 4 : ℕ) := by decide

/-- Before trip `t`. -/
def LoopAt (A : Args F) (c : Dev nD) (t : ℕ) : sProp 𝕄 :=
  iprop(Mem A c ∗ Four (fun j => St c j (2 * t + 1)) ∗ Owes c (debt c (28 - 2 * t)))

theorem trip_step (t : Fin k0_t1_loop.trips) :
    iprop(Ctx A K κ ∗ LoopAt A c t) ⊢ Run c (twoHops (posW c) (nbr (turn (-1) c)) (nbr (turn 1 c)) t ⟨⟩)
      (fun _ => iprop(Ctx A K κ ∗ LoopAt A c (t + 1))) := by
  have ht : t.val < 13 := trips_one ▸ t.isLt
  unfold twoHops LoopAt
  rw [show (0 : Fin 2) = par (2 * t.val + 1 + 1) from Fin.ext (by show 0 = (2 * t.val + 1 + 1) % 2; omega),
    show (1 : Fin 2) = par (2 * t.val + 1) from Fin.ext (by show 1 = (2 * t.val + 1) % 2; omega)]
  iintro ⟨#Hx, Hm, HS, HO⟩
  iapply (hop_mid _ (2 * t.val + 1) (by omega) (word_a t))
  isplitr; · iexact Hx
  isplitl [Hm]; · iexact Hm
  isplitl [HS]; · iexact HS
  isplitl [HO]; · rw [show 29 - (2 * t.val + 1) = 28 - 2 * t.val by omega]; iexact HO
  iintro ⟨Hm, HS, HO⟩
  have e : par (2 * t.val + 1) = par (2 * t.val + 1 + 1 + 1) := (par_two _).symm
  rw [e]
  iapply (hop_mid _ (2 * t.val + 1 + 1) (by omega) (word_b t))
  isplitr; · iexact Hx
  isplitl [Hm]; · iexact Hm
  isplitl [HS]; · iexact HS
  isplitl [HO]; · rw [show 29 - (2 * t.val + 1 + 1) = 28 - (2 * t.val + 1) by omega]; iexact HO
  iintro ⟨Hm, HS, HO⟩
  iapply ret_step
  isplitr; · iexact Hx
  isplitl [Hm]; · iexact Hm
  isplitl [HS]; · iexact HS
  rw [show 28 - 2 * (t.val + 1) = 28 - (2 * t.val + 1 + 1) by omega]
  iexact HO

theorem loop_step {Q : PUnit.{1} → sProp 𝕄} (k : P F) :
    iprop(Ctx A K κ ∗ LoopAt A c 0 ∗ (LoopAt A c 13 -∗ Run c k Q))
      ⊢ Run c (Scf.Loop.for k0_t1_loop k0_t1_ok ⟨⟩ (twoHops (posW c) (nbr (turn (-1) c)) (nbr (turn 1 c))) >>= fun _ => k) Q := by
  iintro ⟨#Hx, HL, Hk⟩
  iapply (Scf.wp_for_bind frame (wpE (defs₀ (F := F)) 𝒱₀ (c : Thread nD τ) none) Set.univ k0_t1_loop.lb k0_t1_loop.ub k0_t1_loop.st k0_t1_ok ⟨⟩ _
    (fun t _ => iprop(Ctx A K κ ∗ LoopAt A c t)) (fun t _ => trip_step t)) $$ [HL]
  · isplitr; · iexact Hx
    iexact HL
  iintro %_ ⟨-, HL⟩
  iapply Hk
  iexact HL

/-! ## The first messages -/

variable (c) in
/-- Before the first message. -/
def St0 (j : Fin 4) : sProp 𝕄 :=
  iprop(Rcv c j 0 ∗ Idle c j 0 ∗ Idle c j 1 ∗ Toks c j 0 ∗ Dues c j 1 ∗ Crd c j 0 ∗ Mine c j 0 ∗ Ok j 0 (nxt j c) ∗ Ok j 1 (nxt j c))

theorem first_step {Q : PUnit.{1} → sProp 𝕄} (j : Fin 4) (v : BitVec 32)
    (hv : v = bif fwd j then hopF (posW c) 0#32 else hopB (posW c) 0#32) {O : Debt} (k : P F) :
    iprop(Ctx A K κ ∗ Mem A c ∗ St0 c j ∗ Owes c (O + hopT c j 0) ∗ (Mem A c ∗ St1 c j ∗ Owes c O -∗ Run c k Q))
      ⊢ Run c (first j v (nbr (turn (-1) c)) (nbr (turn 1 c)) k) Q := by
  unfold first St0 hopT
  rw [consN_nbr, show creditT c j 0 = 0 from rfl, add_zero]
  iintro ⟨#Hx, Hm, ⟨Hrcv, Hid, Hid', Hts, Hdu, Hcrd, Hmi, Hok, Hok'⟩, HO, Hk⟩
  iapply (chunk_hop j 0#32 v 0 (by decide) (by decide) hv)
  isplitl [Hm]; · iexact Hm
  iintro Hm
  ihave Hrm := ride_zero $$ Hmi
  icases Hrm with ⟨Hride, Hmi⟩
  iapply (put_step (j := j) 0 (by decide) (O := O))
  isplitr; · iexact Hx
  isplitl [Hid]; · iexact Hid
  isplitl [Hok]; · iexact Hok
  isplitl [Hts]; · iexact Hts
  isplitl [Hride]; · iexact Hride
  isplitl [HO]; · iexact HO
  iintro ⟨Hfl, Hts, HO⟩
  iapply Hk
  isplitl [Hm]; · iexact Hm
  isplitr [HO]
  · unfold St1
    isplitl [Hrcv]; · iexact Hrcv
    isplitl [Hfl]; · iexact Hfl
    isplitl [Hid']; · iexact Hid'
    isplitl [Hts]; · iexact Hts
    isplitl [Hdu]; · iexact Hdu
    isplitl [Hcrd]; · iexact Hcrd
    isplitl [Hmi]; · iexact Hmi
    iexact Hok'
  iexact HO

/-- From the first messages to the end of the loop. -/
theorem hops_step {Q : PUnit.{1} → sProp 𝕄} (k : P F) :
    iprop(Ctx A K κ ∗ Mem A c ∗ Four (St0 c) ∗ Owes c (debt c 31) ∗ (LoopAt A c 13 -∗ Run c k Q))
      ⊢ Run c (first 0 (hopF (posW c) 0#32) (nbr (turn (-1) c)) (nbr (turn 1 c)) <| first 1 (hopB (posW c) 0#32) (nbr (turn (-1) c)) (nbr (turn 1 c)) <|
        first 2 (hopF (posW c) 0#32) (nbr (turn (-1) c)) (nbr (turn 1 c)) <| first 3 (hopB (posW c) 0#32) (nbr (turn (-1) c)) (nbr (turn 1 c)) <|
        hop 1#32 0 1 true false (posW c) (nbr (turn (-1) c)) (nbr (turn 1 c)) <| hop 2#32 1 0 true true (posW c) (nbr (turn (-1) c)) (nbr (turn 1 c)) <|
        Scf.Loop.for k0_t1_loop k0_t1_ok ⟨⟩ (twoHops (posW c) (nbr (turn (-1) c)) (nbr (turn 1 c))) >>= fun _ => k) Q := by
  rw [show debt c 31 = debt c (30 - 0) + hopT c 3 0 + hopT c 2 0 + hopT c 1 0 + hopT c 0 0 from debt_hop c 0 (by decide)]
  unfold Four
  iintro ⟨#Hx, Hm, ⟨P0, P1, P2, P3⟩, HO, Hk⟩
  iapply (first_step 0 _ rfl)
  isplitr; · iexact Hx
  isplitl [Hm]; · iexact Hm
  isplitl [P0]; · iexact P0
  isplitl [HO]; · iexact HO
  iintro ⟨Hm, P0, HO⟩
  iapply (first_step 1 _ rfl)
  isplitr; · iexact Hx
  isplitl [Hm]; · iexact Hm
  isplitl [P1]; · iexact P1
  isplitl [HO]; · iexact HO
  iintro ⟨Hm, P1, HO⟩
  iapply (first_step 2 _ rfl)
  isplitr; · iexact Hx
  isplitl [Hm]; · iexact Hm
  isplitl [P2]; · iexact P2
  isplitl [HO]; · iexact HO
  iintro ⟨Hm, P2, HO⟩
  iapply (first_step 3 _ rfl)
  isplitr; · iexact Hx
  isplitl [Hm]; · iexact Hm
  isplitl [P3]; · iexact P3
  isplitl [HO]; · iexact HO
  iintro ⟨Hm, P3, HO⟩
  iapply hop_one
  isplitr; · iexact Hx
  isplitl [Hm]; · iexact Hm
  isplitl [P0 P1 P2 P3]
  · unfold Four
    isplitl [P0]; · iexact P0
    isplitl [P1]; · iexact P1
    isplitl [P2]; · iexact P2
    iexact P3
  isplitl [HO]; · iexact HO
  iintro ⟨Hm, HS, HO⟩
  iapply (hop_mid 2#32 0 (by decide) (by decide))
  isplitr; · iexact Hx
  isplitl [Hm]; · iexact Hm
  isplitl [HS]; · iexact HS
  isplitl [HO]; · iexact HO
  iintro ⟨Hm, HS, HO⟩
  iapply loop_step
  isplitr; · iexact Hx
  isplitr [Hk]
  · unfold LoopAt
    isplitl [Hm]; · iexact Hm
    isplitl [HS]; · iexact HS
    iexact HO
  iexact Hk

end Cert.KernelIdeal.Ring

end
-- ==== Proof.Meet.lean ====
/- The start: the neighbours meet. -/
module

public import proofs.«01_k».proof.Proof.Hop

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ

section State

variable (c : Dev nD) (j : Fin 4)

/-- What stays with the device of a stream through the meeting. -/
def Kept : sProp 𝕄 :=
  iprop(Idle c j 0 ∗ Idle c j 1 ∗ Toks c j 0 ∗ (bigSep (Finset.Ico 1 30) fun k => dutyTok ER (reg (frm j c) (credS j)) 0 k)
    ∗ Crd c j 0 ∗ Mine c j 0)
/-- A receive slot as the device starts with it. -/
def Fresh (b : Fin 2) : sProp 𝕄 :=
  iprop(rcvAny c j b ∗ readerAt ES (c, j, b) 0 ∗ atPos ER (dma c (recvS j b)) 0 ∅ 0 ∗ reached ER (dma c (recvS j b)) 0)
/-- A stream as the device starts with it. -/
def Init : sProp 𝕄 :=
  iprop(Fresh c j 0 ∗ Fresh c j 1 ∗ Coming c j 0 ∗ Kept c j ∗ reached ER (reg c (credS j)) 0)
/-- A stream whose slots are free. -/
def Opened : sProp 𝕄 := iprop(Rcv c j 0 ∗ Kept c j)
/-- What the device tells of a stream. -/
def News : sProp 𝕄 := iprop(Freed j 0 c ∗ reached ER (reg c (credS j)) 0)
instance News_persistent : BI.Persistent (News c j : sProp 𝕄) := by unfold News; infer_instance

end State

variable {A : Args F} {K : GSem nD τ sig → ℕ} {κ : Key → ℕ} {c : Dev nD}

theorem free_step (j : Fin 4) : iprop(Ctx A K κ ∗ Init c j) ⊢ |={Set.univ}=> iprop(Opened c j ∗ News c j) := by
  unfold Init Fresh
  iintro ⟨#Hx, ⟨Hs0, Hr0, Ha0, #Hc0⟩, ⟨Hs1, Hr1, Ha1, #Hc1⟩, Hcm, Hkept, #Hcr⟩
  imod (slot_release ES (Set.mem_univ (κ (c, j, 0))) (rcvAny_twice c j 0) 0) $$ [Hr0 Hs0] with ⟨Hr0, #Hl0⟩
  · isplitr; · iapply (ctx_slot c j 0); iexact Hx
    isplitl [Hr0]; · iexact Hr0
    iexact Hs0
  imod (slot_release ES (Set.mem_univ (κ (c, j, 1))) (rcvAny_twice c j 1) 0) $$ [Hr1 Hs1] with ⟨Hr1, #Hl1⟩
  · isplitr; · iapply (ctx_slot c j 1); iexact Hx
    isplitl [Hr1]; · iexact Hr1
    iexact Hs1
  imodintro
  isplitr []
  · unfold Opened Rcv Ok
    isplitr [Hkept]
    · isplitl [Ha0]; · iexact Ha0
      isplitl [Ha1]; · iexact Ha1
      isplitl [Hr0]; · iexact Hr0
      isplitl [Hr1]; · iexact Hr1
      isplitr
      · isplitr; · iexact Hl1
        iexact Hc1
      iexact Hcm
    iexact Hkept
  · unfold News Freed
    isplitr
    · isplitr
      · isplitr; · iexact Hl0
        iexact Hc0
      · isplitr; · iexact Hl1
        iexact Hc1
    iexact Hcr

theorem told_intro (up : Bool) : iprop(News c 0 ∗ News c 1 ∗ News c 2 ∗ News c 3) ⊢ (bigSep Finset.univ (Told up c) : sProp 𝕄) := by
  have h : ∀ j, (News c j : sProp 𝕄) ⊢ Told up c j := fun j => by
    unfold News Told
    split
    · exact sep_elim_left
    · exact sep_elim_right
  rw [show (Finset.univ : Finset (Fin 4)) = {0, 1, 2, 3} by decide, bigSep_insert (by decide), bigSep_insert (by decide),
    bigSep_insert (by decide), bigSep_singleton]
  exact BIClass.sep_mono (h 0) (BIClass.sep_mono (h 1) (BIClass.sep_mono (h 2) (h 3)))

theorem told_elim (j : Fin 4) :
    iprop(bigSep Finset.univ (Told true (turn 1 c)) ∗ bigSep Finset.univ (Told false (turn (-1) c)))
      ⊢ (iprop(Freed j 0 (nxt j c) ∗ reached ER (reg (frm j c) (credS j)) 0) : sProp 𝕄) := by
  have h1 : (bigSep Finset.univ (Told true (turn 1 c)) : sProp 𝕄) ⊢ Told true (turn 1 c) j := BI.bigSep_elim (Finset.mem_univ j)
  have h2 : (bigSep Finset.univ (Told false (turn (-1) c)) : sProp 𝕄) ⊢ Told false (turn (-1) c) j := BI.bigSep_elim (Finset.mem_univ j)
  refine (BIClass.sep_mono h1 h2).trans ?_
  unfold Told nxt frm dir
  cases h : fwd j
  · exact sep_comm.1
  · exact Entails.of_eq rfl

theorem st0_intro (j : Fin 4) :
    iprop(Opened c j ∗ Freed j 0 (nxt j c) ∗ reached ER (reg (frm j c) (credS j)) 0) ⊢ (St0 c j : sProp 𝕄) := by
  unfold Opened Kept St0 Dues
  iintro ⟨⟨Hrcv, Hid, Hid', Hts, Hdt, Hcrd, Hmi⟩, #HF, Hr⟩
  isplitl [Hrcv]; · iexact Hrcv
  isplitl [Hid]; · iexact Hid
  isplitl [Hid']; · iexact Hid'
  isplitl [Hts]; · iexact Hts
  isplitl [Hdt Hr]
  · isplitl [Hr]; · iexact Hr
    iexact Hdt
  isplitl [Hcrd]; · iexact Hcrd
  isplitl [Hmi]; · iexact Hmi
  isplitr
  · iapply (freed_elim 0 0 (by decide) (nxt j c)); iexact HF
  · iapply (freed_elim 1 0 (by decide) (nxt j c)); iexact HF

/-- The tables' staged copies. -/
def PosPts (c : Dev nD) : sProp 𝕄 := posR.view.loc (c : Thread nD τ) ↦[Finset.univ]{fullShare} (posTab (F := F))

theorem tab_at {Q : PUnit.{1} → sProp 𝕄} (w : BitVec 32) (d : Dev nD) (h : ringAt w.toInt = d) (k : BitVec 32 → P F) :
    iprop(RingPts (F := F) c ∗ (RingPts (F := F) c -∗ Run c (k (devW d)) Q)) ⊢ Run c (tabLoad w k) Q := by
  subst h; exact tabLoad_step w k

theorem word_left (c : Dev nD) : ringAt (Scalar.subi (posW c) 1#32).toInt = turn (-1) c := by
  have h0 := pos_nonneg c
  have h1 := pos_lt c
  rw [toInt_sub_small (by rw [posW_toInt]; omega) (by rw [posW_toInt]; omega) (by decide) (by decide), posW_toInt]
  rfl
theorem word_right (c : Dev nD) : ringAt (Scalar.addi (posW c) 1#32).toInt = turn 1 c := by
  have h0 := pos_nonneg c
  have h1 := pos_lt c
  rw [toInt_add_small (by rw [posW_toInt]; omega) (by rw [posW_toInt]; omega) (by decide) (by decide), posW_toInt]
  rfl

theorem pos_step {Q : PUnit.{1} → sProp 𝕄} (k : BitVec 32 → P F) :
    iprop(PosPts (F := F) c ∗ (PosPts (F := F) c -∗ Run c (k (posW c)) Q))
      ⊢ Run c (smemLoadElt (Val := Elt F) posR (Rect.unit (s := S32) (k0_off1 c) S1.size (k0_off1_inb c)) (View.loads_smem_one rfl numel1_S1)
          (Shape.Idx.first (numel1_S1.symm ▸ Nat.one_pos)) k) Q := by
  unfold PosPts
  iintro ⟨H, Hk⟩
  iapply (wp_smemLoadElt (Val := Elt F) 𝒱₀ (c : Thread nD τ) none Set.univ (m := posR)
    (r := Rect.unit (s := S32) (k0_off1 c) S1.size (k0_off1_inb c)) (S := Finset.univ) (f := posTab) (Finset.subset_univ _)) $$ H
  have e : (posR.access (Rect.unit (s := S32) (k0_off1 c) S1.size (k0_off1_inb c))).read (Elt F) posTab
      (Shape.Idx.first (numel1_S1.symm ▸ Nat.one_pos)) = posW c := by
    show lit1 (S32.rowMajor ((Rect.unit (s := S32) (k0_off1 c) S1.size (k0_off1_inb c)).emb _)) = lit1 c
    congr 1
    apply Fin.ext
    rw [Shape.rowMajor_val_one]
    exact congrFun (off1_eq c) 0
  rw [e]
  iexact Hk

/-- The meeting's tokens. -/
def Gate (c : Dev nD) : sProp 𝕄 :=
  iprop(atPos ER (reg c barS) 0 ∅ 0 ∗ cred (tallyAt (reg c barS) 1 2)
    ∗ (dutyTok ER (reg (turn (-1) c) barS) 0 0 ∗ reached ER (reg (turn (-1) c) barS) 0)
    ∗ (dutyTok ER (reg (turn 1 c) barS) 0 1 ∗ reached ER (reg (turn 1 c) barS) 0))

theorem await_two (s : Sem sig) (k : P F) : await s 2#32 k = .op (.semWait s ((2 : ℕ) : ℤ)) fun _ => k := rfl

theorem bar_step {Q : PUnit.{1} → sProp 𝕄} (k : P F) :
    iprop(Ctx A K κ ∗ Gate c ∗ Four (Init c) ∗ Owes c (debt₀ c)
        ∗ (Four (St0 c) ∗ Owes c (debt c 31) ∗ atPos ER (reg c barS) 1 ∅ 0 -∗ Run c k Q))
      ⊢ Run c (signal (nbr (turn (-1) c)) barS <| signal (nbr (turn 1 c)) barS <| await barS 2#32 k) Q := by
  rw [signal_eq barS _ (turn (-1) c) _ (nbr_dev _), signal_eq barS _ (turn 1 c) _ (nbr_dev _), await_two]
  unfold Gate Four Owes debt₀
  iintro ⟨#Hx, ⟨Hat, Hc, ⟨Ht0, #Hr0⟩, ⟨Ht1, #Hr1⟩⟩, ⟨I0, I1, I2, I3⟩, ⟨%W, HO⟩, Hk⟩
  imod (free_step (A := A) (K := K) (κ := κ) (c := c) 0) $$ [I0] with ⟨I0, #N0⟩
  · isplitr; · iexact Hx
    iexact I0
  imod (free_step (A := A) (K := K) (κ := κ) (c := c) 1) $$ [I1] with ⟨I1, #N1⟩
  · isplitr; · iexact Hx
    iexact I1
  imod (free_step (A := A) (K := K) (κ := κ) (c := c) 2) $$ [I2] with ⟨I2, #N2⟩
  · isplitr; · iexact Hx
    iexact I2
  imod (free_step (A := A) (K := K) (κ := κ) (c := c) 3) $$ [I3] with ⟨I3, #N3⟩
  · isplitr; · iexact Hx
    iexact I3
  iapply (Rounds.wp_signal 𝒱₀ ER (sched A) (c : Thread nD τ) none (dst := (turn (-1) c : Thread nD τ)) (sem := barS) (r := 0) (d := 0)
    (κ := K (reg (turn (-1) c) barS)) (by rw [duties_bar]; decide) (amount_bar A (turn (-1) c) 0 0) 1
    (O₀ := debt c 31 + barT c 1 + barT c (-1)) (debt c 31 + barT c 1) rfl) $$ [HO Ht0]
  · isplitr
    · iapply (show Ctx A K κ ⊢ cellInv ER (sched A) (K (reg (turn (-1) c) barS)) (reg (turn (-1) c) barS) from ctx_bar (turn (-1) c)); iexact Hx
    isplitl [HO]; · iexact HO
    isplitl [Ht0]; · iexact Ht0
    isplitr
    · rw [payload_bar, if_pos rfl, turn_turn, show (-1 + 1 : ℤ) = 0 from rfl, turn_zero]
      iapply (told_intro true)
      isplitr; · iexact N0
      isplitr; · iexact N1
      isplitr; · iexact N2
      iexact N3
    iexact Hr0
  iintro HO
  iapply (Rounds.wp_signal 𝒱₀ ER (sched A) (c : Thread nD τ) none (dst := (turn 1 c : Thread nD τ)) (sem := barS) (r := 0) (d := 1)
    (κ := K (reg (turn 1 c) barS)) (by rw [duties_bar]; decide) (amount_bar A (turn 1 c) 0 1) 1
    (O₀ := debt c 31 + barT c 1) (debt c 31) rfl) $$ [HO Ht1]
  · isplitr
    · iapply (show Ctx A K κ ⊢ cellInv ER (sched A) (K (reg (turn 1 c) barS)) (reg (turn 1 c) barS) from ctx_bar (turn 1 c)); iexact Hx
    isplitl [HO]; · iexact HO
    isplitl [Ht1]; · iexact Ht1
    isplitr
    · rw [payload_bar, if_neg (by decide), turn_turn, show (1 + -1 : ℤ) = 0 from rfl, turn_zero]
      iapply (told_intro false)
      isplitr; · iexact N0
      isplitr; · iexact N1
      isplitr; · iexact N2
      iexact N3
    iexact Hr1
  iintro HO
  iapply (Rounds.wp_wait_rest_token 𝒱₀ ER (sched A) (c : Thread nD τ) none (κ := K (reg c barS))
      (wpE_semWait_eq 𝒱₀ (c : Thread nD τ) none Set.univ) (Set.mem_univ _) 1 (k' := 2) (O := debt c 31) (W := W) (R := 0) (m := 0) (T := ∅)
      ((Nat.zero_add 2).trans (expect_bar A c).symm)) $$ [Hc HO Hat]
  · isplitr; · iapply (show Ctx A K κ ⊢ cellInv ER (sched A) (K (reg c barS)) (reg c barS) from ctx_bar c); iexact Hx
    isplitl [Hc]; · iexact Hc
    isplitl [HO]; · iexact HO
    isplitr; · iapply (ctx_wait c _ 1 (by decide) ((debt_above c 31 (Nat.le_refl _)).mono (by decide))); iexact Hx
    iexact Hat
  iintro ⟨HO, Hat, -, Hpay⟩
  ihave Hp := (Entails.of_eq (rest_bar A c)) $$ Hpay
  icases Hp with ⟨#Hp1, #Hp2⟩
  have hs : ∀ j, iprop(Opened c j ∗ bigSep Finset.univ (Told true (turn 1 c)) ∗ bigSep Finset.univ (Told false (turn (-1) c))) ⊢ (St0 c j : sProp 𝕄) :=
    fun j => (sep_mono_right (told_elim j)).trans (st0_intro j)
  iapply Hk
  isplitr [HO Hat]
  · isplitl [I0]
    · iapply (hs 0)
      isplitl [I0]; · iexact I0
      isplitr; · iexact Hp1
      iexact Hp2
    isplitl [I1]
    · iapply (hs 1)
      isplitl [I1]; · iexact I1
      isplitr; · iexact Hp1
      iexact Hp2
    isplitl [I2]
    · iapply (hs 2)
      isplitl [I2]; · iexact I2
      isplitr; · iexact Hp1
      iexact Hp2
    · iapply (hs 3)
      isplitl [I3]; · iexact I3
      isplitr; · iexact Hp1
      iexact Hp2
  isplitl [HO]; · iexists _; iexact HO
  iexact Hat

theorem meet_step {Q : PUnit.{1} → sProp 𝕄} (k : Dev nD → BitVec 32 → Nbr → Nbr → P F) :
    iprop(Ctx A K κ ∗ Mem A c ∗ PosPts (F := F) c ∗ Gate c ∗ Four (Init c) ∗ Owes c (debt₀ c)
        ∗ (Mem A c ∗ PosPts (F := F) c ∗ Four (St0 c) ∗ Owes c (debt c 31) ∗ atPos ER (reg c barS) 1 ∅ 0
          -∗ Run c (k c (posW c) (nbr (turn (-1) c)) (nbr (turn 1 c))) Q))
      ⊢ Run c (meet k) Q := by
  unfold meet Mem
  iintro ⟨#Hx, ⟨Hr, Hm⟩, Hp, Hg, HI, HO, Hk⟩
  iapply (Entails.of_eq (wp_deviceId 𝒱₀ (c : Thread nD τ) none Set.univ).symm)
  iapply pos_step
  isplitl [Hp]; · iexact Hp
  iintro Hp
  iapply (wp_assume 𝒱₀ (c : Thread nD τ) none Set.univ (chk1 c))
  iapply (tab_at _ _ (word_left c))
  isplitl [Hr]; · iexact Hr
  iintro Hr
  iapply (wp_assume 𝒱₀ (c : Thread nD τ) none Set.univ (chk2 _))
  iapply (tab_at _ _ (word_right c))
  isplitl [Hr]; · iexact Hr
  iintro Hr
  iapply (wp_assume 𝒱₀ (c : Thread nD τ) none Set.univ (chk3 _))
  iapply bar_step
  isplitr; · iexact Hx
  isplitl [Hg]; · iexact Hg
  isplitl [HI]; · iexact HI
  isplitl [HO]; · iexact HO
  iintro ⟨HS, HO, Hat⟩
  iapply Hk
  isplitl [Hr Hm]
  · isplitl [Hr]; · iexact Hr
    iexact Hm
  isplitl [Hp]; · iexact Hp
  isplitl [HS]; · iexact HS
  isplitl [HO]; · iexact HO
  iexact Hat

end Cert.KernelIdeal.Ring

end
-- ==== Proof.Gather.lean ====
/- The end of the ring: the last message of each stream and the copies still under way. -/
module

public import proofs.«01_k».proof.Proof.Meet

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ

section State

variable (c : Dev nD) (j : Fin 4)

/-- The receive slots of a stream when all is received. -/
def RcvEnd : sProp 𝕄 :=
  iprop(rcvAny c j 0 ∗ rcvAny c j 1 ∗ atPos ER (dma c (recvS j 0)) 16 ∅ 0 ∗ atPos ER (dma c (recvS j 1)) 15 ∅ 0)
/-- The send slots of a stream when all is sent. -/
def SndEnd : sProp 𝕄 :=
  iprop(sndAny c j 0 ∗ sndAny c j 1 ∗ atPos ER (dma c (sendS j 0)) 16 ∅ 0 ∗ atPos ER (dma c (sendS j 1)) 15 ∅ 0)
/-- A stream at its end. -/
def Closed : sProp 𝕄 := iprop(RcvEnd c j ∗ SndEnd c j ∗ atPos ER (reg c (credS j)) 1 ∅ 0)

end State

variable {A : Args F} {K : GSem nD τ sig → ℕ} {κ : Key → ℕ} {c : Dev nD}

theorem last_recv {Q : PUnit.{1} → sProp 𝕄} (j : Fin 4) {O : Debt} (hO : Above 63 O) (k : FVec F S1x1x128x2048 .bf16 → P F) :
    iprop(Ctx A K κ ∗ Got c j 29 ∗ Owes c O ∗ (RcvEnd c j ∗ Ride j 30 c ∗ Owes c O -∗ Run c (k (A.msg 30 (frm j c) j)) Q))
      ⊢ Run c (recv j 0 k) Q := by
  unfold Got Coming Owes
  rw [bigSep_Ico_succ_bot (by decide)]
  iintro ⟨#Hx, ⟨Hat1, -, Hs1, Hat0, -, -, -, Hc, -⟩, ⟨%W, HO⟩, Hk⟩
  iapply (recv_step j 30 (by decide) hO (W := W) k)
  isplitr; · iexact Hx
  isplitl [Hc]; · iexact Hc
  isplitl [HO]; · iexact HO
  isplitl [Hat0]; · iexact Hat0
  iintro ⟨HO, Hat0, -, Hs0, Hride⟩
  iapply Hk
  isplitr [HO Hride]
  · unfold RcvEnd
    isplitl [Hs0]; · iexact Hs0
    isplitl [Hs1]; · iexact Hs1
    isplitl [Hat0]; · iexact Hat0
    iexact Hat1
  isplitl [Hride]; · iexact Hride
  iexact HO

theorem sents_step {Q : PUnit.{1} → sProp 𝕄} (j : Fin 4) {O : Debt} (hO : Above 0 O) (k : P F) :
    iprop(Ctx A K κ ∗ Flying c j 30 ∗ Flying c j 29 ∗ Owes c O ∗ (SndEnd c j ∗ Owes c O -∗ Run c k Q))
      ⊢ Run c (sent j 0 <| sent j 1 k) Q := by
  iintro ⟨#Hx, H0, H1, HO, Hk⟩
  iapply (idle_step (j := j) 30 (by decide) hO)
  isplitr; · iexact Hx
  isplitl [H0]; · iexact H0
  isplitl [HO]; · iexact HO
  iintro ⟨H0, HO⟩
  iapply (idle_step (j := j) 29 (by decide) hO)
  isplitr; · iexact Hx
  isplitl [H1]; · iexact H1
  isplitl [HO]; · iexact HO
  iintro ⟨H1, HO⟩
  iapply Hk
  isplitr [HO]
  · unfold Idle SndEnd
    icases H0 with ⟨Hs0, Ha0, -⟩
    icases H1 with ⟨Hs1, Ha1, -⟩
    isplitl [Hs0]; · iexact Hs0
    isplitl [Hs1]; · iexact Hs1
    isplitl [Ha0]; · iexact Ha0
    iexact Ha1
  iexact HO

theorem cred_skip (j : Fin 4) : iprop(Ctx A K κ ∗ Crd c j 29) ⊢ |={Set.univ}=> (atPos ER (reg c (credS j)) 1 ∅ 0 : sProp 𝕄) := by
  unfold Crd
  iintro ⟨#Hx, ⟨%T, Hat, %hT, -, -⟩⟩
  have hT' : T = Finset.Icc 1 29 := Finset.eq_of_subset_of_card_le hT.1 (by rw [Nat.card_Icc]; exact hT.2)
  imod (Rounds.fupd_skip ER (sched A) (κ := K (reg c (credS j))) (g := reg c (credS j)) (R := 0) (T := T) (m := 29) (Es := Set.univ)
    (by rw [duties_cred, hT']) (expect_cred A c j).symm (Set.mem_univ _)) $$ [Hat] with ⟨Hat, -⟩
  · isplitr; · iapply (ctx_own c (osem_cred j)); iexact Hx
    iexact Hat
  imodintro
  iexact Hat

theorem gather_step {Q : PUnit.{1} → sProp 𝕄} (k : (Fin 4 → FVec F S128x2048 .f32) → P F) :
    iprop(Ctx A K κ ∗ Mem A c ∗ Four (StEnd c) ∗ Owes c (debt c 0)
        ∗ (Mem A c ∗ Four (Closed c) ∗ Extra 30 c ∗ Owes c (debt c 0) -∗ Run c (k ![A.sum c 0, A.sum c 1, A.sum c 2, A.sum c 3]) Q))
      ⊢ Run c (gather c k) Q := by
  unfold gather Four StEnd
  have h63 : Above 63 (debt c 0) := (rowDebt_above c 31).mono (by decide)
  have h0 : Above 0 (debt c 0) := (rowDebt_above c 31).mono (by decide)
  iintro ⟨#Hx, HM, ⟨⟨G0, F0, E0, C0⟩, ⟨G1, F1, E1, C1⟩, ⟨G2, F2, E2, C2⟩, ⟨G3, F3, E3, C3⟩⟩, HO, Hk⟩
  imod (cred_skip (A := A) (K := K) (κ := κ) (c := c) 0) $$ [C0] with C0
  · isplitr; · iexact Hx
    iexact C0
  imod (cred_skip (A := A) (K := K) (κ := κ) (c := c) 1) $$ [C1] with C1
  · isplitr; · iexact Hx
    iexact C1
  imod (cred_skip (A := A) (K := K) (κ := κ) (c := c) 2) $$ [C2] with C2
  · isplitr; · iexact Hx
    iexact C2
  imod (cred_skip (A := A) (K := K) (κ := κ) (c := c) 3) $$ [C3] with C3
  · isplitr; · iexact Hx
    iexact C3
  iapply (own_step (A := A) (c := c) 0)
  isplitl [HM]; · iexact HM
  iintro HM
  iapply (own_step (A := A) (c := c) 1)
  isplitl [HM]; · iexact HM
  iintro HM
  iapply (own_step (A := A) (c := c) 2)
  isplitl [HM]; · iexact HM
  iintro HM
  iapply (own_step (A := A) (c := c) 3)
  isplitl [HM]; · iexact HM
  iintro HM
  iapply (last_recv 0 h63)
  isplitr; · iexact Hx
  isplitl [G0]; · iexact G0
  isplitl [HO]; · iexact HO
  iintro ⟨G0, Hride, HO⟩
  iapply (last_recv 1 h63)
  isplitr; · iexact Hx
  isplitl [G1]; · iexact G1
  isplitl [HO]; · iexact HO
  iintro ⟨G1, -, HO⟩
  iapply (last_recv 2 h63)
  isplitr; · iexact Hx
  isplitl [G2]; · iexact G2
  isplitl [HO]; · iexact HO
  iintro ⟨G2, -, HO⟩
  iapply (last_recv 3 h63)
  isplitr; · iexact Hx
  isplitl [G3]; · iexact G3
  isplitl [HO]; · iexact HO
  iintro ⟨G3, -, HO⟩
  iapply (sents_step 0 h0)
  isplitr; · iexact Hx
  isplitl [F0]; · iexact F0
  isplitl [E0]; · iexact E0
  isplitl [HO]; · iexact HO
  iintro ⟨F0, HO⟩
  iapply (sents_step 1 h0)
  isplitr; · iexact Hx
  isplitl [F1]; · iexact F1
  isplitl [E1]; · iexact E1
  isplitl [HO]; · iexact HO
  iintro ⟨F1, HO⟩
  iapply (sents_step 2 h0)
  isplitr; · iexact Hx
  isplitl [F2]; · iexact F2
  isplitl [E2]; · iexact E2
  isplitl [HO]; · iexact HO
  iintro ⟨F2, HO⟩
  iapply (sents_step 3 h0)
  isplitr; · iexact Hx
  isplitl [F3]; · iexact F3
  isplitl [E3]; · iexact E3
  isplitl [HO]; · iexact HO
  iintro ⟨F3, HO⟩
  iapply Hk
  isplitl [HM]; · iexact HM
  isplitr [Hride HO]
  · unfold Closed
    isplitl [G0 F0 C0]
    · isplitl [G0]; · iexact G0
      isplitl [F0] <;> iassumption
    isplitl [G1 F1 C1]
    · isplitl [G1]; · iexact G1
      isplitl [F1] <;> iassumption
    isplitl [G2 F2 C2]
    · isplitl [G2]; · iexact G2
      isplitl [F2] <;> iassumption
    · isplitl [G3]; · iexact G3
      isplitl [F3] <;> iassumption
  isplitl [Hride]
  · iapply (Entails.of_eq (show (Ride 0 30 c : sProp 𝕄) = Extra 30 c from if_pos rfl)); iexact Hride
  iexact HO

end Cert.KernelIdeal.Ring

end
-- ==== Proof.Rows.lean ====
/- The exchange of the rows of maxima. -/
module

public import proofs.«01_k».proof.Proof.Gather

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ

/-! ## The row each device sends -/

theorem off61_eq : ∀ d : Dev nD, k0_off61 d = ![d.val, 0] := by decide
theorem off65_eq : ∀ d : Dev nD, k0_off65 d = ![d.val, 0] := by decide
theorem off68_devW : ∀ d : Dev nD, k0_off68 (devW d) = ![d.val, 0] := by decide

theorem row_slice_set (d : Dev nD) {o : Fin 2 → Nat} (ho : o = ![d.val, 0]) (hi : ∀ a, o a + S1x128.size a ≤ S32x128.size a) :
    (rowR.slice (Rect.unit (s := S32x128) o S1x128.size hi) (fun _ => rfl)).view.set = (rowR.access (rowRect d)).set := by
  subst ho; rfl
theorem rowM_set (d : Dev nD) : (rowM d).view.set = (rowR.access (rowRect d)).set := row_slice_set d (off65_eq d) _

/-- What is copied whole agrees with what it was copied from. -/
theorem copied_eq {sp : Space} {s : Shape} {e : EltTy} (m : Memref sig .tc sp s e) (fd fs : m.view.ty.Contents (Elt F)) :
    ∀ i ∈ m.view.set, m.view.write (Elt F) fd (m.view.read (Elt F) fs) Finset.univ i = fs i := by
  intro i hi
  obtain ⟨x, -, rfl⟩ := Finset.mem_map.mp hi
  exact View.eq_of_read_eq (congrFun (View.read_write_univ _ _) x)

/-! ## The copies by number -/

def outN (t : ℕ) : DmaSem sig := outC (Fin.ofNat 31 t)
def lentN (t : ℕ) : PosShare TreeShare := lent (Fin.ofNat 31 t).castSucc
theorem outS_eq : ∀ t : Fin k0_t2_loop.trips, outS t = outN t.val := by decide
theorem outS_eq' : ∀ t : Fin k0_t4_loop.trips,
    ((cc0_scratch5.slice (Rect.unit (s := S32) (k0_off69 t) S1.size (k0_off69_inb t))).squeeze S_ squeezes_S1_S_).sem = outN t.val := by decide
theorem inS_eq' : ∀ d : Dev nD,
    ((cc0_scratch6.slice (Rect.unit (s := S32) (k0_off67 (devW d)) S1.size (k0_off67_inb (devW d) (chk33 d)))).squeeze S_ squeezes_S1_S_).sem = inS d := by
  decide

theorem trips_two : k0_t2_loop.trips = 31 := by decide
theorem trips_three : k0_t3_loop.trips = 31 := by decide
theorem trips_four : k0_t4_loop.trips = 31 := by decide
theorem iv_two : ∀ t : Fin k0_t2_loop.trips, (Scf.iv (1#32 : BitVec 32) 1#32 t).toInt = (t.val + 1 : ℕ) := by decide
theorem iv_three : ∀ t : Fin k0_t3_loop.trips, (Scf.iv (1#32 : BitVec 32) 1#32 t).toInt = (t.val + 1 : ℕ) := by decide

theorem word_on (c : Dev nD) (t : Fin k0_t2_loop.trips) : ringAt (Scalar.addi (posW c) (Scf.iv 1#32 1#32 t)).toInt = turn ((t.val : ℤ) + 1) c := by
  have h0 := pos_nonneg c
  have h1 := pos_lt c
  have h2 : t.val < 31 := trips_two ▸ t.isLt
  have h3 := iv_two t
  rw [toInt_add_small (by rw [posW_toInt]; omega) (by rw [posW_toInt]; omega) (by omega) (by omega), posW_toInt, h3]
  rfl
theorem word_back (c : Dev nD) (t : Fin k0_t3_loop.trips) : ringAt (Scalar.subi (posW c) (Scf.iv 1#32 1#32 t)).toInt = turn (-((t.val : ℤ) + 1)) c := by
  have h0 := pos_nonneg c
  have h1 := pos_lt c
  have h2 : t.val < 31 := trips_three ▸ t.isLt
  have h3 := iv_three t
  rw [toInt_sub_small (by rw [posW_toInt]; omega) (by rw [posW_toInt]; omega) (by omega) (by omega), posW_toInt, h3]
  rfl

/-- The devices other than the own one. -/
theorem turn_ne (c : Dev nD) {n : ℤ} (h : n % 32 ≠ 0) : turn n c ≠ c := fun e => h (by
  have e : turn n c = turn 0 c := e.trans (turn_zero c).symm
  exact (turn_eq_iff c).mp e)

section State

variable (A : Args F) (c : Dev nD)

/-- What is used up by copy `t` of the own row. -/
def OutTok (t : ℕ) : sProp 𝕄 :=
  iprop(dutyTok ER (dma c (outN t)) 0 0 ∗ reached ER (dma c (outN t)) 0 ∗ dutyTok ER (dma (turn ((t : ℤ) + 1) c) (inS c)) 0 0)
/-- The device whose row arrives in turn `t`. -/
def backDev (t : ℕ) : Dev nD := turn (-((t : ℤ) + 1)) c
def InTok (t : ℕ) : sProp 𝕄 :=
  iprop(atPos ER (dma c (inS (backDev c t))) 0 ∅ 0 ∗ cred (tallyAt (dma c (inS (backDev c t))) 100 rowN))
def InEnd (t : ℕ) : sProp 𝕄 := iprop(rowPts A fullShare c (backDev c t) ∗ atPos ER (dma c (inS (backDev c t))) 1 ∅ 0)
def OutFly (t : ℕ) : sProp 𝕄 := cred (tallyAt (dma c (outN t)) 0 rowN)
def OutAt (t : ℕ) : sProp 𝕄 := atPos ER (dma c (outN t)) 0 ∅ 0
def OutEnd (t : ℕ) : sProp 𝕄 := iprop(rowPts A (lentN t) c c ∗ atPos ER (dma c (outN t)) 1 ∅ 0)
/-- The own row of the other devices' tables, by number. -/
def Away (i : ℕ) : sProp 𝕄 := Row (turn (-(1 + (i : ℤ))) c) c

/-- Before copy `t` is started. -/
def PushAt (t : ℕ) : sProp 𝕄 :=
  iprop(RingPts (F := F) c ∗ bigSep (Finset.Ico t 31) (OutTok c) ∗ bigSep (Finset.Ico t 31) (fun i => rowPts A (lentN i) c c)
    ∗ bigSep (Finset.range (31 - t)) (Away c) ∗ bigSep (Finset.range t) (OutFly c) ∗ Owes c (rowDebt c (31 - t)))
/-- Before row `t` is waited for. -/
def RecvAt (t : ℕ) : sProp 𝕄 :=
  iprop(RingPts (F := F) c ∗ bigSep (Finset.Ico t 31) (InTok c) ∗ bigSep (Finset.range t) (InEnd A c) ∗ Owes c 0)
/-- Before copy `t` is waited for. -/
def SentAt (t : ℕ) : sProp 𝕄 :=
  iprop(bigSep (Finset.Ico t 31) (OutAt c) ∗ bigSep (Finset.Ico t 31) (OutFly c) ∗ bigSep (Finset.range t) (OutEnd A c) ∗ Owes c 0)

end State

variable {A : Args F} {K : GSem nD τ sig → ℕ} {κ : Key → ℕ} {c : Dev nD}

/-- A copy of the own row to device `n`. -/
def rowCopy (c : Dev nD) (s : DmaSem sig) (n : Dev nD) : P F :=
  .op (.enqueueDma (rowM c) (.remote (Dev.tc n) (rowM c) (.dma s)) (.dma (inS c))
    (View.wordExact_bits rfl) (View.wordExact_bits rfl) ⟨⟨rfl, Or.inl rfl⟩, trivial⟩) .ret
theorem rowPush_eq (v4 : BitVec 32) (t : Fin k0_t2_loop.trips) (u : Unit) : (rowPush v4 c t u : P F)
    = tabLoad (Scalar.addi v4 (Scf.iv 1#32 1#32 t)) fun v => .op (.assume (k0_chk32 v) (k0_chk32.dec v)) fun h =>
      rowCopy c (outS t) ⟨k0_dev51 v, k0_dev51_lt v h.down⟩ := rfl

theorem copy_step {Q : PUnit.{1} → sProp 𝕄} (t : Fin k0_t2_loop.trips) {O : Debt} (hn : turn ((t.val : ℤ) + 1) c ≠ c) :
    iprop(Ctx A K κ ∗ OutTok c t.val ∗ rowPts A (lentN t.val) c c ∗ Row (turn ((t.val : ℤ) + 1) c) c ∗ Owes c (O + rowT c t.val)
        ∗ (OutFly c t.val ∗ Owes c O -∗ Q ⟨⟩))
      ⊢ Run c (rowCopy c (outN t.val) (turn ((t.val : ℤ) + 1) c)) Q := by
  have ht : t.val < 31 := trips_two ▸ t.isLt
  unfold rowCopy Owes OutTok Row rowAny slot OutFly rowPts
  iintro ⟨#Hx, ⟨Ht1, #Hr1, Ht2⟩, Hs, ⟨⟨%g, Hd⟩, #Hr2⟩, ⟨%W, HO⟩, Hk⟩
  iapply (Rounds.wp_send_pointsTo 𝒱₀ ER (sched A) (c : Thread nD τ) none (c' := (turn ((t.val : ℤ) + 1) c : Thread nD τ)) (src := rowM c) (dst := rowM c)
      (sS := .dma (outN t.val)) (sem := .dma (inS c)) (q := lentN t.val) (fs := A.table) (fd := g)
      (κ₁ := K (dma c (outN t.val))) (κ₂ := K (dma (turn ((t.val : ℤ) + 1) c) (inS c)))
      (r₁ := 0) (r₂ := 0) (d₁ := 0) (d₂ := 0)
      (by unfold outN; rw [duties_out]; exact Finset.mem_singleton_self _)
      (by rw [duties_inn A _ c hn.symm]; exact Finset.mem_singleton_self _)
      100 0 rowN (row_credit c) (by unfold outN; exact amount_out A c _ _ _) (amount_inn A _ c _ _) O rfl (W := W)
      (by
        unfold outN
        rw [payload_out, rowM_set]; exact Entails.of_eq rfl)
      (by
        rw [payload_inn]; unfold rowPts
        rw [rowM_set]
        refine Entails.of_eq (pointsTo_congr fun i hi => ?_)
        rw [← rowM_set] at hi
        exact copied_eq (rowM c) g A.table i hi)) $$ [Hs Hd HO Ht1 Ht2]
  · isplitr; · iapply (ctx_own c (osem_out (Fin.ofNat 31 t.val))); iexact Hx
    isplitr; · iapply (show Ctx A K κ ⊢ cellInv ER (sched A) (K (dma (turn ((t.val : ℤ) + 1) c) (inS c))) (dma (turn ((t.val : ℤ) + 1) c) (inS c)) from ctx_own _ (osem_in c)); iexact Hx
    rw [rowM_set]
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply ret_step
  iapply Hk
  isplitl [Hc]; · iexact Hc
  iexists _; iexact HO

theorem push_trip (t : Fin k0_t2_loop.trips) :
    iprop(Ctx A K κ ∗ PushAt A c t) ⊢ Run c (rowPush (posW c) c t ⟨⟩) (fun _ => iprop(Ctx A K κ ∗ PushAt A c (t + 1))) := by
  have ht : t.val < 31 := trips_two ▸ t.isLt
  have hn : turn ((t.val : ℤ) + 1) c ≠ c := turn_ne c (by omega)
  rw [rowPush_eq]
  unfold PushAt
  rw [bigSep_Ico_succ_bot ht, bigSep_Ico_succ_bot ht, show 31 - t.val = (30 - t.val) + 1 by omega, bigSep_range_succ, bigSep_range_succ,
    show 31 - (t.val + 1) = 30 - t.val by omega, show rowDebt c (30 - t.val + 1) = rowDebt c (30 - t.val) + rowT c t.val by
      show _ + rowT c (30 - (30 - t.val)) = _; rw [show 30 - (30 - t.val) = t.val by omega]]
  have hA : (Away c (30 - t.val) : sProp 𝕄) = Row (turn ((t.val : ℤ) + 1) c) c := by
    unfold Away; congr 1; exact turn_congr (by omega) c
  rw [hA]
  iintro ⟨#Hx, HR, ⟨Ht, Hts⟩, ⟨Hs, Hss⟩, ⟨Hd, Hds⟩, Hf, HO⟩
  iapply (tab_at _ _ (word_on c t))
  isplitl [HR]; · iexact HR
  iintro HR
  iapply (wp_assume 𝒱₀ (c : Thread nD τ) none Set.univ (chk32 _))
  rw [show (⟨k0_dev51 (devW (turn ((t.val : ℤ) + 1) c)), k0_dev51_lt _ (chk32 _)⟩ : Dev nD) = turn ((t.val : ℤ) + 1) c from Fin.ext (dev51_devW _), outS_eq t]
  iapply (copy_step (A := A) (K := K) (κ := κ) t hn)
  isplitr; · iexact Hx
  isplitl [Ht]; · iexact Ht
  isplitl [Hs]; · iexact Hs
  isplitl [Hd]; · iexact Hd
  isplitl [HO]; · iexact HO
  iintro ⟨Hc, HO⟩
  isplitr; · iexact Hx
  isplitl [HR]; · iexact HR
  isplitl [Hts]; · iexact Hts
  isplitl [Hss]; · iexact Hss
  isplitl [Hds]; · iexact Hds
  isplitl [Hc Hf]
  · isplitl [Hc] <;> iassumption
  iexact HO

theorem pushes_step {Q : PUnit.{1} → sProp 𝕄} (k : P F) :
    iprop(Ctx A K κ ∗ PushAt A c 0 ∗ (PushAt A c 31 -∗ Run c k Q))
      ⊢ Run c (Scf.Loop.for k0_t2_loop k0_t2_ok ⟨⟩ (rowPush (posW c) c) >>= fun _ => k) Q := by
  iintro ⟨#Hx, HL, Hk⟩
  iapply (Scf.wp_for_bind frame (wpE (defs₀ (F := F)) 𝒱₀ (c : Thread nD τ) none) Set.univ k0_t2_loop.lb k0_t2_loop.ub k0_t2_loop.st k0_t2_ok ⟨⟩ _
    (fun t _ => iprop(Ctx A K κ ∗ PushAt A c t)) (fun t _ => push_trip t)) $$ [HL]
  · isplitr; · iexact Hx
    iexact HL
  iintro %_ ⟨-, HL⟩
  iapply Hk
  iexact HL

/-! ## The arrivals -/

theorem rowRecv_wait (c : Dev nD) (d : Dev nD) (R : PUnit.{1} → sProp 𝕄) :
    wpE (defs₀ (F := F)) 𝒱₀ (c : Thread nD τ) none Set.univ
      (.waitDma2 ((cc0_scratch6.slice (Rect.unit (s := S32) (k0_off67 (devW d)) S1.size (k0_off67_inb (devW d) (chk33 d)))).squeeze S_ squeezes_S1_S_).sem
      (rowR.slice (Rect.unit (s := S32x128) (k0_off68 (devW d)) S1x128.size (k0_off68_inb (devW d) (chk33 d))) (fun _ => rfl))
      (rowR.slice (Rect.unit (s := S32x128) (k0_off68 (devW d)) S1x128.size (k0_off68_inb (devW d) (chk33 d))) (fun _ => rfl))
      (View.wordExact_bits rfl) (View.wordExact_bits rfl)) R
      = waitSpec (c : Thread nD τ) Set.univ (.dma (inS d)) rowN R := by
  rw [← inS_eq' d]; exact wpE_waitDma2_eq 𝒱₀ (c : Thread nD τ) none Set.univ R

theorem recv_trip (t : Fin k0_t3_loop.trips) :
    iprop(Ctx A K κ ∗ RecvAt A c t) ⊢ Run c (rowRecv (posW c) t ⟨⟩) (fun _ => iprop(Ctx A K κ ∗ RecvAt A c (t + 1))) := by
  have ht : t.val < 31 := trips_three ▸ t.isLt
  have hn : backDev c t.val ≠ c := turn_ne c (by omega)
  unfold rowRecv RecvAt
  rw [bigSep_Ico_succ_bot ht, bigSep_range_succ]
  unfold InTok Owes
  iintro ⟨#Hx, HR, ⟨⟨Hat, Hc⟩, Hts⟩, Hd, ⟨%W, HO⟩⟩
  iapply (tab_at _ (backDev c t.val) (word_back c t))
  isplitl [HR]; · iexact HR
  iintro HR
  iapply (wp_assume 𝒱₀ (c : Thread nD τ) none Set.univ (chk33 _))
  iapply (Rounds.wp_wait_rest_token 𝒱₀ ER (sched A) (c : Thread nD τ) none (κ := K (dma c (inS (backDev c t.val))))
      (rowRecv_wait c (backDev c t.val)) (Set.mem_univ _) 100 (k' := rowN) (O := 0) (W := W) (R := 0) (m := 0) (T := ∅)
      ((Nat.zero_add rowN).trans (expect_inn A c _ hn).symm)) $$ [Hc HO Hat]
  · isplitr; · iapply (ctx_own c (osem_in (backDev c t.val))); iexact Hx
    isplitl [Hc]; · iexact Hc
    isplitl [HO]; · iexact HO
    isplitr; · iapply (ctx_wait c _ 100 (by omega) (Above.zero _)); iexact Hx
    iexact Hat
  iintro ⟨HO, Hat, -, Hpay⟩
  ihave Hp := (Entails.of_eq (rest_inn A c _ hn)) $$ Hpay
  iapply ret_step
  isplitr; · iexact Hx
  isplitl [HR]; · iexact HR
  isplitl [Hts]; · iexact Hts
  isplitr [HO]
  · isplitl [Hp Hat]
    · unfold InEnd
      isplitl [Hp] <;> iassumption
    iexact Hd
  iexists _; iexact HO

theorem recvs_step {Q : PUnit.{1} → sProp 𝕄} (k : P F) :
    iprop(Ctx A K κ ∗ RecvAt A c 0 ∗ (RecvAt A c 31 -∗ Run c k Q))
      ⊢ Run c (Scf.Loop.for k0_t3_loop k0_t3_ok ⟨⟩ (rowRecv (posW c)) >>= fun _ => k) Q := by
  iintro ⟨#Hx, HL, Hk⟩
  iapply (Scf.wp_for_bind frame (wpE (defs₀ (F := F)) 𝒱₀ (c : Thread nD τ) none) Set.univ k0_t3_loop.lb k0_t3_loop.ub k0_t3_loop.st k0_t3_ok ⟨⟩ _
    (fun t _ => iprop(Ctx A K κ ∗ RecvAt A c t)) (fun t _ => recv_trip t)) $$ [HL]
  · isplitr; · iexact Hx
    iexact HL
  iintro %_ ⟨-, HL⟩
  iapply Hk
  iexact HL

/-! ## The own copies read -/

theorem rowSent_wait (c : Dev nD) (t : Fin k0_t4_loop.trips) (R : PUnit.{1} → sProp 𝕄) :
    wpE (defs₀ (F := F)) 𝒱₀ (c : Thread nD τ) none Set.univ
      (.waitDma2 ((cc0_scratch5.slice (Rect.unit (s := S32) (k0_off69 t) S1.size (k0_off69_inb t))).squeeze S_ squeezes_S1_S_).sem
        (rowM c) (rowM c) (View.wordExact_bits rfl) (View.wordExact_bits rfl)) R
      = waitSpec (c : Thread nD τ) Set.univ (.dma (outN t.val)) rowN R := by
  rw [← outS_eq' t, ← row_credit c]; exact wpE_waitDma2_eq 𝒱₀ (c : Thread nD τ) none Set.univ R

theorem rest_outN (A : Args F) (c : Dev nD) (t : ℕ) :
    bigSep ((sched A).duties (dma c (outN t)) 0 \ ∅) (fun u => (sched A).payload (dma c (outN t)) 0 u) = rowPts A (lentN t) c c :=
  rest_out A c (Fin.ofNat 31 t)

theorem sent_trip (t : Fin k0_t4_loop.trips) :
    iprop(Ctx A K κ ∗ SentAt A c t) ⊢ Run c (rowSent c t ⟨⟩) (fun _ => iprop(Ctx A K κ ∗ SentAt A c (t + 1))) := by
  have ht : t.val < 31 := trips_four ▸ t.isLt
  unfold rowSent SentAt
  rw [bigSep_Ico_succ_bot ht, bigSep_Ico_succ_bot ht, bigSep_range_succ]
  unfold Owes
  rw [show (OutAt c t.val : sProp 𝕄) = atPos ER (dma c (outN t.val)) 0 ∅ 0 from rfl,
    show (OutFly c t.val : sProp 𝕄) = cred (tallyAt (dma c (outN t.val)) 0 rowN) from rfl]
  iintro ⟨#Hx, ⟨Hat, Hats⟩, ⟨Hc, Hcs⟩, Hd, ⟨%W, HO⟩⟩
  iapply (Rounds.wp_wait_rest_token 𝒱₀ ER (sched A) (c : Thread nD τ) none (κ := K (dma c (outN t.val)))
      (rowSent_wait c t) (Set.mem_univ _) 0 (k' := rowN) (O := 0) (W := W) (R := 0) (m := 0) (T := ∅)
      ((Nat.zero_add rowN).trans (expect_out A c (Fin.ofNat 31 t.val)).symm)) $$ [Hc HO Hat]
  · isplitr; · iapply (ctx_own c (osem_out (Fin.ofNat 31 t.val))); iexact Hx
    isplitl [Hc]; · iexact Hc
    isplitl [HO]; · iexact HO
    isplitr; · iapply (ctx_wait c _ 0 (by omega) (Above.zero _)); iexact Hx
    iexact Hat
  iintro ⟨HO, Hat, -, Hpay⟩
  ihave Hp := (Entails.of_eq (rest_outN A c t.val)) $$ Hpay
  iapply ret_step
  isplitr; · iexact Hx
  isplitl [Hats]; · iexact Hats
  isplitl [Hcs]; · iexact Hcs
  isplitr [HO]
  · isplitl [Hp Hat]
    · unfold OutEnd
      isplitl [Hp] <;> iassumption
    iexact Hd
  iexists _; iexact HO

theorem sents_loop {Q : PUnit.{1} → sProp 𝕄} (k : P F) :
    iprop(Ctx A K κ ∗ SentAt A c 0 ∗ (SentAt A c 31 -∗ Run c k Q))
      ⊢ Run c (Scf.Loop.for k0_t4_loop k0_t4_ok ⟨⟩ (rowSent c) >>= fun _ => k) Q := by
  iintro ⟨#Hx, HL, Hk⟩
  iapply (Scf.wp_for_bind frame (wpE (defs₀ (F := F)) 𝒱₀ (c : Thread nD τ) none) Set.univ k0_t4_loop.lb k0_t4_loop.ub k0_t4_loop.st k0_t4_ok ⟨⟩ _
    (fun t _ => iprop(Ctx A K κ ∗ SentAt A c t)) (fun t _ => sent_trip t)) $$ [HL]
  · isplitr; · iexact Hx
    iexact HL
  iintro %_ ⟨-, HL⟩
  iapply Hk
  iexact HL

end Cert.KernelIdeal.Ring

end
-- ==== Proof.Cut.lean ====
/- Buffers cut into their parts, and families over the devices taken in ring order. -/
module

public import proofs.«01_k».proof.Proof.Rows
public import Idealize.ShloMosaic.Lib.Memref
public import Idealize.ShloMosaic.Lib.Ring

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ

/-! ## Buffers by rectangles -/

section Rects

variable {sp : Space} {s : Shape} {e : EltTy} (m : Memref sig .tc sp s e) (hm : m.IsWhole) {T : Type} [Fintype T] [DecidableEq T] (r : T → Rect s)
  (hd : ∀ t t', t ≠ t' → Disjoint (r t).set (r t').set) (hcov : ∀ i, ∃ t, i ∈ (r t).set) (c : Dev nD)
include hm hd hcov

theorem access_cover : Finset.biUnion (β := m.view.ty.Idx) (Finset.univ : Finset T) (fun t => (m.access (r t)).set) = Finset.univ := by
  ext i
  refine ⟨fun _ => Finset.mem_univ _, fun _ => ?_⟩
  have hi : i ∈ m.view.set := hm.set_eq_univ ▸ Finset.mem_univ i
  obtain ⟨x, -, rfl⟩ := Finset.mem_map.mp hi
  obtain ⟨t, ht⟩ := hcov x
  exact Finset.mem_biUnion.mpr ⟨t, Finset.mem_univ _, by
    show _ ∈ (m.view.slice (r t)).set
    rw [View.set_slice]; exact Finset.mem_map_of_mem _ ht⟩

omit hm hcov [Fintype T] in
theorem access_disjoint (t t' : T) (h : t ≠ t') : Disjoint (m.access (r t)).set (m.access (r t')).set := by
  show Disjoint (m.view.slice (r t)).set (m.view.slice (r t')).set
  rw [View.set_slice, View.set_slice]; exact (Finset.disjoint_map _).mpr (hd t t' h)

/-- A whole buffer is its parts. -/
theorem pts_rects (q : PosShare TreeShare) (g : Buf (Elt F) (m.view.loc (c : Thread nD τ))) :
    (m.view.loc (c : Thread nD τ) ↦[Finset.univ]{q} g : sProp 𝕄)
      = bigSep Finset.univ fun t => m.view.loc (c : Thread nD τ) ↦[(m.access (r t)).set]{q} g := by
  rw [← access_cover m hm r hd hcov]
  exact pointsTo_biUnion _ _ fun t _ t' _ h => access_disjoint m r hd t t' h

/-- Parts at contents not chosen are a whole buffer at contents not chosen. -/
theorem any_rects (f₀ : Buf (Elt F) (m.view.loc (c : Thread nD τ))) :
    (bigSep Finset.univ fun t => slot (m.view.loc (c : Thread nD τ)) (m.access (r t)).set)
      ⊢ (iprop(∃ g, m.view.loc (c : Thread nD τ) ↦[Finset.univ]{fullShare} g) : sProp 𝕄) := by
  unfold slot
  refine (bigSep_exists_pi Finset.univ (fun t (f : Buf (Elt F) (m.view.loc (c : Thread nD τ))) =>
    (m.view.loc (c : Thread nD τ) ↦[(m.access (r t)).set]{fullShare} f : sProp 𝕄))).trans ?_
  rw [← access_cover m hm r hd hcov]
  iintro ⟨%fs, H⟩
  ihave H := (pointsTo_biUnion_join (ℓ := m.view.loc (c : Thread nD τ)) Finset.univ (fun t => (m.access (r t)).set) fs f₀ fun t _ t' _ h => access_disjoint m r hd t t' h) $$ H
  icases H with ⟨%g, -, H⟩
  iexists g; iexact H

/-- A whole buffer gives its parts at contents not chosen. -/
theorem rects_any (g : Buf (Elt F) (m.view.loc (c : Thread nD τ))) :
    (m.view.loc (c : Thread nD τ) ↦[Finset.univ]{fullShare} g : sProp 𝕄)
      ⊢ bigSep Finset.univ fun t => slot (m.view.loc (c : Thread nD τ)) (m.access (r t)).set := by
  rw [pts_rects m hm r hd hcov c fullShare g]
  refine BI.bigSep_mono fun t _ => ?_
  exact (show (m.view.loc (c : Thread nD τ) ↦[(m.access (r t)).set]{fullShare} g) ⊢ (slot (m.view.loc (c : Thread nD τ)) (m.access (r t)).set : sProp 𝕄) by
    unfold slot; iintro H; iexists g; iexact H)

end Rects

/-! ### The send and receive buffers by slots -/

theorem slot_disj (t t' : Fin 4 × Fin 2) (h : t ≠ t') : Disjoint (slotRect t.1 t.2).set (slotRect t'.1 t'.2).set := by
  rw [Finset.disjoint_left]
  intro i hi hi'
  rw [Rect.mem_set_unit] at hi hi'
  have h0 : t.1.val ≤ (i 0).val ∧ (i 0).val < t.1.val + 1 := hi 0
  have h1 : t.2.val ≤ (i 1).val ∧ (i 1).val < t.2.val + 1 := hi 1
  have h0' : t'.1.val ≤ (i 0).val ∧ (i 0).val < t'.1.val + 1 := hi' 0
  have h1' : t'.2.val ≤ (i 1).val ∧ (i 1).val < t'.2.val + 1 := hi' 1
  exact h (Prod.ext (Fin.ext (by omega)) (Fin.ext (by omega)))
theorem slot_cover (i : S4x2x128x2048.Idx) : ∃ t : Fin 4 × Fin 2, i ∈ (slotRect t.1 t.2).set := by
  refine ⟨(i 0, i 1), ?_⟩
  rw [Rect.mem_set_unit]
  intro a
  have h2 : (i 2).val < 128 := (i 2).isLt
  have h3 : (i 3).val < 2048 := (i 3).isLt
  match a with
  | ⟨0, _⟩ => exact ⟨Nat.le_refl _, Nat.lt_succ_self _⟩
  | ⟨1, _⟩ => exact ⟨Nat.le_refl _, Nat.lt_succ_self _⟩
  | ⟨2, _⟩ => exact ⟨Nat.zero_le _, by show (i 2).val < 0 + 128; omega⟩
  | ⟨3, _⟩ => exact ⟨Nat.zero_le _, by show (i 3).val < 0 + 2048; omega⟩

/-! ### The table by rows, the result by streams -/

theorem row_disj (t t' : Dev nD) (h : t ≠ t') : Disjoint (rowRect t).set (rowRect t').set := by
  rw [Finset.disjoint_left]
  intro i hi hi'
  rw [Rect.mem_set_unit] at hi hi'
  have h0 : t.val ≤ (i 0).val ∧ (i 0).val < t.val + 1 := hi 0
  have h0' : t'.val ≤ (i 0).val ∧ (i 0).val < t'.val + 1 := hi' 0
  exact h (Fin.ext (by omega))
theorem row_cover (i : S32x128.Idx) : ∃ t : Dev nD, i ∈ (rowRect t).set := by
  refine ⟨(i 0), ?_⟩
  rw [Rect.mem_set_unit]
  intro a
  have h1 : (i 1).val < 128 := (i 1).isLt
  match a with
  | ⟨0, _⟩ => exact ⟨Nat.le_refl _, Nat.lt_succ_self _⟩
  | ⟨1, _⟩ => exact ⟨Nat.zero_le _, by show (i 1).val < 0 + 128; omega⟩

/-- The stream that a column of the result belongs to. -/
def jOf (k : ℕ) : Fin 4 := if k < 2048 then 0 else if k < 4096 then 2 else if k < 6144 then 1 else 3
theorem col_jOf (j : Fin 4) (k : ℕ) (h : col j ≤ k) (h' : k < col j + 2048) : jOf k = j := by
  unfold jOf
  revert h h'
  match j with
  | 0 => intro h h'; have h' : k < 0 + 2048 := h'; rw [if_pos (by omega)]
  | 1 => intro h h'; have h : 4096 ≤ k := h; have h' : k < 4096 + 2048 := h'; rw [if_neg (by omega), if_neg (by omega), if_pos (by omega)]
  | 2 => intro h h'; have h : 2048 ≤ k := h; have h' : k < 2048 + 2048 := h'; rw [if_neg (by omega), if_pos (by omega)]
  | 3 => intro h h'; have h : 6144 ≤ k := h; rw [if_neg (by omega), if_neg (by omega), if_neg (by omega)]
theorem jOf_col (k : ℕ) (h : k < 8192) : col (jOf k) ≤ k ∧ k < col (jOf k) + 2048 := by
  unfold jOf
  split
  · show 0 ≤ k ∧ k < 0 + 2048; omega
  · split
    · show 2048 ≤ k ∧ k < 2048 + 2048; omega
    · split
      · show 4096 ≤ k ∧ k < 4096 + 2048; omega
      · show 6144 ≤ k ∧ k < 6144 + 2048; omega

theorem col_disj (t t' : Fin 4) (h : t ≠ t') : Disjoint (colRect t).set (colRect t').set := by
  rw [Finset.disjoint_left]
  intro i hi hi'
  rw [Rect.mem_set_unit] at hi hi'
  have h0 : col t ≤ (i 1).val ∧ (i 1).val < col t + 2048 := hi 1
  have h0' : col t' ≤ (i 1).val ∧ (i 1).val < col t' + 2048 := hi' 1
  exact h ((col_jOf t _ h0.1 h0.2).symm.trans (col_jOf t' _ h0'.1 h0'.2))
theorem col_cover (i : S128x8192.Idx) : ∃ t : Fin 4, i ∈ (colRect t).set := by
  refine ⟨jOf (i 1).val, ?_⟩
  rw [Rect.mem_set_unit]
  intro a
  have h0 : (i 0).val < 128 := (i 0).isLt
  match a with
  | ⟨0, _⟩ => exact ⟨Nat.zero_le _, by show (i 0).val < 0 + 128; omega⟩
  | ⟨1, _⟩ => exact jOf_col _ (i 1).isLt

/-! ## The devices in ring order -/

/-- The device `p` positions back. -/
def backEquiv (c : Dev nD) : Fin 32 ≃ Dev nD :=
  Equiv.ofBijective (fun p => turn (-(p.val : ℤ)) c) (Finite.injective_iff_bijective.mp fun a b h => by
    have h := (turn_eq_iff c).mp h
    have := a.isLt
    have := b.isLt
    exact Fin.ext (by omega))
/-- The device `p` positions on. -/
def aheadEquiv (c : Dev nD) : Fin 32 ≃ Dev nD :=
  Equiv.ofBijective (fun p => turn (p.val : ℤ) c) (Finite.injective_iff_bijective.mp fun a b h => by
    have h := (turn_eq_iff c).mp h
    have := a.isLt
    have := b.isLt
    exact Fin.ext (by omega))

theorem bigSep_numbers (Φ : Fin 32 → sProp 𝕄) (Ψ : ℕ → sProp 𝕄) (h : ∀ p : Fin 32, Ψ p.val = Φ p) :
    bigSep Finset.univ Φ = iprop(Ψ 0 ∗ bigSep (Finset.Ico 0 31) fun t => Ψ (t + 1)) := by
  rw [Idealize.ShloMosaic.Ring.bigSep_fin_eq_range 32 Φ Ψ (fun t ht => h ⟨t, ht⟩), Finset.range_eq_Ico, bigSep_Ico_succ_bot (by decide), bigSep_from_one 31]

theorem bigSep_back (c : Dev nD) (Φ : Dev nD → sProp 𝕄) :
    bigSep Finset.univ Φ = iprop(Φ c ∗ bigSep (Finset.Ico 0 31) fun t => Φ (backDev c t)) := by
  rw [bigSep_univ_equiv (backEquiv c), bigSep_numbers (fun p => Φ (backEquiv c p)) (fun n => Φ (turn (-(n : ℤ)) c)) (fun p => rfl)]
  rw [show turn (-((0 : ℕ) : ℤ)) c = c from turn_zero c]
  rfl
/-- The device that copy `t` of the own row goes to. -/
def aheadDev (c : Dev nD) (t : ℕ) : Dev nD := turn ((t : ℤ) + 1) c
theorem bigSep_ahead (c : Dev nD) (Φ : Dev nD → sProp 𝕄) :
    bigSep Finset.univ Φ = iprop(Φ c ∗ bigSep (Finset.Ico 0 31) fun t => Φ (aheadDev c t)) := by
  rw [bigSep_univ_equiv (aheadEquiv c), bigSep_numbers (fun p => Φ (aheadEquiv c p)) (fun n => Φ (turn (n : ℤ) c)) (fun p => rfl)]
  rw [show turn ((0 : ℕ) : ℤ) c = c from turn_zero c]
  rfl

end Cert.KernelIdeal.Ring

end
-- ==== Proof.Finish.lean ====
/- The end of the body: the maxima exchanged, and the result written. -/
module

public import proofs.«01_k».proof.Proof.Cut

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ

theorem outR_whole : outR.IsWhole := Memref.isWhole_whole _
theorem rowR_whole : rowR.IsWhole := Memref.isWhole_whole _

/-! ## The result -/

namespace Args

variable (A : Args F)

/-- The table of maxima as it is read whole. -/
def seen : FVec F S32x128 .f32 :=
  (rowR.access (Rect.unit (s := S32x128) ![0, 0] S32x128.size inb_S32x128_S32x128_0_0)).read (Elt F) A.table
/-- The columns of stream `j` of device `c`'s result. -/
def res (c : Dev nD) (j : Fin 4) : FVec F S128x2048 .f32 := k0_pay85 (A.sum c j) A.seen
/-- Device `c`'s result. -/
def out (c : Dev nD) : BufTy.Contents (Elt F) ⟨S128x8192, .f32⟩ := fun i =>
  A.res c (jOf (i 1).val) (fun a => match a with
    | ⟨0, _⟩ => i 0
    | ⟨1, _⟩ => ⟨(i 1).val - col (jOf (i 1).val), by
        have h := jOf_col (i 1).val (i 1).isLt
        show (i 1).val - col (jOf (i 1).val) < 2048
        omega⟩)

theorem out_at (c : Dev nD) (j : Fin 4) (i : S128x8192.Idx) (x : S128x2048.Idx) (h0 : (i 0).val = (x 0).val) (h1 : (i 1).val = col j + (x 1).val) :
    A.out c i = A.res c j x := by
  have hx : (x 1).val < 2048 := (x 1).isLt
  obtain rfl : jOf (i 1).val = j := col_jOf j _ (by omega) (by omega)
  unfold out
  congr 1
  funext a
  match a with
  | ⟨0, _⟩ => exact Fin.ext h0
  | ⟨1, _⟩ => exact Fin.ext (by show (i 1).val - col (jOf (i 1).val) = (x 1).val; omega)

theorem out_read (c : Dev nD) (j : Fin 4) : (outR.access (colRect j)).read (Elt F) (A.out c) = A.res c j := by
  funext x
  show A.out c ((colRect j).emb x) = A.res c j x
  refine A.out_at c j _ x ?_ ?_
  · show 0 + 1 * (x 0).val = (x 0).val
    omega
  · show col j + 1 * (x 1).val = col j + (x 1).val
    omega

theorem eq_out (c : Dev nD) (j : Fin 4) {f : BufTy.Contents (Elt F) ⟨S128x8192, .f32⟩}
    (h : (outR.access (colRect j)).read (Elt F) f = A.res c j) : ∀ i ∈ (outR.access (colRect j)).set, f i = A.out c i := by
  intro i hi
  rw [← A.out_read c j] at h
  obtain ⟨x, rfl⟩ := View.exists_of_mem_set_slice hi
  exact View.eq_of_read_eq (v := outR.access (colRect j)) (x := x) (congrFun h x)

end Args

variable {A : Args F} {K : GSem nD τ sig → ℕ} {κ : Key → ℕ} {c : Dev nD}

/-! ## Single steps -/

/-- The columns of stream `j` of the result, at contents not chosen; as in the result. -/
def outAny (c : Dev nD) (j : Fin 4) : sProp 𝕄 := slot (outR.view.loc (c : Thread nD τ)) (outR.access (colRect j)).set
def outPts (A : Args F) (c : Dev nD) (j : Fin 4) : sProp 𝕄 :=
  outR.view.loc (c : Thread nD τ) ↦[(outR.access (colRect j)).set]{fullShare} A.out c

theorem emit_step {Q : PUnit.{1} → sProp 𝕄} (j : Fin 4) (u : FVec F S128x2048 .f32) (hu : u = A.res c j) (k : P F) :
    iprop(outAny c j ∗ (outPts A c j -∗ Run c k Q)) ⊢ Run c (emit j u k) Q := by
  unfold emit outAny slot
  iintro ⟨⟨%f, Hs⟩, Hk⟩
  iapply (wp_load_rect (Val := Elt F) 𝒱₀ (c : Thread nD τ) none Set.univ (m := outR) (r := colRect j) (Finset.Subset.refl _)) $$ Hs
  iintro Hs
  iapply (wp_store (Val := Elt F) 𝒱₀ (c : Thread nD τ) none Set.univ (m := outR) (r := colRect j) (Mk := Finset.univ)
    (S := (outR.access (colRect j)).set) (Finset.Subset.refl _)) $$ Hs
  iintro Hs
  iapply Hk
  unfold outPts
  iapply (Entails.of_eq (pointsTo_congr (A.eq_out c j ((View.read_write_univ f u).trans hu))))
  iexact Hs

/-- The own row put in the table. -/
def putRow (o : Fin 2 → Nat) (hi : ∀ a, o a + S1x128.size a ≤ S32x128.size a) (u : FVec F S1x128 .f32) (k : P F) : P F :=
  .op (.load rowR (Rect.unit (s := S32x128) o S1x128.size hi).toLoadRect (View.loadsAt_vmem h_S1x128)) fun _ =>
  .op (.store rowR (Rect.unit (s := S32x128) o S1x128.size hi) u Finset.univ (View.stores_vmem_bits_univ h_S1x128 rfl) (.inl rfl)) fun _ => k

theorem putRow_step {Q : PUnit.{1} → sProp 𝕄} {o : Fin 2 → Nat} (ho : o = ![c.val, 0]) (hi : ∀ a, o a + S1x128.size a ≤ S32x128.size a)
    (u : FVec F S1x128 .f32) (hu : u = A.row c) (k : P F) :
    iprop(rowAny c c ∗ (rowPts A fullShare c c -∗ Run c k Q)) ⊢ Run c (putRow o hi u k) Q := by
  subst ho
  unfold putRow rowAny slot
  iintro ⟨⟨%f, Hs⟩, Hk⟩
  iapply (wp_load_rect (Val := Elt F) 𝒱₀ (c : Thread nD τ) none Set.univ (m := rowR) (r := rowRect c) (Finset.Subset.refl _)) $$ Hs
  iintro Hs
  iapply (wp_store (Val := Elt F) 𝒱₀ (c : Thread nD τ) none Set.univ (m := rowR) (r := rowRect c) (Mk := Finset.univ)
    (S := (rowR.access (rowRect c)).set) (Finset.Subset.refl _)) $$ Hs
  iintro Hs
  iapply Hk
  unfold rowPts
  iapply (Entails.of_eq (pointsTo_congr (A.eq_table c ((View.read_write_univ f u).trans hu))))
  iexact Hs

theorem finish_eq (v4 : BitVec 32) (y : Fin 4 → FVec F S128x2048 .f32) : finish v4 c y
    = putRow (k0_off61 c) (k0_off61_inb c) (k0_pay83 (y 0) (y 1) (y 2) (y 3))
      (Scf.Loop.for k0_t2_loop k0_t2_ok ⟨⟩ (rowPush v4 c) >>= fun _ =>
       Scf.Loop.for k0_t3_loop k0_t3_ok ⟨⟩ (rowRecv v4) >>= fun _ =>
       Scf.Loop.for k0_t4_loop k0_t4_ok ⟨⟩ (rowSent c) >>= fun _ =>
       .op (.load rowR (Rect.unit (s := S32x128) ![0, 0] S32x128.size inb_S32x128_S32x128_0_0).toLoadRect (View.loadsAt_vmem h_S32x128)) fun a =>
       emit 0 (k0_pay85 (y 0) a) <| emit 1 (k0_pay85 (y 1) a) <| emit 2 (k0_pay85 (y 2) a) <| emit 3 (k0_pay85 (y 3) a) <| .ret ⟨⟩) := rfl

/-! ## The own row lent out -/

/-- The shares of the own row by number. -/
def lentM (t : ℕ) : PosShare TreeShare := lent (Fin.ofNat 32 t)
theorem lentM_eq (t : ℕ) (h : t < 31) : lentM t = lentN t := by
  unfold lentM lentN
  congr 1
  apply Fin.ext
  show t % 32 = t % 31
  omega

theorem own_lent (c : Dev nD) : (rowPts A fullShare c c : sProp 𝕄)
    = iprop(rowPts A (lentM 31) c c ∗ bigSep (Finset.Ico 0 31) fun t => rowPts A (lentN t) c c) := by
  have h : (rowPts A fullShare c c : sProp 𝕄) = bigSep Finset.univ fun i : Fin 32 => rowPts A (lent i) c c :=
    ShareLeaves.pointsTo_leaves _ _ 5 fullShare
  rw [h, Idealize.ShloMosaic.Ring.bigSep_fin_eq_range 32 _ (fun t => rowPts A (lentM t) c c) (fun t ht => by
      show rowPts A (lentM t) c c = rowPts A (lent ⟨t, ht⟩) c c
      congr 1; unfold lentM; congr 1; apply Fin.ext; show t % 32 = t; omega), bigSep_range_succ, Finset.range_eq_Ico,
    bigSep_congr (Ψ := fun t => rowPts A (lentN t) c c) fun t ht => by rw [lentM_eq t (Finset.mem_Ico.mp ht).2]]

theorem all_rows (c : Dev nD) :
    iprop(rowPts A fullShare c c ∗ bigSep (Finset.Ico 0 31) fun t => rowPts A fullShare c (backDev c t))
      = (rowR.view.loc (c : Thread nD τ) ↦[Finset.univ]{fullShare} A.table : sProp 𝕄) := by
  rw [pts_rects rowR rowR_whole rowRect row_disj row_cover c fullShare A.table]
  exact (bigSep_back c fun d => rowPts A fullShare c d).symm

/-! ## The whole end -/

/-- What the exchange of rows uses up. -/
def RowToks (c : Dev nD) : sProp 𝕄 :=
  iprop(bigSep (Finset.Ico 0 31) (OutTok c) ∗ bigSep (Finset.Ico 0 31) (OutAt c) ∗ bigSep (Finset.Ico 0 31) (InTok c))
/-- The semaphores of the exchange at its end. -/
def RowEnd (c : Dev nD) : sProp 𝕄 :=
  iprop((bigSep (Finset.Ico 0 31) fun t => atPos ER (dma c (outN t)) 1 ∅ 0)
    ∗ bigSep (Finset.Ico 0 31) fun t => atPos ER (dma c (inS (backDev c t))) 1 ∅ 0)
/-- The table, and the result, at the end. -/
def TablePts (A : Args F) (c : Dev nD) : sProp 𝕄 := rowR.view.loc (c : Thread nD τ) ↦[Finset.univ]{fullShare} A.table
def OutPts (A : Args F) (c : Dev nD) : sProp 𝕄 := outR.view.loc (c : Thread nD τ) ↦[Finset.univ]{fullShare} A.out c

theorem extra_away (c : Dev nD) : (Extra 30 c : sProp 𝕄) = bigSep (Finset.range 31) (Away c) := by
  unfold Extra
  refine bigSep_congr fun i _ => ?_
  unfold Away
  congr 1
  conv_rhs => rw [← turn_zero c]
  exact turn_congr (by decide) c

theorem outEnd_split (c : Dev nD) : (bigSep (Finset.range 31) (OutEnd A c) : sProp 𝕄)
    = iprop((bigSep (Finset.Ico 0 31) fun t => rowPts A (lentN t) c c) ∗ bigSep (Finset.Ico 0 31) fun t => atPos ER (dma c (outN t)) 1 ∅ 0) := by
  unfold OutEnd; rw [bigSep_sep', Finset.range_eq_Ico]
theorem inEnd_split (c : Dev nD) : (bigSep (Finset.range 31) (InEnd A c) : sProp 𝕄)
    = iprop((bigSep (Finset.Ico 0 31) fun t => rowPts A fullShare c (backDev c t))
      ∗ bigSep (Finset.Ico 0 31) fun t => atPos ER (dma c (inS (backDev c t))) 1 ∅ 0) := by
  unfold InEnd; rw [bigSep_sep', Finset.range_eq_Ico]

theorem exchange_step {Q : PUnit.{1} → sProp 𝕄} (k : P F) :
    iprop(Ctx A K κ ∗ RingPts (F := F) c ∗ rowPts A fullShare c c ∗ Extra 30 c ∗ RowToks c ∗ Owes c (debt c 0)
        ∗ (RingPts (F := F) c ∗ TablePts A c ∗ RowEnd c ∗ Owes c 0 -∗ Run c k Q))
      ⊢ Run c (Scf.Loop.for k0_t2_loop k0_t2_ok ⟨⟩ (rowPush (posW c) c) >>= fun _ =>
       Scf.Loop.for k0_t3_loop k0_t3_ok ⟨⟩ (rowRecv (posW c)) >>= fun _ =>
       Scf.Loop.for k0_t4_loop k0_t4_ok ⟨⟩ (rowSent c) >>= fun _ => k) Q := by
  unfold RowToks
  rw [own_lent, extra_away]
  iintro ⟨#Hx, HR, ⟨Hl, Hls⟩, Haw, ⟨Hot, Hoa, Hin⟩, HO, Hk⟩
  iapply (pushes_step (A := A) (K := K) (κ := κ))
  isplitr; · iexact Hx
  isplitl [HR Hls Haw Hot HO]
  · unfold PushAt
    isplitl [HR]; · iexact HR
    isplitl [Hot]; · iexact Hot
    isplitl [Hls]; · iexact Hls
    isplitl [Haw]; · iexact Haw
    isplitr
    · rw [Finset.range_zero, bigSep_empty]; iempintro
    iexact HO
  unfold PushAt
  iintro ⟨HR, -, -, -, Hfl, HO⟩
  iapply (recvs_step (A := A) (K := K) (κ := κ))
  isplitr; · iexact Hx
  isplitl [HR Hin HO]
  · unfold RecvAt
    isplitl [HR]; · iexact HR
    isplitl [Hin]; · iexact Hin
    isplitr
    · rw [Finset.range_zero, bigSep_empty]; iempintro
    iexact HO
  unfold RecvAt
  iintro ⟨HR, -, Hin, HO⟩
  iapply (sents_loop (A := A) (K := K) (κ := κ))
  isplitr; · iexact Hx
  isplitl [Hoa Hfl HO]
  · unfold SentAt
    isplitl [Hoa]; · iexact Hoa
    isplitl [Hfl]; · rw [← Finset.range_eq_Ico]; iexact Hfl
    isplitr
    · rw [Finset.range_zero, bigSep_empty]; iempintro
    iexact HO
  unfold SentAt
  iintro ⟨-, -, Hoe, HO⟩
  ihave Hoe := (Entails.of_eq (outEnd_split (A := A) c)) $$ Hoe
  ihave Hin := (Entails.of_eq (inEnd_split (A := A) c)) $$ Hin
  icases Hoe with ⟨Hls, Ho⟩
  icases Hin with ⟨Hrows, Hi⟩
  iapply Hk
  isplitl [HR]; · iexact HR
  isplitl [Hl Hls Hrows]
  · unfold TablePts
    rw [← all_rows, own_lent]
    isplitl [Hl Hls]
    · isplitl [Hl] <;> iassumption
    iexact Hrows
  isplitl [Ho Hi]
  · unfold RowEnd
    isplitl [Ho] <;> iassumption
  iexact HO

theorem outAny_all (g : Buf (Elt F) (outR.view.loc (c : Thread nD τ))) :
    (outR.view.loc (c : Thread nD τ) ↦[Finset.univ]{fullShare} g : sProp 𝕄) ⊢ Four (outAny c) := by
  refine (rects_any outR outR_whole colRect col_disj col_cover c g).trans ?_
  rw [show (Finset.univ : Finset (Fin 4)) = {0, 1, 2, 3} by decide, bigSep_insert (by decide), bigSep_insert (by decide),
    bigSep_insert (by decide), bigSep_singleton]
  exact Entails.of_eq rfl
theorem outPts_all : (Four (outPts A c) : sProp 𝕄) ⊢ OutPts A c := by
  unfold OutPts
  rw [pts_rects outR outR_whole colRect col_disj col_cover c fullShare (A.out c),
    show (Finset.univ : Finset (Fin 4)) = {0, 1, 2, 3} by decide, bigSep_insert (by decide), bigSep_insert (by decide),
    bigSep_insert (by decide), bigSep_singleton]
  exact Entails.of_eq rfl

theorem finish_step {Q : PUnit.{1} → sProp 𝕄} :
    iprop(Ctx A K κ ∗ Mem A c ∗ rowAny c c ∗ Four (outAny c) ∗ Extra 30 c ∗ RowToks c ∗ Owes c (debt c 0)
        ∗ (Mem A c ∗ TablePts A c ∗ OutPts A c ∗ RowEnd c ∗ Owes c 0 -∗ Q ⟨⟩))
      ⊢ Run c (finish (posW c) c ![A.sum c 0, A.sum c 1, A.sum c 2, A.sum c 3]) Q := by
  rw [finish_eq]
  unfold Mem
  iintro ⟨#Hx, ⟨HR, HM⟩, Hrow, Hout, Hex, Htk, HO, Hk⟩
  iapply (putRow_step (A := A) (off61_eq c) (k0_off61_inb c) _ rfl)
  isplitl [Hrow]; · iexact Hrow
  iintro Hrow
  iapply (exchange_step (A := A) (K := K) (κ := κ))
  isplitr; · iexact Hx
  isplitl [HR]; · iexact HR
  isplitl [Hrow]; · iexact Hrow
  isplitl [Hex]; · iexact Hex
  isplitl [Htk]; · iexact Htk
  isplitl [HO]; · iexact HO
  iintro ⟨HR, Ht, He, HO⟩
  unfold TablePts
  iapply (wp_load_rect (Val := Elt F) 𝒱₀ (c : Thread nD τ) none Set.univ (m := rowR)
    (r := Rect.unit (s := S32x128) ![0, 0] S32x128.size inb_S32x128_S32x128_0_0) (S := Finset.univ) (f := A.table) (Finset.subset_univ _)) $$ Ht
  iintro Ht
  unfold Four
  icases Hout with ⟨H0, H1, H2, H3⟩
  iapply (emit_step (A := A) 0 _ rfl)
  isplitl [H0]; · iexact H0
  iintro H0
  iapply (emit_step (A := A) 1 _ rfl)
  isplitl [H1]; · iexact H1
  iintro H1
  iapply (emit_step (A := A) 2 _ rfl)
  isplitl [H2]; · iexact H2
  iintro H2
  iapply (emit_step (A := A) 3 _ rfl)
  isplitl [H3]; · iexact H3
  iintro H3
  iapply ret_step
  iapply Hk
  isplitl [HR HM]
  · isplitl [HR] <;> iassumption
  isplitl [Ht]; · iexact Ht
  isplitl [H0 H1 H2 H3]
  · iapply (outPts_all (A := A))
    unfold Four
    isplitl [H0]; · iexact H0
    isplitl [H1]; · iexact H1
    isplitl [H2]; · iexact H2
    iexact H3
  isplitl [He]; · iexact He
  iexact HO

end Cert.KernelIdeal.Ring

end
-- ==== Proof.Body.lean ====
/- The whole body, on one device. -/
module

public import proofs.«01_k».proof.Proof.Finish

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ

/-- What the protocol gives a device at the start, besides the argument blocks. -/
def Start (c : Dev nD) : sProp 𝕄 :=
  iprop(Gate c ∗ Four (Init c) ∗ rowAny c c ∗ RowToks c ∗ Owes c (debt₀ c))
/-- What the protocol leaves a device at the end. -/
def End (A : Args F) (c : Dev nD) : sProp 𝕄 := iprop(Four (Closed c) ∗ TablePts A c ∗ RowEnd c ∗ Owes c 0)

variable {A : Args F} {K : GSem nD τ sig → ℕ} {κ : Key → ℕ} {c : Dev nD}

theorem tail_step {Q : PUnit.{1} → sProp 𝕄} :
    iprop(Ctx A K κ ∗ LoopAt A c 13 ∗ rowAny c c ∗ Four (outAny c) ∗ RowToks c
        ∗ (Mem A c ∗ OutPts A c ∗ End A c -∗ Q ⟨⟩))
      ⊢ Run c (tail c (posW c) (nbr (turn (-1) c)) (nbr (turn 1 c))) Q := by
  unfold tail LoopAt
  iintro ⟨#Hx, ⟨HM, HS, HO⟩, Hrow, Hout, Htk, Hk⟩
  iapply (hop_mid (A := A) (K := K) (κ := κ) 29#32 27 (by decide) (by decide))
  isplitr; · iexact Hx
  isplitl [HM]; · iexact HM
  isplitl [HS]; · iexact HS
  isplitl [HO]; · iexact HO
  iintro ⟨HM, HS, HO⟩
  iapply (hop_last (A := A) (K := K) (κ := κ))
  isplitr; · iexact Hx
  isplitl [HM]; · iexact HM
  isplitl [HS]; · iexact HS
  isplitl [HO]; · iexact HO
  iintro ⟨HM, HS, HO⟩
  iapply (gather_step (A := A) (K := K) (κ := κ))
  isplitr; · iexact Hx
  isplitl [HM]; · iexact HM
  isplitl [HS]; · iexact HS
  isplitl [HO]; · iexact HO
  iintro ⟨HM, HS, Hex, HO⟩
  iapply (finish_step (A := A) (K := K) (κ := κ))
  isplitr; · iexact Hx
  isplitl [HM]; · iexact HM
  isplitl [Hrow]; · iexact Hrow
  isplitl [Hout]; · iexact Hout
  isplitl [Hex]; · iexact Hex
  isplitl [Htk]; · iexact Htk
  isplitl [HO]; · iexact HO
  iintro ⟨HM, Ht, Ho, He, HO⟩
  iapply Hk
  isplitl [HM]; · iexact HM
  isplitl [Ho]; · iexact Ho
  unfold End
  isplitl [HS]; · iexact HS
  isplitl [Ht]; · iexact Ht
  isplitl [He]; · iexact He
  iexact HO

theorem body_step {Q : PUnit.{1} → sProp 𝕄} :
    iprop(Ctx A K κ ∗ Mem A c ∗ PosPts (F := F) c ∗ Four (outAny c) ∗ Start c
        ∗ (Mem A c ∗ PosPts (F := F) c ∗ OutPts A c ∗ End A c ∗ atPos ER (reg c barS) 1 ∅ 0 -∗ Q ⟨⟩))
      ⊢ Run c body Q := by
  unfold body Start
  iintro ⟨#Hx, HM, HP, Hout, ⟨HG, HI, Hrow, Htk, HO⟩, Hk⟩
  iapply (meet_step (A := A) (K := K) (κ := κ))
  isplitr; · iexact Hx
  isplitl [HM]; · iexact HM
  isplitl [HP]; · iexact HP
  isplitl [HG]; · iexact HG
  isplitl [HI]; · iexact HI
  isplitl [HO]; · iexact HO
  iintro ⟨HM, HP, HS, HO, Hbar⟩
  iapply (hops_step (A := A) (K := K) (κ := κ))
  isplitr; · iexact Hx
  isplitl [HM]; · iexact HM
  isplitl [HS]; · iexact HS
  isplitl [HO]; · iexact HO
  iintro HL
  iapply (tail_step (A := A) (K := K) (κ := κ))
  isplitr; · iexact Hx
  isplitl [HL]; · iexact HL
  isplitl [Hrow]; · iexact Hrow
  isplitl [Hout]; · iexact Hout
  isplitl [Htk]; · iexact Htk
  iintro ⟨HM, Ho, He⟩
  iapply Hk
  isplitl [HM]; · iexact HM
  isplitl [HP]; · iexact HP
  isplitl [Ho]; · iexact Ho
  isplitl [He]; · iexact He
  iexact Hbar

end Cert.KernelIdeal.Ring

end
-- ==== Proof.Cells.lean ====
/- The semaphores and the duties by kind, and the launch's tokens sorted to those who use them. -/
module

public import proofs.«01_k».proof.Proof.Body

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ

/-! ## The own semaphores by kind -/

/-- Credits, sends, arrivals, rows out, rows in, and one that is not used. -/
abbrev OwnIx : Type := Fin 4 ⊕ (Fin 4 × Fin 2) ⊕ (Fin 4 × Fin 2) ⊕ Fin 31 ⊕ Fin 32 ⊕ Unit

def spare : DmaSem sig := show Fin 85 from 21

def ownSem : OwnIx → SemLoc sig
  | .inl j => .reg (credS j)
  | .inr (.inl p) => .dma (sendS p.1 p.2)
  | .inr (.inr (.inl p)) => .dma (recvS p.1 p.2)
  | .inr (.inr (.inr (.inl t))) => .dma (outC t)
  | .inr (.inr (.inr (.inr (.inl d)))) => .dma (inS d)
  | .inr (.inr (.inr (.inr (.inr _)))) => .dma spare

def ownNum : OwnIx → Fin 84
  | .inl j => ⟨j.val, by omega⟩
  | .inr (.inl p) => ⟨4 + (2 * p.1.val + p.2.val), by omega⟩
  | .inr (.inr (.inl p)) => ⟨12 + (2 * p.1.val + p.2.val), by omega⟩
  | .inr (.inr (.inr (.inl t))) => ⟨21 + t.val, by omega⟩
  | .inr (.inr (.inr (.inr (.inl d)))) => ⟨52 + d.val, by omega⟩
  | .inr (.inr (.inr (.inr (.inr _)))) => ⟨20, by omega⟩

theorem osem_num : ∀ k, osem (ownNum k) = ownSem k := by decide

theorem ownNum_inj : Function.Injective ownNum := by
  intro a b h
  have h := congrArg Fin.val h
  rcases a with a | ⟨a, a'⟩ | ⟨a, a'⟩ | a | a | a <;> rcases b with b | ⟨b, b'⟩ | ⟨b, b'⟩ | b | b | b <;>
    simp only [ownNum] at h <;>
    first
      | (exfalso; omega)
      | (obtain rfl : a = b := Fin.ext (by omega); obtain rfl : a' = b' := Fin.ext (by omega); rfl)
      | (obtain rfl : a = b := Fin.ext (by omega); rfl)
      | rfl

def ownEquiv : OwnIx ≃ Fin 84 :=
  Equiv.ofBijective ownNum ((Fintype.bijective_iff_injective_and_card _).mpr ⟨ownNum_inj, rfl⟩)

theorem own_split (Φ : SemLoc sig → sProp 𝕄) : (bigSep Finset.univ fun i : Fin 84 => Φ (osem i))
    = iprop((bigSep Finset.univ fun j => Φ (.reg (credS j))) ∗ (bigSep Finset.univ fun p : Fin 4 × Fin 2 => Φ (.dma (sendS p.1 p.2)))
      ∗ (bigSep Finset.univ fun p : Fin 4 × Fin 2 => Φ (.dma (recvS p.1 p.2))) ∗ (bigSep Finset.univ fun t : Fin 31 => Φ (.dma (outC t)))
      ∗ (bigSep Finset.univ fun d : Fin 32 => Φ (.dma (inS d))) ∗ Φ (.dma spare)) := by
  rw [bigSep_univ_equiv ownEquiv,
    show (fun a : OwnIx => Φ (osem (ownEquiv a))) = fun k => Φ (ownSem k) from funext fun k => congrArg Φ (osem_num k),
    bigSep_univ_sum, bigSep_univ_sum, bigSep_univ_sum, bigSep_univ_sum, bigSep_univ_sum]
  rw [bigSep_univ_at (fun b : Unit => Φ (ownSem (.inr (.inr (.inr (.inr (.inr b))))))) (), show (Finset.univ : Finset Unit).erase () = ∅ from rfl, BI.bigSep_empty]
  rw [show iprop(Φ (ownSem (.inr (.inr (.inr (.inr (.inr ())))))) ∗ (BI.emp : sProp 𝕄)) = Φ (.dma spare) from BI.equiv_iff.mp sep_emp]
  rfl

/-! ## The duties by kind -/

abbrev DutyIx : Type := Fin 2 ⊕ (Fin 4 × Fin 29) ⊕ (Fin 4 × Fin 31) ⊕ (Fin 4 × Fin 31) ⊕ Fin 31 ⊕ Fin 32

/-- The semaphore, the round and the number of a duty. -/
def dutyOf : DutyIx → SemLoc sig × ℕ × ℕ
  | .inl b => (.reg barS, 0, b.val)
  | .inr (.inl p) => (.reg (credS p.1), 0, p.2.val + 1)
  | .inr (.inr (.inl p)) => (.dma (sendS p.1 (par p.2.val)), p.2.val / 2, 0)
  | .inr (.inr (.inr (.inl p))) => (.dma (recvS p.1 (par p.2.val)), p.2.val / 2, 0)
  | .inr (.inr (.inr (.inr (.inl t)))) => (.dma (outC t), 0, 0)
  | .inr (.inr (.inr (.inr (.inr d)))) => (.dma (inS d), 0, 0)

theorem par_div {n n' : ℕ} (h : par n = par n') (h' : n / 2 = n' / 2) : n = n' := by
  have h : n % 2 = n' % 2 := congrArg Fin.val h
  omega

theorem dutyOf_inj : Function.Injective dutyOf := by
  intro a b h
  have hu : use (dutyOf a).1 = use (dutyOf b).1 := by rw [h]
  have hr : (dutyOf a).2.1 = (dutyOf b).2.1 := by rw [h]
  have hd : (dutyOf a).2.2 = (dutyOf b).2.2 := by rw [h]
  clear h
  rcases a with a | ⟨a, a'⟩ | ⟨a, a'⟩ | ⟨a, a'⟩ | a | a <;> rcases b with b | ⟨b, b'⟩ | ⟨b, b'⟩ | ⟨b, b'⟩ | b | b <;>
    simp only [dutyOf, use_bar, use_cred, use_send, use_recv, use_out, use_in, reduceCtorEq, Use.cred.injEq, Use.send.injEq,
      Use.recv.injEq, Use.out.injEq, Use.inn.injEq] at hu hr hd
  · rw [Fin.ext hd]
  · obtain rfl := hu; obtain rfl : a' = b' := Fin.ext (by omega); rfl
  · obtain ⟨rfl, hp⟩ := hu; obtain rfl : a' = b' := Fin.ext (par_div hp hr); rfl
  · obtain ⟨rfl, hp⟩ := hu; obtain rfl : a' = b' := Fin.ext (par_div hp hr); rfl
  · obtain rfl := hu; rfl
  · obtain rfl := hu; rfl

/-- Every duty of every device. -/
def allDuties : Finset (GSem nD τ sig × ℕ × ℕ) :=
  Finset.univ.map ⟨fun p : Dev nD × DutyIx => (((p.1 : Thread nD τ), (dutyOf p.2).1), (dutyOf p.2).2), fun a b h => by
    have h1 : a.1 = b.1 := congrArg (fun x : GSem nD τ sig × ℕ × ℕ => x.1.1.1) h
    have h2 : (dutyOf a.2).1 = (dutyOf b.2).1 := congrArg (fun x : GSem nD τ sig × ℕ × ℕ => x.1.2) h
    have h3 : (dutyOf a.2).2 = (dutyOf b.2).2 := congrArg (fun x : GSem nD τ sig × ℕ × ℕ => x.2) h
    exact Prod.ext h1 (dutyOf_inj (Prod.ext h2 h3))⟩

theorem bigSep_nums (n : ℕ) (Ψ : ℕ → sProp 𝕄) : (bigSep Finset.univ fun t : Fin n => Ψ t.val) = bigSep (Finset.Ico 0 n) Ψ := by
  rw [Idealize.ShloMosaic.Ring.bigSep_fin_eq_range n (fun t : Fin n => Ψ t.val) Ψ (fun _ _ => rfl), Finset.range_eq_Ico]

theorem bigSep_nums_from (n : ℕ) (Ψ : ℕ → sProp 𝕄) : (bigSep Finset.univ fun t : Fin n => Ψ (t.val + 1)) = bigSep (Finset.Ico 1 (n + 1)) Ψ := by
  rw [bigSep_nums n (fun t => Ψ (t + 1))]; exact (bigSep_from_one n Ψ).symm

/-- Over all devices, each stream's family may be told from another device's place. -/
theorem bigSep_turn (z : Fin 4 → ℤ) (Φ : Dev nD → Fin 4 → sProp 𝕄) :
    (bigSep Finset.univ fun c : Dev nD => bigSep Finset.univ fun j : Fin 4 => Φ c j)
      = bigSep Finset.univ fun c : Dev nD => bigSep Finset.univ fun j : Fin 4 => Φ (turn (z j) c) j := by
  rw [BI.bigSep_univ_comm, BI.bigSep_univ_comm (fun (c : Dev nD) (j : Fin 4) => Φ (turn (z j) c) j)]
  exact bigSep_congr fun j _ => bigSep_univ_equiv (turnEquiv (z j)) (fun c => Φ c j)

/-- The tokens of the duties that device `c` pays. -/
def Tokens (c : Dev nD) : sProp 𝕄 :=
  iprop((dutyTok ER (reg (turn (-1) c) barS) 0 0 ∗ dutyTok ER (reg (turn 1 c) barS) 0 1)
    ∗ (bigSep Finset.univ fun j => bigSep (Finset.Ico 1 30) fun k => dutyTok ER (reg (frm j c) (credS j)) 0 k)
    ∗ (bigSep Finset.univ fun j => bigSep (Finset.Ico 0 31) fun n => dutyTok ER (dma c (sendS j (par n))) (n / 2) 0)
    ∗ (bigSep Finset.univ fun j => bigSep (Finset.Ico 0 31) fun n => dutyTok ER (dma (nxt j c) (recvS j (par n))) (n / 2) 0)
    ∗ (bigSep (Finset.Ico 0 31) fun t => dutyTok ER (dma c (outN t)) 0 0)
    ∗ bigSep (Finset.Ico 0 31) fun t => dutyTok ER (dma (aheadDev c t) (inS c)) 0 0)

/-- The tokens of the duties on device `c`'s cells. -/
def CellToks (c : Dev nD) : sProp 𝕄 :=
  iprop((dutyTok ER (reg c barS) 0 0 ∗ dutyTok ER (reg c barS) 0 1)
    ∗ (bigSep Finset.univ fun j => bigSep (Finset.Ico 1 30) fun k => dutyTok ER (reg c (credS j)) 0 k)
    ∗ (bigSep Finset.univ fun j => bigSep (Finset.Ico 0 31) fun n => dutyTok ER (dma c (sendS j (par n))) (n / 2) 0)
    ∗ (bigSep Finset.univ fun j => bigSep (Finset.Ico 0 31) fun n => dutyTok ER (dma c (recvS j (par n))) (n / 2) 0)
    ∗ (bigSep (Finset.Ico 0 31) fun t => dutyTok ER (dma c (outN t)) 0 0)
    ∗ bigSep Finset.univ fun d : Dev nD => dutyTok ER (dma c (inS d)) 0 0)

theorem outN_val (t : Fin 31) : outN t.val = outC t := by
  unfold outN; rw [Fin.ofNat_val_eq_self]

theorem duties_eq : bigSep allDuties (fun x => (dutyTok ER x.1 x.2.1 x.2.2 : sProp 𝕄)) = bigSep Finset.univ fun c : Dev nD => CellToks c := by
  unfold allDuties
  rw [bigSep_map, bigSep_univ_prod]
  refine bigSep_congr fun c _ => ?_
  rw [bigSep_univ_sum, bigSep_univ_sum, bigSep_univ_sum, bigSep_univ_sum, bigSep_univ_sum, BI.bigSep_fin_two,
    bigSep_univ_prod, bigSep_univ_prod, bigSep_univ_prod]
  unfold CellToks
  congr 1

theorem duties_deal : (bigSep Finset.univ fun c : Dev nD => CellToks c) ⊢ (bigSep Finset.univ fun c : Dev nD => Tokens c : sProp 𝕄) := by
  unfold CellToks Tokens
  simp only [bigSep_sep']
  rw [bigSep_univ_equiv (turnEquiv (-1)) (fun c : Dev nD => (dutyTok ER (reg c barS) 0 0 : sProp 𝕄)),
    bigSep_univ_equiv (turnEquiv 1) (fun c : Dev nD => (dutyTok ER (reg c barS) 0 1 : sProp 𝕄)),
    bigSep_turn (fun j => -dir j) (fun c j => bigSep (Finset.Ico 1 30) fun k => (dutyTok ER (reg c (credS j)) 0 k : sProp 𝕄)),
    bigSep_turn (fun j => dir j) (fun c j => bigSep (Finset.Ico 0 31) fun n => (dutyTok ER (dma c (recvS j (par n))) (n / 2) 0 : sProp 𝕄)),
    BI.bigSep_univ_comm (fun (c : Dev nD) (d : Dev nD) => (dutyTok ER (dma c (inS d)) 0 0 : sProp 𝕄))]
  refine BIClass.sep_mono .rfl (BIClass.sep_mono .rfl (BIClass.sep_mono .rfl (BIClass.sep_mono .rfl (BIClass.sep_mono .rfl ?_))))
  refine bigSep_mono fun c _ => ?_
  rw [bigSep_ahead c (fun d => (dutyTok ER (dma d (inS c)) 0 0 : sProp 𝕄))]
  exact (show iprop(dutyTok ER (dma c (inS c)) 0 0 ∗ bigSep (Finset.Ico 0 31) fun t => dutyTok ER (dma (aheadDev c t) (inS c)) 0 0)
      ⊢ (bigSep (Finset.Ico 0 31) fun t => dutyTok ER (dma (aheadDev c t) (inS c)) 0 0 : sProp 𝕄) from by
    iintro ⟨-, H⟩; iexact H)

end Cert.KernelIdeal.Ring

end
-- ==== Proof.Deal.lean ====
/- The launch's other tokens sorted to those who use them: the write tokens of the slots and the wait credits. -/
module

public import proofs.«01_k».proof.Proof.Cells

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]
  rfl

/-- A family by number and stream may be read by stream first. -/
theorem bigSep_streams (Φ : ℕ → Fin 4 → sProp 𝕄) :
    (bigSep (Finset.Ico 0 31) fun n => bigSep Finset.univ (Φ n)) = bigSep Finset.univ fun j => bigSep (Finset.Ico 0 31) fun n => Φ n j := by
  rw [← bigSep_nums 31 fun n => bigSep Finset.univ (Φ n), BI.bigSep_univ_comm]
  exact bigSep_congr fun j _ => bigSep_nums 31 fun n => Φ n j

/-! ## The write tokens -/

/-- The writes made: to each device, on each stream, 31 messages. -/
def writeIx : (Dev nD × Fin 4) × Fin 31 ↪ Key × ℕ where
  toFun x := ((x.1.1, x.1.2, par x.2.val), x.2.val / 2)
  inj' x y h := by
    obtain ⟨⟨c, j⟩, n⟩ := x
    obtain ⟨⟨c', j'⟩, n'⟩ := y
    have h1 := congrArg (fun z : Key × ℕ => z.1.1) h
    have h2 := congrArg (fun z : Key × ℕ => z.1.2.1) h
    have h3 := congrArg (fun z : Key × ℕ => z.1.2.2) h
    have h4 := congrArg (fun z : Key × ℕ => z.2) h
    have h5 : n = n' := Fin.ext (par_div h3 h4)
    dsimp only at h1 h2
    rw [h1, h2, h5]

/-- The write tokens that device `c` spends on its messages of stream `j`. -/
def Writes (c : Dev nD) (j : Fin 4) : sProp 𝕄 :=
  bigSep (Finset.Ico 0 31) fun n => writeTok ES (nxt j c, j, par n) (n / 2 + 1)

theorem writes_deal :
    (bigSep ((Finset.univ : Finset Key) ×ˢ Finset.range 16) (fun x => writeTok ES x.1 (x.2 + 1)))
      ⊢ (bigSep Finset.univ fun c : Dev nD => bigSep Finset.univ (Writes c) : sProp 𝕄) := by
  have hsub : (Finset.univ.map writeIx) ⊆ (Finset.univ : Finset Key) ×ˢ Finset.range 16 := by
    intro x hx
    obtain ⟨y, -, rfl⟩ := Finset.mem_map.mp hx
    refine Finset.mem_product.mpr ⟨Finset.mem_univ _, Finset.mem_range.mpr ?_⟩
    show y.2.val / 2 < 16
    have := y.2.isLt
    omega
  refine (show (bigSep ((Finset.univ : Finset Key) ×ˢ Finset.range 16) (fun x => writeTok ES x.1 (x.2 + 1)) : sProp 𝕄) ⊢ _ from
    BI.bigSep_subset hsub).trans (Entails.of_eq ?_)
  rw [BI.bigSep_map, bigSep_univ_prod, bigSep_univ_prod]
  unfold Writes nxt
  rw [← bigSep_turn dir fun c j => bigSep (Finset.Ico 0 31) fun n => (writeTok ES (c, j, par n) (n / 2 + 1) : sProp 𝕄)]
  refine bigSep_congr fun c _ => bigSep_congr fun j _ => ?_
  exact bigSep_nums 31 fun n => (writeTok ES (c, j, par n) (n / 2 + 1) : sProp 𝕄)

/-! ## The wait credits -/

/-- Each device `d` owes a unit `n` at one cell of device `σ d`: the device `σ d` has the credit for it. -/
theorem cred_dealt (σ : Dev nD ≃ Dev nD) (sm : Dev nD → SemLoc sig) (i n : ℕ) (c : Dev nD) :
    Pipeline.launchCred (fun d => tallyAt ((σ d : Thread nD τ), sm d) i n) c
      ⊢ (cred (tallyAt ((c : Thread nD τ), sm (σ.symm c)) i n) : sProp 𝕄) := by
  refine (Pipeline.launchCred_elim _ c (sm (σ.symm c))).trans (Entails.of_eq (congrArg cred ?_))
  unfold tallyAt
  refine congrArg _ (Finsupp.ext fun u => ?_)
  rw [Pipeline.launchCredit_owing, Finset.sum_eq_single (σ.symm c)]
  · rw [← tallyAt, tallyAt_apply, Finsupp.single_apply]
    by_cases h : i = u
    · rw [if_pos h, if_pos ⟨by rw [Equiv.apply_symm_apply], h.symm⟩]
    · rw [if_neg h, if_neg fun h' => h h'.2.symm]
  · intro d _ hd
    rw [← tallyAt, tallyAt_apply, if_neg]
    rintro ⟨h, -⟩
    have h1 : c = σ d := congrArg (fun g : GSem nD τ sig => g.1.1) h
    exact hd (by rw [h1, Equiv.symm_apply_apply])
  · exact fun h => absurd (Finset.mem_univ _) h

theorem bar_cred (z : ℤ) (c : Dev nD) :
    Pipeline.launchCred (fun d => barT d z) c ⊢ (cred (tallyAt (reg c barS) 1 1) : sProp 𝕄) :=
  cred_dealt (turnEquiv z) (fun _ => .reg barS) 1 1 c
theorem msg_cred (j : Fin 4) (s : ℕ) (c : Dev nD) :
    Pipeline.launchCred (fun d => msgT d j s) c ⊢ (cred (tallyAt (dma c (recvS j (par s))) (2 * s + 3) slotN) : sProp 𝕄) :=
  cred_dealt (turnEquiv (dir j)) (fun _ => .dma (recvS j (par s))) _ _ c
theorem credit_cred (j : Fin 4) (s : ℕ) (hs : 1 ≤ s ∧ s ≤ 29) (c : Dev nD) :
    Pipeline.launchCred (fun d => creditT d j s) c ⊢ (cred (tallyAt (reg c (credS j)) (2 * s + 2) 1) : sProp 𝕄) := by
  unfold creditT
  rw [show (fun d : Dev nD => if 1 ≤ s ∧ s ≤ 29 then (tallyAt (reg (frm j d) (credS j)) (2 * s + 2) 1 : Debt) else 0)
    = fun d => tallyAt (reg (frm j d) (credS j)) (2 * s + 2) 1 from funext fun d => if_pos hs]
  exact cred_dealt (turnEquiv (-dir j)) (fun _ => .reg (credS j)) _ _ c
theorem row_cred (t : ℕ) (c : Dev nD) :
    Pipeline.launchCred (fun d => rowT d t) c ⊢ (cred (tallyAt (dma c (inS (backDev c t))) 100 rowN) : sProp 𝕄) :=
  cred_dealt (turnEquiv ((t : ℤ) + 1)) (fun d => .dma (inS d)) _ _ c

theorem rows_owed (c : Dev nD) : ∀ n, n ≤ 31 → Pipeline.launchCred (fun d => rowDebt d n) c
    ⊢ (bigSep (Finset.Ico (31 - n) 31) fun t => Pipeline.launchCred (fun d => rowT d t) c : sProp 𝕄)
  | 0, _ => by
    rw [Nat.sub_zero, Finset.Ico_self, BI.bigSep_empty]
    exact Entails.of_eq (Pipeline.launchCred_zero c)
  | n + 1, h => by
    rw [show 31 - (n + 1) = 30 - n from by omega, bigSep_Ico_succ_bot (a := 30 - n) (b := 31) (by omega), show 30 - n + 1 = 31 - n from by omega]
    show Pipeline.launchCred (fun d => rowDebt d n + rowT d (30 - n)) c ⊢ _
    rw [Pipeline.launchCred_add (fun d => rowDebt d n) (fun d => rowT d (30 - n))]
    have ih := rows_owed c n (by omega)
    iintro ⟨H, Hr⟩
    isplitl [Hr]; · iexact Hr
    iapply ih; iexact H

/-- What hop `s` of the other devices owes device `c`. -/
def HopCred (c : Dev nD) (s : ℕ) : sProp 𝕄 :=
  bigSep Finset.univ fun j : Fin 4 => iprop(Pipeline.launchCred (fun d => msgT d j s) c ∗ Pipeline.launchCred (fun d => creditT d j s) c)

theorem hops_owed (c : Dev nD) : ∀ n, n ≤ 31 → Pipeline.launchCred (fun d => debt d n) c
    ⊢ (iprop((bigSep (Finset.Ico (31 - n) 31) (HopCred c)) ∗ Pipeline.launchCred (fun d => rowDebt d 31) c) : sProp 𝕄)
  | 0, _ => by
    rw [Nat.sub_zero, Finset.Ico_self, BI.bigSep_empty]
    show Pipeline.launchCred (fun d => rowDebt d 31) c ⊢ _
    iintro H
    isplitr
    · iempintro
    · iexact H
  | n + 1, h => by
    rw [show 31 - (n + 1) = 30 - n from by omega, bigSep_Ico_succ_bot (a := 30 - n) (b := 31) (by omega), show 30 - n + 1 = 31 - n from by omega]
    show Pipeline.launchCred (fun d => debt d n + (msgT d 3 (30 - n) + creditT d 3 (30 - n)) + (msgT d 2 (30 - n) + creditT d 2 (30 - n))
      + (msgT d 1 (30 - n) + creditT d 1 (30 - n)) + (msgT d 0 (30 - n) + creditT d 0 (30 - n))) c ⊢ _
    simp only [Pipeline.launchCred_add]
    have ih := hops_owed c n (by omega)
    rw [show (HopCred c (30 - n) : sProp 𝕄) = _ from bigSep_four _]
    iintro ⟨⟨⟨⟨H, H3⟩, H2⟩, H1⟩, H0⟩
    ihave H := ih $$ H
    icases H with ⟨Ha, Hb⟩
    isplitr [Hb]
    · isplitr [Ha]
      · isplitl [H0]; · iexact H0
        isplitl [H1]; · iexact H1
        isplitl [H2]; · iexact H2
        iexact H3
      · iexact Ha
    · iexact Hb

/-- The wait credits of device `c`. -/
def Credits (c : Dev nD) : sProp 𝕄 :=
  iprop(cred (tallyAt (reg c barS) 1 2) ∗ (bigSep Finset.univ fun j => Coming c j 0)
    ∗ (bigSep Finset.univ fun j : Fin 4 => bigSep (Finset.Ico 1 30) fun k => cred (tallyAt (reg c (credS j)) (2 * k + 2) 1))
    ∗ bigSep (Finset.Ico 0 31) fun t => cred (tallyAt (dma c (inS (backDev c t))) 100 rowN))

theorem credits_deal (c : Dev nD) : Pipeline.launchCred debt₀ c ⊢ (Credits c : sProp 𝕄) := by
  show Pipeline.launchCred (fun d => debt d 31 + barT d 1 + barT d (-1)) c ⊢ _
  simp only [Pipeline.launchCred_add]
  have h31 := hops_owed (F := F) c 31 (by omega)
  have hr := rows_owed (F := F) c 31 (by omega)
  have hr' : (bigSep (Finset.Ico (31 - 31) 31) fun t => Pipeline.launchCred (fun d => rowT d t) c)
      ⊢ (bigSep (Finset.Ico 0 31) fun t => cred (tallyAt (dma c (inS (backDev c t))) 100 rowN) : sProp 𝕄) :=
    bigSep_mono fun t _ => row_cred t c
  have hh : bigSep (Finset.Ico (31 - 31) 31) (HopCred c)
      ⊢ (iprop((bigSep Finset.univ fun j => Coming c j 0)
        ∗ (bigSep Finset.univ fun j : Fin 4 => bigSep (Finset.Ico 1 30) fun k => cred (tallyAt (reg c (credS j)) (2 * k + 2) 1))) : sProp 𝕄) := by
    unfold HopCred
    rw [show Finset.Ico (31 - 31) 31 = Finset.Ico 0 31 from rfl, bigSep_streams, ← bigSep_sep']
    refine bigSep_mono fun j _ => ?_
    rw [bigSep_sep']
    refine BIClass.sep_mono (show _ ⊢ (Coming c j 0 : sProp 𝕄) from bigSep_mono fun m _ => msg_cred j m c) ?_
    refine (show _ ⊢ (bigSep (Finset.Ico 1 30) fun k => Pipeline.launchCred (fun d => creditT d j k) c : sProp 𝕄) from
      BI.bigSep_subset (by intro k; simp only [Finset.mem_Ico]; omega)).trans ?_
    exact bigSep_mono fun k hk => credit_cred j k (by have := Finset.mem_Ico.mp hk; omega) c
  unfold Credits
  iintro ⟨⟨H, Hb⟩, Hb'⟩
  ihave H := h31 $$ H
  icases H with ⟨Hh, Hr⟩
  ihave Hr := hr $$ Hr
  ihave Hr := hr' $$ Hr
  ihave Hh := hh $$ Hh
  icases Hh with ⟨Hm, Hc⟩
  ihave Hb := (bar_cred 1 c) $$ Hb
  ihave Hb' := (bar_cred (-1) c) $$ Hb'
  isplitl [Hb Hb']
  · have h2 : (iprop(cred (tallyAt (reg c barS) 1 1) ∗ cred (tallyAt (reg c barS) 1 1)) : sProp 𝕄) ⊢ cred (tallyAt (reg c barS) 1 2) :=
      (cred_add _ _).2.trans (Entails.of_eq (congrArg cred (tallyAt_add _ _ 1 1)))
    iapply h2
    isplitl [Hb]; · iexact Hb
    iexact Hb'
  isplitl [Hm]; · iexact Hm
  isplitl [Hc]; · iexact Hc
  iexact Hr

end Cert.KernelIdeal.Ring

end
-- ==== Proof.Fund.lean ====
/- From the launch to the kernel: what each device holds when the kernel is called. -/
module

public import proofs.«01_k».proof.Proof.Deal
public import proofs.«01_k».proof.Proof.Gen.KernelIdeal.Launch
public import proofs.«01_k».proof.Proof.Gen.KernelIdeal.Frame
public import Idealize.ShloMosaic.Lib.Pipeline.RegionTalk

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ

abbrev adm : (p : Fin 1) → (pcfgs (F := F) p).Adm := fun p => (cfgs p).toPCfg_adm

/-! ## The buffers of the host -/

variable (m : (ℓ : Loc nD τ sig) → Buf (Elt F) ℓ) (ρ : Dev nD → PrngReg)

def bufs : Finset (DevRef τ sig) := (StableHlo.tcRefs τ sig).filter fun b => ¬ b.isScoped

/-- The buffers at the launch, and when the kernel is called. -/
def V₀ (c : Dev nD) : Valuation τ sig (Elt F) := fun b => m (c, b)
def V₁ (c : Dev nD) : Valuation τ sig (Elt F) := StableHlo.after hostOps0 (V₀ m c)

/-- The arguments in memory. -/
def args : Args F := ⟨fun c => m ((c : Thread nD τ).loc main_arg0), fun c => m ((c : Thread nD τ).loc main_arg1)⟩

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems0_eq (c : Dev nD) : (unscopedSems0 c : sProp 𝕄) = semVal (reg c barS) 0 := by
  unfold unscopedSems0
  rw [show (Finset.univ.filter fun sm : SemLoc sig => ¬ sm.isScoped .tc) = {SemLoc.reg barS} from by decide, BI.bigSep_singleton]

theorem bar_only : ∀ sm : SemLoc sig, sm.isScoped .tc = false → sm = .reg barS := by decide

/-! ## The launch's holdings -/

/-- What every device may consult: all the invariants, and every barrier at its start. -/
def Records (K : GSem nD τ sig → ℕ) (κ : Key → ℕ) : sProp 𝕄 :=
  iprop(Ctx (args m) K κ ∗ bigSep barCells fun g => reached ER g 0)
instance Records_persistent (K : GSem nD τ sig → ℕ) (κ : Key → ℕ) : BI.Persistent (Records m K κ) := by unfold Records; infer_instance

theorem bar_reached (c : Dev nD) : (bigSep barCells fun g => (reached ER g 0 : sProp 𝕄)) ⊢ reached ER (reg c barS) 0 :=
  BI.bigSep_elim (Φ := fun g => (reached ER g 0 : sProp 𝕄)) (Finset.mem_map_of_mem barEmb (Finset.mem_univ c))

/-- The ghost state of one device. -/
def Ghost (c : Dev nD) : sProp 𝕄 :=
  iprop(atPos ER (reg c barS) 0 ∅ 0 ∗ (bigSep Finset.univ fun k : Fin 84 => openTok ER ((c : Thread nD τ), osem k))
    ∗ Tokens c ∗ (bigSep Finset.univ fun p : Fin 4 × Fin 2 => readerAt ES (c, p.1, p.2) 0) ∗ bigSep Finset.univ (Writes c))
/-- What a device brings to the kernel besides its buffers. -/
def Bag (c : Dev nD) : sProp 𝕄 := iprop((∃ K κ, Records m K κ) ∗ Ghost c ∗ Credits c)
def Rest (c : Dev nD) : sProp 𝕄 := iprop(Bag m c ∗ (∃ r, prngReg c r) ∗ ∃ W, owes (c : Thread nD τ) (debt₀ c) W)
abbrev T₀ (c : Dev nD) : sProp 𝕄 := iprop(StableHlo.held (c : Thread nD τ) bufs (V₀ m c) ∗ Rest m c)

theorem cells_apart : Disjoint barCells ownCells := by
  rw [Finset.disjoint_left]
  rintro g h₁ h₂
  obtain ⟨c, -, rfl⟩ := Finset.mem_map.mp h₁
  obtain ⟨p, -, h⟩ := Finset.mem_map.mp h₂
  have h' : osem p.2 = .reg barS := congrArg Prod.snd h
  revert h'
  generalize p.2 = k
  revert k
  decide

/-! ## The launch element -/

def u₀ : UU :=
  (initOf (Pipeline.cells (Pipeline.pin (pcfgs (F := F)) adm) cellOf_inj) (Pipeline.launchToks (Pipeline.pin (pcfgs (F := F)) adm) cellOf_inj),
    (launchOf barCells ownCells allDuties, initSlots Finset.univ 16))

/-- A resource held by one device. -/
def only (X : sProp 𝕄) (c : Dev nD) : sProp 𝕄 := if c = 0 then X else iprop(emp)
theorem bigSep_only (X : sProp 𝕄) : bigSep Finset.univ (only X) = X := by
  rw [bigSep_univ_at _ (0 : Dev nD), bigSep_congr (s := Finset.univ.erase (0 : Dev nD)) (Ψ := fun _ => (BI.emp : sProp 𝕄))
      fun c hc => by unfold only; rw [if_neg (Finset.ne_of_mem_erase hc)]; rfl, BI.bigSep_emp_const]
  unfold only; rw [if_pos rfl]
  exact BI.equiv_iff.mp sep_emp

/-- The launch element of the protocol. -/
def Seed : sProp 𝕄 := iprop(BI.own (ER (launchOf barCells ownCells allDuties)) ∗ BI.own (ES (initSlots Finset.univ 16)))

theorem seed_intro : (ownU (u₀ (F := F)) : sProp 𝕄) ⊢ iprop(BI.own (EP (initOf
      (Pipeline.cells (Pipeline.pin (pcfgs (F := F)) adm) cellOf_inj) (Pipeline.launchToks (Pipeline.pin (pcfgs (F := F)) adm) cellOf_inj))) ∗ Seed) := by
  unfold u₀ Seed
  iintro H
  ihave H := (ownU_pair _ _) $$ H
  icases H with ⟨Ha, Hb⟩
  isplitl [Ha]; · iexact Ha
  iapply (own_pair_emb embR (launchOf barCells ownCells allDuties) (initSlots Finset.univ 16)); iexact Hb

/-! ## The dealing -/

/-- What of a device's launch holdings is not the protocol's. -/
def Bundle (c : Dev nD) : sProp 𝕄 :=
  iprop(StableHlo.held (c : Thread nD τ) bufs (V₀ m c) ∗ Credits c ∗ owes (c : Thread nD τ) (debt₀ c) ∅ ∗ ∃ r, prngReg c r)

theorem start_intro (K : GSem nD τ sig → ℕ) (κ : Key → ℕ) (c : Dev nD) : iprop(Records m K κ ∗ (Ghost c ∗ Bundle m c)) ⊢ T₀ m c := by
  unfold Bundle T₀ Rest Bag
  iintro ⟨#HR, Hg, Hh, Hc, HO, Hp⟩
  isplitl [Hh]; · iexact Hh
  isplitl [Hg Hc]
  · isplitr
    · iexists K; iexists κ; iexact HR
    isplitl [Hg]; · iexact Hg
    iexact Hc
  isplitl [Hp]; · iexact Hp
  iexists ∅; iexact HO

theorem deal_two (Φ Ψ : Dev nD → sProp 𝕄) : (bigSep Finset.univ fun c => iprop(Φ c ∗ Ψ c)) = iprop(bigSep Finset.univ Φ ∗ bigSep Finset.univ Ψ) :=
  bigSep_sep' _ _ _
theorem deal_split {Φ Ψ : Dev nD → sProp 𝕄} : (bigSep Finset.univ fun c => iprop(Φ c ∗ Ψ c)) ⊢ iprop(bigSep Finset.univ Φ ∗ bigSep Finset.univ Ψ) :=
  Entails.of_eq (deal_two _ _)
theorem deal_join {Φ Ψ : Dev nD → sProp 𝕄} : iprop(bigSep Finset.univ Φ ∗ bigSep Finset.univ Ψ) ⊢ (bigSep Finset.univ fun c => iprop(Φ c ∗ Ψ c)) :=
  Entails.of_eq (deal_two _ _).symm

theorem open_deal : bigSep ownCells (fun g => (openTok ER g : sProp 𝕄))
    = bigSep Finset.univ fun c : Dev nD => bigSep Finset.univ fun k : Fin 84 => openTok ER ((c : Thread nD τ), osem k) := by
  unfold ownCells; rw [BI.bigSep_map, bigSep_univ_prod]; rfl
theorem bars_deal (Φ : GSem nD τ sig → sProp 𝕄) : bigSep barCells Φ = bigSep Finset.univ fun c : Dev nD => Φ (reg c barS) :=
  BI.bigSep_map (s := Finset.univ) barEmb (Φ := Φ)

theorem init :
    iprop((bigSep Finset.univ fun c : Dev nD => iprop(unscopedBufs c (fun b => m ((c : Thread nD τ).loc b)) ∗ unscopedSems0 c
          ∗ owes (c : Thread nD τ) (debt₀ c) ∅ ∗ Pipeline.launchCred debt₀ c ∗ prngReg c (ρ c) ∗ only Seed c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (debt₀ c) ∅ ∗ Pipeline.launchCred debt₀ c ∗ prngReg c (ρ c) ∗ only Seed c)
      ⊢ (iprop(Bundle m c ∗ (semVal (reg c barS) 0 ∗ only Seed c)) : sProp 𝕄) := by
    rw [show unscopedBufs c (fun b => m ((c : Thread nD τ).loc b)) = StableHlo.held (c : Thread nD τ) bufs (V₀ m c) from unscopedBufs_held c (V₀ m c),
      unscopedSems0_eq]
    unfold Bundle
    iintro ⟨Hh, Hus, HO, Hcr, Hp, HG⟩
    ihave Hc := (credits_deal (F := F) c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
  iintro ⟨H, #Hlev⟩
  ihave H' := (show (bigSep Finset.univ fun c : Dev nD => iprop(unscopedBufs c (fun b => m ((c : Thread nD τ).loc b)) ∗ unscopedSems0 c
          ∗ owes (c : Thread nD τ) (debt₀ c) ∅ ∗ Pipeline.launchCred debt₀ c ∗ prngReg c (ρ c) ∗ only Seed c))
      ⊢ (bigSep Finset.univ fun c : Dev nD => iprop(Bundle m c ∗ (semVal (reg c barS) 0 ∗ only Seed c)) : sProp 𝕄) from bigSep_mono fun c _ => hcore c) $$ H
  ihave H2 := deal_split $$ H'; icases H2 with ⟨HB, H3⟩
  ihave H4 := deal_split $$ H3; icases H4 with ⟨Hv, HG⟩
  ihave Hu := (show bigSep Finset.univ (only (F := F) Seed) ⊢ Seed from Entails.of_eq (bigSep_only (F := F) Seed)) $$ HG
  ihave Hu := (show (Seed : sProp 𝕄) ⊢ iprop(BI.own (ER (launchOf barCells ownCells allDuties)) ∗ BI.own (ES (initSlots Finset.univ 16))) from .rfl) $$ Hu
  icases Hu with ⟨Hu, Hs⟩
  imod (slots_init ES Finset.univ 16 (fun k : Key => rcvAny (F := F) k.1 k.2.1 k.2.2)) $$ [Hs] with ⟨%κ, -, #Hsl, Hrd, Hwt⟩
  · iexact Hs
  imod (Rounds.fund_launch ER (sched (args m)) cells_apart (fun g _ h => h) allDuties) $$ [Hv Hu] with ⟨%K, -, #Hinv, #Hr, Hat, Hopen, Htok⟩
  · isplitl [Hv]
    · iapply (Entails.of_eq (bars_deal (fun g => (semVal g 0 : sProp 𝕄))).symm) $$ Hv
    · iexact Hu
  imodintro
  iapply (bigSep_with_persistent (R := Records m K κ) (Φ := fun c => iprop(Ghost c ∗ Bundle m c)) fun c _ => start_intro m K κ c)
  isplitr
  · unfold Records Ctx
    isplitr
    · isplitr; · iexact Hinv
      isplitr; · iexact Hsl
      iexact Hlev
    iexact Hr
  iapply deal_join
  isplitr [HB]
  · unfold Ghost
    iapply deal_join
    isplitl [Hat]; · iapply (Entails.of_eq (bars_deal (fun g => (atPos ER g 0 ∅ 0 : sProp 𝕄)))) $$ Hat
    iapply deal_join
    isplitl [Hopen]; · iapply (Entails.of_eq open_deal) $$ Hopen
    iapply deal_join
    isplitl [Htok]; · iapply duties_deal; iapply (Entails.of_eq duties_eq) $$ Htok
    iapply deal_join
    isplitl [Hrd]
    · iapply (Entails.of_eq (bigSep_univ_prod (fun k : Key => (readerAt ES k 0 : sProp 𝕄)))) $$ Hrd
    iapply writes_deal $$ Hwt
  · iexact HB

end Cert.KernelIdeal.Ring

end
-- ==== Proof.Shut.lean ====
/- Opening a device's semaphores when the kernel is called, and closing them when it is done. -/
module

public import proofs.«01_k».proof.Proof.Fund

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ

variable {A : Args F} {K : GSem nD τ sig → ℕ} {κ : Key → ℕ}

/-- The own semaphores, opened. -/
def Ready (c : Dev nD) : sProp 𝕄 :=
  bigSep Finset.univ fun k : Fin 84 => iprop(atPos ER ((c : Thread nD τ), osem k) 0 ∅ 0 ∗ reached ER ((c : Thread nD τ), osem k) 0)
/-- The own semaphores, at their last rounds. -/
def Done (c : Dev nD) : sProp 𝕄 :=
  bigSep Finset.univ fun k : Fin 84 => atPos ER ((c : Thread nD τ), osem k) (lastRound ((c : Thread nD τ), osem k)) ∅ 0

theorem own_open (c : Dev nD) :
    iprop(Ctx A K κ ∗ (bigSep Finset.univ fun k : Fin 84 => openTok ER ((c : Thread nD τ), osem k)) ∗ Pipeline.ownSems0 osem c)
      ⊢ (|={Set.univ}=> Ready c : sProp 𝕄) := by
  unfold Pipeline.ownSems0 Ready
  rw [← bigSep_sep']
  refine BIBase.Entails.trans (bigSep_with_persistent (R := Ctx A K κ)
    (Ψ := fun k : Fin 84 => iprop(|={Set.univ}=> (atPos ER ((c : Thread nD τ), osem k) 0 ∅ 0 ∗ reached ER ((c : Thread nD τ), osem k) 0))) fun k _ => ?_)
    (bigSep_fupd _ _)
  iintro ⟨#Hx, Ho, Hs⟩
  iapply (Rounds.cell_open ER (sched A) (g := ((c : Thread nD τ), osem k)) (Set.mem_univ (K ((c : Thread nD τ), osem k))))
  isplitr
  · iapply (show Ctx A K κ ⊢ cellInv ER (sched A) (K ((c : Thread nD τ), osem k)) ((c : Thread nD τ), osem k) from ctx_own c ⟨k, rfl⟩); iexact Hx
  isplitl [Ho]; · iexact Ho
  iexact Hs

theorem own_close (c : Dev nD) : iprop(Ctx A K κ ∗ Done c) ⊢ (|={Set.univ}=> Pipeline.ownSems0 osem c : sProp 𝕄) := by
  unfold Pipeline.ownSems0 Done
  refine BIBase.Entails.trans (bigSep_with_persistent (R := Ctx A K κ)
    (Ψ := fun k : Fin 84 => iprop(|={Set.univ}=> semVal ((c : Thread nD τ), osem k) 0)) fun k _ => ?_) (bigSep_fupd _ _)
  iintro ⟨#Hx, Ha⟩
  iapply (Rounds.cell_close ER (sched A) (g := ((c : Thread nD τ), osem k)) (Set.mem_univ (K ((c : Thread nD τ), osem k))) (id)
    (fun r hr => duties_last A _ r hr))
  isplitr
  · iapply (show Ctx A K κ ⊢ cellInv ER (sched A) (K ((c : Thread nD τ), osem k)) ((c : Thread nD τ), osem k) from ctx_own c ⟨k, rfl⟩); iexact Hx
  iexact Ha

theorem bar_close (c : Dev nD) : iprop(Ctx A K κ ∗ atPos ER (reg c barS) 1 ∅ 0) ⊢ (|={Set.univ}=> semVal (reg c barS) 0 : sProp 𝕄) := by
  iintro ⟨#Hx, Ha⟩
  iapply (Rounds.cell_close ER (sched A) (g := reg c barS) (Set.mem_univ (K (reg c barS))) (id) (R := 1)
    (fun r hr => duties_last A _ r (by unfold lastRound; rw [use_bar]; exact hr)))
  isplitr
  · iapply (show Ctx A K κ ⊢ cellInv ER (sched A) (K (reg c barS)) (reg c barS) from ctx_bar c); iexact Hx
  iexact Ha

/-! ## By kind -/

theorem bigSep_pairs (Φ : Fin 4 → Fin 2 → sProp 𝕄) :
    (bigSep Finset.univ fun p : Fin 4 × Fin 2 => Φ p.1 p.2) = bigSep Finset.univ fun j => iprop(Φ j 0 ∗ Φ j 1) := by
  rw [bigSep_univ_prod]
  exact bigSep_congr fun j _ => BI.bigSep_fin_two (Φ j)
theorem four_all (Φ : Fin 4 → sProp 𝕄) : Four Φ = bigSep Finset.univ Φ := (bigSep_four Φ).symm
theorem bigSep_outs (Φ : DmaSem sig → sProp 𝕄) : (bigSep Finset.univ fun t : Fin 31 => Φ (outC t)) = bigSep (Finset.Ico 0 31) fun t => Φ (outN t) := by
  rw [← bigSep_nums 31 fun t => Φ (outN t)]
  exact bigSep_congr fun t _ => by rw [outN_val]

/-- What a stream starts with, by kind. -/
theorem init_of (c : Dev nD) (j : Fin 4) :
    iprop((atPos ER (reg c (credS j)) 0 ∅ 0 ∗ reached ER (reg c (credS j)) 0)
      ∗ ((atPos ER (dma c (sendS j 0)) 0 ∅ 0 ∗ reached ER (dma c (sendS j 0)) 0) ∗ (atPos ER (dma c (sendS j 1)) 0 ∅ 0 ∗ reached ER (dma c (sendS j 1)) 0))
      ∗ ((atPos ER (dma c (recvS j 0)) 0 ∅ 0 ∗ reached ER (dma c (recvS j 0)) 0) ∗ (atPos ER (dma c (recvS j 1)) 0 ∅ 0 ∗ reached ER (dma c (recvS j 1)) 0))
      ∗ (readerAt ES (c, j, 0) 0 ∗ readerAt ES (c, j, 1) 0)
      ∗ (sndAny c j 0 ∗ sndAny c j 1) ∗ (rcvAny c j 0 ∗ rcvAny c j 1)
      ∗ (bigSep (Finset.Ico 1 30) fun k => dutyTok ER (reg (frm j c) (credS j)) 0 k)
      ∗ (bigSep (Finset.Ico 0 31) fun n => dutyTok ER (dma c (sendS j (par n))) (n / 2) 0)
      ∗ (bigSep (Finset.Ico 0 31) fun n => dutyTok ER (dma (nxt j c) (recvS j (par n))) (n / 2) 0)
      ∗ Writes c j ∗ Coming c j 0 ∗ (bigSep (Finset.Ico 1 30) fun k => cred (tallyAt (reg c (credS j)) (2 * k + 2) 1)) ∗ Mine c j 0)
      ⊢ (Init c j : sProp 𝕄) := by
  unfold Init Fresh Kept Idle Crd Toks Tok Writes
  simp only [bigSep_sep']
  iintro ⟨⟨Hca, Hcr⟩, ⟨⟨Hsa, Hsr⟩, Hsa', Hsr'⟩, ⟨⟨Hra, Hrr⟩, Hra', Hrr'⟩, ⟨Hd, Hd'⟩, ⟨Hs, Hs'⟩, ⟨Hr, Hr'⟩, Ht1, Ht2, Ht3, Hw, Hcm, Hcc, Hm⟩
  isplitl [Hra Hrr Hd Hr]
  · isplitl [Hr]; · iexact Hr
    isplitl [Hd]; · iexact Hd
    isplitl [Hra]; · iexact Hra
    iexact Hrr
  isplitl [Hra' Hrr' Hd' Hr']
  · isplitl [Hr']; · iexact Hr'
    isplitl [Hd']; · iexact Hd'
    isplitl [Hra']; · iexact Hra'
    iexact Hrr'
  isplitl [Hcm]; · iexact Hcm
  isplitr [Hcr]
  · isplitl [Hs Hsa Hsr]
    · isplitl [Hs]; · iexact Hs
      isplitl [Hsa]; · iexact Hsa
      iexact Hsr
    isplitl [Hs' Hsa' Hsr']
    · isplitl [Hs']; · iexact Hs'
      isplitl [Hsa']; · iexact Hsa'
      iexact Hsr'
    isplitl [Ht2 Ht3 Hw]
    · isplitl [Ht2]; · iexact Ht2
      isplitl [Ht3]; · iexact Ht3
      iexact Hw
    isplitl [Ht1]; · iexact Ht1
    isplitr [Hm]
    · iexists ∅
      isplitl [Hca]; · iexact Hca
      isplitr; · ipureintro; exact ⟨Finset.empty_subset _, Nat.le_refl _⟩
      rw [BI.bigSep_empty]
      isplitr; · iempintro
      iexact Hcc
    iexact Hm
  iexact Hcr

/-- The three scratch buffers. -/
def Scratch (c : Dev nD) : sProp 𝕄 :=
  iprop((∃ f, sndR.view.loc (c : Thread nD τ) ↦[Finset.univ]{fullShare} f) ∗ (∃ f, rcvR.view.loc (c : Thread nD τ) ↦[Finset.univ]{fullShare} f)
    ∗ ∃ f, rowR.view.loc (c : Thread nD τ) ↦[Finset.univ]{fullShare} f)

/-- The slots of a buffer, by stream. -/
theorem snd_slots (c : Dev nD) : iprop(∃ f, sndR.view.loc (c : Thread nD τ) ↦[Finset.univ]{fullShare} f)
    ⊢ (bigSep Finset.univ fun j => iprop(sndAny c j 0 ∗ sndAny c j 1) : sProp 𝕄) := by
  iintro ⟨%f, H⟩
  ihave H := (rects_any sndR sndR_whole (fun t : Fin 4 × Fin 2 => slotRect t.1 t.2) slot_disj slot_cover c f) $$ H
  iapply (Entails.of_eq (bigSep_pairs (fun j b => (sndAny c j b : sProp 𝕄)))); iexact H
theorem rcv_slots (c : Dev nD) : iprop(∃ f, rcvR.view.loc (c : Thread nD τ) ↦[Finset.univ]{fullShare} f)
    ⊢ (bigSep Finset.univ fun j => iprop(rcvAny c j 0 ∗ rcvAny c j 1) : sProp 𝕄) := by
  iintro ⟨%f, H⟩
  ihave H := (rects_any rcvR rcvR_whole (fun t : Fin 4 × Fin 2 => slotRect t.1 t.2) slot_disj slot_cover c f) $$ H
  iapply (Entails.of_eq (bigSep_pairs (fun j b => (rcvAny c j b : sProp 𝕄)))); iexact H
theorem row_slots (c : Dev nD) : iprop(∃ f, rowR.view.loc (c : Thread nD τ) ↦[Finset.univ]{fullShare} f)
    ⊢ (iprop(rowAny c c ∗ bigSep (Finset.Ico 0 31) fun t => rowAny c (backDev c t)) : sProp 𝕄) := by
  iintro ⟨%f, H⟩
  ihave H := (rects_any rowR rowR_whole rowRect row_disj row_cover c f) $$ H
  iapply (Entails.of_eq (bigSep_back c (fun d => (rowAny c d : sProp 𝕄)))); iexact H
theorem snd_whole (c : Dev nD) : (bigSep Finset.univ fun j => iprop(sndAny c j 0 ∗ sndAny c j 1) : sProp 𝕄)
    ⊢ iprop(∃ f, sndR.view.loc (c : Thread nD τ) ↦[Finset.univ]{fullShare} f) := by
  rw [← bigSep_pairs (fun j b => (sndAny c j b : sProp 𝕄))]
  exact any_rects sndR sndR_whole (fun t : Fin 4 × Fin 2 => slotRect t.1 t.2) slot_disj slot_cover c (fun _ => default)
theorem rcv_whole (c : Dev nD) : (bigSep Finset.univ fun j => iprop(rcvAny c j 0 ∗ rcvAny c j 1) : sProp 𝕄)
    ⊢ iprop(∃ f, rcvR.view.loc (c : Thread nD τ) ↦[Finset.univ]{fullShare} f) := by
  rw [← bigSep_pairs (fun j b => (rcvAny c j b : sProp 𝕄))]
  exact any_rects rcvR rcvR_whole (fun t : Fin 4 × Fin 2 => slotRect t.1 t.2) slot_disj slot_cover c (fun _ => default)

/-- The own rows, for stream 0 to send along. -/
theorem mine_of (c : Dev nD) : (bigSep (Finset.Ico 0 31) fun t => Row c (backDev c t)) ⊢ (bigSep Finset.univ fun j => Mine c j 0 : sProp 𝕄) := by
  rw [bigSep_four]
  have h0 : (Mine c 0 0 : sProp 𝕄) = bigSep (Finset.Ico 0 31) fun t => Row c (backDev c t) := by
    unfold Mine
    rw [if_pos rfl]
    refine bigSep_congr fun t _ => ?_
    congr 1
    unfold chunkDev backDev
    rw [show dir 0 = 1 from rfl]
    congr 1
    omega
  have h (j : Fin 4) (hj : j ≠ 0) : (Mine c j 0 : sProp 𝕄) = iprop(emp) := by unfold Mine; rw [if_neg hj]
  rw [h0, h 1 (by decide), h 2 (by decide), h 3 (by decide)]
  iintro H
  isplitl [H]; · iexact H
  isplitr; · iempintro
  isplitr; · iempintro
  iempintro

end Cert.KernelIdeal.Ring

end
-- ==== Proof.Begin.lean ====
/- What a device starts the kernel with, put together; and what it ends with, taken apart. -/
module

public import proofs.«01_k».proof.Proof.Shut

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ

variable {A : Args F} {K : GSem nD τ sig → ℕ} {κ : Key → ℕ}

/-! ## The start -/

/-- The opened semaphores by kind. -/
theorem ready_kinds (c : Dev nD) : (Ready c : sProp 𝕄) ⊢ iprop(
    (bigSep Finset.univ fun j => iprop(atPos ER (reg c (credS j)) 0 ∅ 0 ∗ reached ER (reg c (credS j)) 0))
    ∗ (bigSep Finset.univ fun j => iprop((atPos ER (dma c (sendS j 0)) 0 ∅ 0 ∗ reached ER (dma c (sendS j 0)) 0)
        ∗ (atPos ER (dma c (sendS j 1)) 0 ∅ 0 ∗ reached ER (dma c (sendS j 1)) 0)))
    ∗ (bigSep Finset.univ fun j => iprop((atPos ER (dma c (recvS j 0)) 0 ∅ 0 ∗ reached ER (dma c (recvS j 0)) 0)
        ∗ (atPos ER (dma c (recvS j 1)) 0 ∅ 0 ∗ reached ER (dma c (recvS j 1)) 0)))
    ∗ ((bigSep (Finset.Ico 0 31) fun t => atPos ER (dma c (outN t)) 0 ∅ 0) ∗ bigSep (Finset.Ico 0 31) fun t => reached ER (dma c (outN t)) 0)
    ∗ ((atPos ER (dma c (inS c)) 0 ∅ 0 ∗ reached ER (dma c (inS c)) 0)
        ∗ (bigSep (Finset.Ico 0 31) fun t => atPos ER (dma c (inS (backDev c t))) 0 ∅ 0)
        ∗ bigSep (Finset.Ico 0 31) fun t => reached ER (dma c (inS (backDev c t))) 0)
    ∗ (atPos ER (dma c spare) 0 ∅ 0 ∗ reached ER (dma c spare) 0)) := by
  unfold Ready
  rw [own_split fun sm => iprop(atPos ER ((c : Thread nD τ), sm) 0 ∅ 0 ∗ reached ER ((c : Thread nD τ), sm) 0),
    bigSep_pairs fun j b => iprop(atPos ER (dma c (sendS j b)) 0 ∅ 0 ∗ reached ER (dma c (sendS j b)) 0),
    bigSep_pairs fun j b => iprop(atPos ER (dma c (recvS j b)) 0 ∅ 0 ∗ reached ER (dma c (recvS j b)) 0),
    bigSep_outs fun s => iprop(atPos ER (dma c s) 0 ∅ 0 ∗ reached ER (dma c s) 0),
    bigSep_back c fun d => iprop(atPos ER (dma c (inS d)) 0 ∅ 0 ∗ reached ER (dma c (inS d)) 0),
    bigSep_sep' (Finset.Ico 0 31) (fun t => atPos ER (dma c (outN t)) 0 ∅ 0) (fun t => reached ER (dma c (outN t)) 0),
    bigSep_sep' (Finset.Ico 0 31) (fun t => atPos ER (dma c (inS (backDev c t))) 0 ∅ 0) (fun t => reached ER (dma c (inS (backDev c t))) 0)]

theorem join {I : Type} {S : Finset I} {Φ Ψ : I → sProp 𝕄} : iprop(bigSep S Φ ∗ bigSep S Ψ) ⊢ (bigSep S fun i => iprop(Φ i ∗ Ψ i)) :=
  Entails.of_eq (bigSep_sep' _ _ _).symm

theorem start_of (c : Dev nD) (m : (ℓ : Loc nD τ sig) → Buf (Elt F) ℓ) :
    iprop((bigSep barCells fun g => reached ER g 0) ∗ Ready c ∗ atPos ER (reg c barS) 0 ∅ 0 ∗ Tokens c
        ∗ (bigSep Finset.univ fun p : Fin 4 × Fin 2 => readerAt ES (c, p.1, p.2) 0) ∗ (bigSep Finset.univ (Writes c))
        ∗ Credits c ∗ Scratch c ∗ Owes c (debt₀ c))
      ⊢ (iprop(Start c ∗ atPos ER (dma c (inS c)) 0 ∅ 0 ∗ atPos ER (dma c spare) 0 ∅ 0) : sProp 𝕄) := by
  unfold Tokens Credits Scratch Start Gate RowToks OutTok InTok OutAt
  rw [four_all, bigSep_pairs fun j b => readerAt ES (c, j, b) 0]
  iintro ⟨#Hb, HR, Hbar, ⟨⟨Ht0, Ht1⟩, Htc, Hts, Htr, Hto, Hti⟩, Hrd, Hw, ⟨Hcb, Hcm, Hcc, Hcr⟩, ⟨Hsnd, Hrcv, Hrow⟩, HO⟩
  ihave HR := (ready_kinds c) $$ HR
  icases HR with ⟨Kc, Ks, Kr, ⟨Koa, Kor⟩, ⟨⟨Kia, -⟩, Kib, Kir⟩, Ksp, -⟩
  ihave Hsnd := (snd_slots c) $$ Hsnd
  ihave Hrcv := (rcv_slots c) $$ Hrcv
  ihave Hrow := (row_slots c) $$ Hrow
  icases Hrow with ⟨Hown, Hrow⟩
  isplitr [Kia Ksp]
  · isplitl [Hbar Hcb Ht0 Ht1]
    · isplitl [Hbar]; · iexact Hbar
      isplitl [Hcb]; · iexact Hcb
      isplitl [Ht0]
      · isplitl [Ht0]; · iexact Ht0
        iapply (bar_reached (F := F) (turn (-1) c)); iexact Hb
      · isplitl [Ht1]; · iexact Ht1
        iapply (bar_reached (F := F) (turn 1 c)); iexact Hb
    isplitl [Kc Ks Kr Htc Hts Htr Hrd Hw Hcm Hcc Hsnd Hrcv Hrow Kir]
    · iapply (show _ ⊢ (bigSep Finset.univ (Init c) : sProp 𝕄) from BI.bigSep_mono fun j _ => init_of c j)
      iapply join; isplitl [Kc]; · iexact Kc
      iapply join; isplitl [Ks]; · iexact Ks
      iapply join; isplitl [Kr]; · iexact Kr
      iapply join; isplitl [Hrd]; · iexact Hrd
      iapply join; isplitl [Hsnd]; · iexact Hsnd
      iapply join; isplitl [Hrcv]; · iexact Hrcv
      iapply join; isplitl [Htc]; · iexact Htc
      iapply join; isplitl [Hts]; · iexact Hts
      iapply join; isplitl [Htr]; · iexact Htr
      iapply join; isplitl [Hw]; · iexact Hw
      iapply join; isplitl [Hcm]; · iexact Hcm
      iapply join; isplitl [Hcc]; · iexact Hcc
      iapply (mine_of c)
      unfold Row
      iapply join; isplitl [Hrow]; · iexact Hrow
      iexact Kir
    isplitl [Hown]; · iexact Hown
    isplitl [Hto Hti Koa Kor Kib Hcr]
    · isplitl [Hto Hti Kor]
      · iapply join; isplitl [Hto]; · iexact Hto
        iapply join; isplitl [Kor]; · iexact Kor
        iexact Hti
      isplitl [Koa]; · iexact Koa
      iapply join; isplitl [Kib]; · iexact Kib
      iexact Hcr
    iexact HO
  isplitl [Kia]; · iexact Kia
  iexact Ksp

/-! ## The end -/

theorem end_cred (c : Dev nD) (j : Fin 4) : lastRound (reg c (credS j)) = 1 := by unfold lastRound; rw [use_cred]
theorem end_send (c : Dev nD) (j : Fin 4) (b : Fin 2) : lastRound (dma c (sendS j b)) = 16 - b.val := by unfold lastRound; rw [use_send]
theorem end_recv (c : Dev nD) (j : Fin 4) (b : Fin 2) : lastRound (dma c (recvS j b)) = 16 - b.val := by unfold lastRound; rw [use_recv]
theorem end_out (c : Dev nD) (t : Fin 31) : lastRound (dma c (outC t)) = 1 := by unfold lastRound; rw [use_out]
theorem end_in_own (c : Dev nD) : lastRound (dma c (inS c)) = 0 := by unfold lastRound; rw [use_in]; exact if_pos rfl
theorem end_in (c d : Dev nD) (h : d ≠ c) : lastRound (dma c (inS d)) = 1 := by unfold lastRound; rw [use_in]; exact if_neg h
theorem end_spare (c : Dev nD) : lastRound (dma c spare) = 0 := by
  unfold lastRound; rw [show use (.dma spare) = .other from by decide]
theorem back_ne (c : Dev nD) (t : ℕ) (h : t < 31) : backDev c t ≠ c := turn_ne c (by omega)

theorem done_kinds (c : Dev nD) : iprop(
    (bigSep Finset.univ fun j => atPos ER (reg c (credS j)) 1 ∅ 0)
    ∗ (bigSep Finset.univ fun j => iprop(atPos ER (dma c (sendS j 0)) 16 ∅ 0 ∗ atPos ER (dma c (sendS j 1)) 15 ∅ 0))
    ∗ (bigSep Finset.univ fun j => iprop(atPos ER (dma c (recvS j 0)) 16 ∅ 0 ∗ atPos ER (dma c (recvS j 1)) 15 ∅ 0))
    ∗ (bigSep (Finset.Ico 0 31) fun t => atPos ER (dma c (outN t)) 1 ∅ 0)
    ∗ (atPos ER (dma c (inS c)) 0 ∅ 0 ∗ bigSep (Finset.Ico 0 31) fun t => atPos ER (dma c (inS (backDev c t))) 1 ∅ 0)
    ∗ atPos ER (dma c spare) 0 ∅ 0) ⊢ (Done c : sProp 𝕄) := by
  unfold Done
  refine Entails.of_eq ?_
  rw [own_split fun sm => atPos ER ((c : Thread nD τ), sm) (lastRound ((c : Thread nD τ), sm)) ∅ 0,
    bigSep_pairs fun j b => atPos ER (dma c (sendS j b)) (lastRound (dma c (sendS j b))) ∅ 0,
    bigSep_pairs fun j b => atPos ER (dma c (recvS j b)) (lastRound (dma c (recvS j b))) ∅ 0,
    bigSep_outs fun s => atPos ER (dma c s) (lastRound (dma c s)) ∅ 0,
    bigSep_back c fun d => atPos ER (dma c (inS d)) (lastRound (dma c (inS d))) ∅ 0,
    bigSep_congr (s := Finset.Ico 0 31) (Φ := fun t => (atPos ER (dma c (inS (backDev c t))) (lastRound (dma c (inS (backDev c t)))) ∅ 0 : sProp 𝕄))
      (Ψ := fun t => atPos ER (dma c (inS (backDev c t))) 1 ∅ 0)
      (fun t ht => by rw [end_in c _ (back_ne c t (Finset.mem_Ico.mp ht).2)])]
  simp only [end_cred, end_send, end_recv, end_in_own, end_spare, outN, end_out]
  rfl

theorem end_of (c : Dev nD) :
    iprop(End A c ∗ atPos ER (dma c (inS c)) 0 ∅ 0 ∗ atPos ER (dma c spare) 0 ∅ 0) ⊢ (iprop(Scratch c ∗ Owes c 0 ∗ Done c) : sProp 𝕄) := by
  unfold End RowEnd TablePts Scratch Closed RcvEnd SndEnd
  rw [four_all]
  iintro ⟨⟨HC, HT, ⟨Ho, Hi⟩, HO⟩, Hown, Hsp⟩
  ihave HC := (show _ ⊢ (bigSep Finset.univ fun j => iprop((sndAny c j 0 ∗ sndAny c j 1) ∗ (rcvAny c j 0 ∗ rcvAny c j 1) ∗ atPos ER (reg c (credS j)) 1 ∅ 0
      ∗ (atPos ER (dma c (sendS j 0)) 16 ∅ 0 ∗ atPos ER (dma c (sendS j 1)) 15 ∅ 0)
      ∗ (atPos ER (dma c (recvS j 0)) 16 ∅ 0 ∗ atPos ER (dma c (recvS j 1)) 15 ∅ 0)) : sProp 𝕄) from BI.bigSep_mono fun j _ =>
    (show iprop((rcvAny c j 0 ∗ rcvAny c j 1 ∗ atPos ER (dma c (recvS j 0)) 16 ∅ 0 ∗ atPos ER (dma c (recvS j 1)) 15 ∅ 0)
        ∗ (sndAny c j 0 ∗ sndAny c j 1 ∗ atPos ER (dma c (sendS j 0)) 16 ∅ 0 ∗ atPos ER (dma c (sendS j 1)) 15 ∅ 0) ∗ atPos ER (reg c (credS j)) 1 ∅ 0)
      ⊢ (iprop((sndAny c j 0 ∗ sndAny c j 1) ∗ (rcvAny c j 0 ∗ rcvAny c j 1) ∗ atPos ER (reg c (credS j)) 1 ∅ 0
        ∗ (atPos ER (dma c (sendS j 0)) 16 ∅ 0 ∗ atPos ER (dma c (sendS j 1)) 15 ∅ 0)
        ∗ (atPos ER (dma c (recvS j 0)) 16 ∅ 0 ∗ atPos ER (dma c (recvS j 1)) 15 ∅ 0)) : sProp 𝕄) from by
      iintro ⟨⟨R0, R1, A0, A1⟩, ⟨S0, S1, B0, B1⟩, C⟩
      isplitl [S0 S1]
      · isplitl [S0]; · iexact S0
        iexact S1
      isplitl [R0 R1]
      · isplitl [R0]; · iexact R0
        iexact R1
      isplitl [C]; · iexact C
      isplitl [B0 B1]
      · isplitl [B0]; · iexact B0
        iexact B1
      isplitl [A0]; · iexact A0
      iexact A1)) $$ HC
  ihave HC := (Entails.of_eq (bigSep_sep' _ _ _)) $$ HC
  icases HC with ⟨Hsnd, HC⟩
  ihave HC := (Entails.of_eq (bigSep_sep' _ _ _)) $$ HC
  icases HC with ⟨Hrcv, HC⟩
  ihave HC := (Entails.of_eq (bigSep_sep' _ _ _)) $$ HC
  icases HC with ⟨Hc, HC⟩
  ihave HC := (Entails.of_eq (bigSep_sep' _ _ _)) $$ HC
  icases HC with ⟨Hs, Hr⟩
  isplitl [Hsnd Hrcv HT]
  · isplitl [Hsnd]; · iapply (snd_whole c); iexact Hsnd
    isplitl [Hrcv]; · iapply (rcv_whole c); iexact Hrcv
    iexists _; iexact HT
  isplitl [HO]; · iexact HO
  iapply (done_kinds c)
  isplitl [Hc]; · iexact Hc
  isplitl [Hs]; · iexact Hs
  isplitl [Hr]; · iexact Hr
  isplitl [Ho]; · iexact Ho
  isplitl [Hown Hi]
  · isplitl [Hown]; · iexact Hown
    iexact Hi
  iexact Hsp

end Cert.KernelIdeal.Ring

end
-- ==== Proof.Opened.lean ====
/- The printed body, with its parts joined. -/
module

public import proofs.«01_k».proof.Proof.Program

@[expose] public section

noncomputable section

namespace Cert.KernelIdeal.Ring

open Cert.KernelIdeal Cert.KernelIdeal.Gen
open Idealize.ShloMosaic Idealize.SL.Sem

set_option maxHeartbeats 40000000 in
open_calls opened := Cert.KernelIdeal.cc0_body [k0_part66, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47, k0_part48, k0_part49, k0_part50, k0_part51, k0_part52, k0_part53, k0_part54, k0_part55, k0_part56, k0_part57, k0_part58, k0_part59, k0_part60, k0_part61, k0_part62, k0_part63, k0_part64, k0_part65]

end Cert.KernelIdeal.Ring

end
-- ==== Proof.ProgramEq.lean ====
/- The printed body, on the buffers the launch hands it, is `Ring.body`. -/
module

public import proofs.«01_k».proof.Proof.Program
public import proofs.«01_k».proof.Proof.Opened

@[expose] public section

noncomputable section

namespace Cert.KernelIdeal.Ring

open Cert.KernelIdeal Cert.KernelIdeal.Gen
open Idealize.ShloMosaic Idealize.SL.Sem

variable {F : FTy → Type} [FloatOps F]

set_option maxHeartbeats 0 in
theorem bodyAt_eq (t : Fin cfg0.N) : bodyAt0 (F := F) t = body := by
  unfold bodyAt0
  refine (opened.eq_at ..).trans ?_
  chain_rfl

end Cert.KernelIdeal.Ring

end
-- ==== Proof.Region.lean ====
/- The kernel as a region of the program: what it enters with, the one point of its body, what it leaves. -/
module

public import proofs.«01_k».proof.Proof.Begin
public import proofs.«01_k».proof.Proof.ProgramEq
public import Idealize.ShloMosaic.Lib.Pipeline.ValueKit.Geometry

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation)

variable {F : FTy → Type} [FloatOps F]
local notation "𝕄" => MT nD τ sig ℕ (Elt F) ℕ UU ℕ

variable (m : (ℓ : Loc nD τ sig) → Buf (Elt F) ℓ)

/-! ## The buffers when the kernel is called -/

theorem V₁_ring (c : Dev nD) : V₁ m c (Proc.devRef .tc main_c) = ringTab (F := F) := by
  show StableHlo.after hostOps0 (V₀ m c) (Proc.devRef .tc main_c) = _
  rw [StableHlo.after_cons, StableHlo.after_cons, StableHlo.after_nil, StableHlo.nullary_result_ne _ _ _ _ (by decide), StableHlo.nullary_result]
  rfl
theorem V₁_pos (c : Dev nD) : V₁ m c (Proc.devRef .tc main_c_0) = posTab (F := F) := by
  show StableHlo.after hostOps0 (V₀ m c) (Proc.devRef .tc main_c_0) = _
  rw [StableHlo.after_cons, StableHlo.after_cons, StableHlo.after_nil, StableHlo.nullary_result]
  rfl
theorem V₁_x (c : Dev nD) : V₁ m c (Proc.devRef .tc main_arg0) = (args m).x c := by
  show StableHlo.after hostOps0 (V₀ m c) (Proc.devRef .tc main_arg0) = _
  rw [StableHlo.after_cons, StableHlo.after_cons, StableHlo.after_nil, StableHlo.nullary_result_ne _ _ _ _ (by decide), StableHlo.nullary_result_ne _ _ _ _ (by decide)]
  rfl
theorem V₁_w (c : Dev nD) : V₁ m c (Proc.devRef .tc main_arg1) = (args m).w c := by
  show StableHlo.after hostOps0 (V₀ m c) (Proc.devRef .tc main_arg1) = _
  rw [StableHlo.after_cons, StableHlo.after_cons, StableHlo.after_nil, StableHlo.nullary_result_ne _ _ _ _ (by decide), StableHlo.nullary_result_ne _ _ _ _ (by decide)]
  rfl

/-- The buffers at the end: the output holds the result. -/
def V₂ (c : Dev nD) : Valuation τ sig (Elt F) := Function.update (V₁ m c) (Proc.devRef .tc main_v1) ((args m).out c)
theorem V₂_out (c : Dev nD) : V₂ m c (Proc.devRef .tc main_v1) = (args m).out c := Function.update_self _ _ _
theorem V₂_ne (c : Dev nD) (b : DevRef τ sig) (h : b ≠ Proc.devRef .tc main_v1) : V₂ m c b = V₁ m c b := Function.update_of_ne h _ _

/-! ## The proof data -/

/-- The block of window `w`, in its array as the kernel finds it. -/
def blk (c : Dev nD) (w : Fin cfg0.W) (t : Fin cfg0.N) : ((cfg0.win w).xblock (cfg0.grid.coords t)).Idx → Elt F (cfg0.win w).elt :=
  ((cfg0.win w).blk t).view.read (Elt F) (V₁ m c (Proc.devRef .tc (Pipeline.arrRef spec0 w)))

def BagOpen (c : Dev nD) : sProp 𝕄 :=
  iprop((∃ K κ, Records m K κ) ∗ Ready c ∗ atPos ER (reg c barS) 0 ∅ 0 ∗ Tokens c
    ∗ (bigSep Finset.univ fun p : Fin 4 × Fin 2 => readerAt ES (c, p.1, p.2) 0) ∗ (bigSep Finset.univ (Writes c)) ∗ Credits c)

def dat (c : Dev nD) : Pipeline.Dat τ (Elt F) ℕ ℕ UU ℕ cfg0 c where
  A w := V₁ m c (Proc.devRef .tc (Pipeline.arrRef spec0 w))
  after w t := match w with
    | 0 => blk m c 0 t
    | 1 => blk m c 1 t
    | 2 => blk m c 2 t
    | 3 => blk m c 3 t
    | 4 => (args m).out c
  Φ t := if t.val = 0 then iprop(BagOpen m c ∗ Scratch c ∗ ∃ r, prngReg c r)
    else iprop(semVal (reg c barS) 0 ∗ Pipeline.ownSems0 osem c ∗ Scratch c ∗ ∃ r, prngReg c r)
  q _ := fullShare
  owed t := if t.val = 0 then debt₀ c else 0

def pdats : (p : Fin 1) → (c : Dev nD) → Pipeline.Dat τ (Elt F) ℕ ℕ UU ℕ (Pipeline.pin (pcfgs (F := F)) adm p) c
  | 0 => dat m

theorem owed_zero (c : Dev nD) : (dat m c).owed 0 = debt₀ c := by
  show (if (0 : Fin (cfg0.N + 1)).val = 0 then debt₀ c else 0) = debt₀ c; exact if_pos rfl
theorem owed_first (c : Dev nD) : (dat m c).owed (t0_0 : Fin cfg0.N).castSucc = debt₀ c := by
  show (if (t0_0 : Fin cfg0.N).castSucc.val = 0 then debt₀ c else 0) = debt₀ c; exact if_pos rfl
theorem owed_last (c : Dev nD) : (dat m c).owed (Fin.last _) = 0 := by
  show (if (Fin.last cfg0.N).val = 0 then debt₀ c else 0) = 0
  rw [Fin.val_last, if_neg (by rw [show cfg0.N = 1 from N_0]; decide)]

theorem put_owes {c : Dev nD} (t : Fin (cfg0.N + 1)) (O : Debt) (h : (dat m c).owed t = O) :
    (Owes c O : sProp 𝕄) ⊢ ((dat m c).owesAt 0 t : sProp 𝕄) := by
  unfold Owes Dat.owesAt Pipeline.owesWithin Dat.bound
  rw [h]
  iintro ⟨%W, HO⟩
  iexists W
  isplitr; · ipureintro; exact fun _ _ => Or.inl trivial
  iexact HO
theorem get_owes {c : Dev nD} (t : Fin (cfg0.N + 1)) (O : Debt) (h : (dat m c).owed t = O) :
    ((dat m c).owesAt 0 t : sProp 𝕄) ⊢ (Owes c O : sProp 𝕄) := by
  unfold Owes Dat.owesAt Pipeline.owesWithin
  rw [h]
  iintro ⟨%W, -, HO⟩
  iexists W; iexact HO

theorem before_0 (c : Dev nD) (t : Fin cfg0.N) (d) : (dat m c).before 0 t d = blk m c 0 t :=
  ((dat m c).before_in_eq_fetched 0 rfl (fun _ => rfl) (fun _ _ _ => rfl) (fun t => rfl) t d).trans rfl
theorem before_1 (c : Dev nD) (t : Fin cfg0.N) (d) : (dat m c).before 1 t d = blk m c 1 t :=
  ((dat m c).before_in_eq_fetched 1 rfl (fun _ => rfl) (fun _ _ _ => rfl) (fun t => rfl) t d).trans rfl
theorem before_2 (c : Dev nD) (t : Fin cfg0.N) (d) : (dat m c).before 2 t d = blk m c 2 t :=
  ((dat m c).before_in_eq_fetched 2 rfl (fun _ => rfl) (fun _ _ _ => rfl) (fun t => rfl) t d).trans rfl
theorem before_3 (c : Dev nD) (t : Fin cfg0.N) (d) : (dat m c).before 3 t d = blk m c 3 t :=
  ((dat m c).before_in_eq_fetched 3 rfl (fun _ => rfl) (fun _ _ _ => rfl) (fun t => rfl) t d).trans rfl

/-- A window's block is its whole array. -/
theorem blk_0 (c : Dev nD) (t : Fin cfg0.N) : blk m c 0 t = ringTab (F := F) := by
  funext i
  show V₁ m c (Proc.devRef .tc main_c) (((cfg0.win 0).blk t).view.emb i) = ringTab i
  rw [V₁_ring]
  congr 1; funext a; apply Fin.ext
  exact Window.rect_emb_val_of_index_zero (cfg0.win 0) t a rfl i
theorem blk_1 (c : Dev nD) (t : Fin cfg0.N) : blk m c 1 t = posTab (F := F) := by
  funext i
  show V₁ m c (Proc.devRef .tc main_c_0) (((cfg0.win 1).blk t).view.emb i) = posTab i
  rw [V₁_pos]
  congr 1; funext a; apply Fin.ext
  exact Window.rect_emb_val_of_index_zero (cfg0.win 1) t a rfl i
theorem blk_2 (c : Dev nD) (t : Fin cfg0.N) : blk m c 2 t = (args m).x c := by
  funext i
  show V₁ m c (Proc.devRef .tc main_arg0) (((cfg0.win 2).blk t).view.emb i) = (args m).x c i
  rw [V₁_x]
  congr 1; funext a; apply Fin.ext
  exact Window.rect_emb_val_of_index_zero (cfg0.win 2) t a rfl i
theorem blk_3 (c : Dev nD) (t : Fin cfg0.N) : blk m c 3 t = (args m).w c := by
  funext i
  show V₁ m c (Proc.devRef .tc main_arg1) (((cfg0.win 3).blk t).view.emb i) = (args m).w c i
  rw [V₁_w]
  congr 1; funext a; apply Fin.ext
  exact Window.rect_emb_val_of_index_zero (cfg0.win 3) t a rfl i

/-! ## The body -/

theorem whole_pts (c : Dev nD) (b : Ref sig .tc) (X : b.ty.Contents (Elt F)) :
    (owns (c : Thread nD τ) (Memref.whole b) fullShare X : sProp 𝕄)
      = ((Memref.whole b).view.loc (c : Thread nD τ) ↦[Finset.univ]{fullShare} X) := by
  rw [owns_whole]

theorem at_point (c : Dev nD) (K : GSem nD τ sig → ℕ) (κ : Key → ℕ) {Q : PUnit.{1} → sProp 𝕄} :
    iprop(Records m K κ ∗ (Mem (args m) c ∗ PosPts (F := F) c ∗ ∃ f, outR.view.loc (c : Thread nD τ) ↦[Finset.univ]{fullShare} f)
        ∗ (Ready c ∗ atPos ER (reg c barS) 0 ∅ 0 ∗ Tokens c
            ∗ (bigSep Finset.univ fun p : Fin 4 × Fin 2 => readerAt ES (c, p.1, p.2) 0) ∗ (bigSep Finset.univ (Writes c)) ∗ Credits c)
        ∗ Scratch c ∗ Owes c (debt₀ c)
        ∗ ((Mem (args m) c ∗ PosPts (F := F) c ∗ OutPts (args m) c) ∗ semVal (reg c barS) 0 ∗ Pipeline.ownSems0 osem c
          ∗ Scratch c ∗ Owes c 0 -∗ Q ⟨⟩))
      ⊢ Run (F := F) c body Q := by
  unfold Records
  iintro ⟨⟨#Hx, #Hb⟩, ⟨HM, HP, ⟨%g, Hout⟩⟩, ⟨HR, Hbar, HT, Hrd, Hw, Hcr⟩, Hs, HO, Hk⟩
  ihave H := (start_of c m) $$ [HR Hbar HT Hrd Hw Hcr Hs HO]
  · isplitr; · iexact Hb
    isplitl [HR]; · iexact HR
    isplitl [Hbar]; · iexact Hbar
    isplitl [HT]; · iexact HT
    isplitl [Hrd]; · iexact Hrd
    isplitl [Hw]; · iexact Hw
    isplitl [Hcr]; · iexact Hcr
    isplitl [Hs]; · iexact Hs
    iexact HO
  icases H with ⟨Hst, Hin, Hsp⟩
  ihave Hout := (outAny_all g) $$ Hout
  iapply (wp_fupd _ _ _ _ _)
  iapply (body_step (A := args m) (K := K) (κ := κ))
  isplitr; · iexact Hx
  isplitl [HM]; · iexact HM
  isplitl [HP]; · iexact HP
  isplitl [Hout]; · iexact Hout
  isplitl [Hst]; · iexact Hst
  iintro ⟨HM, HP, Hout, He, Hbar⟩
  ihave H := (end_of (A := args m) c) $$ [He Hin Hsp]
  · isplitl [He]; · iexact He
    isplitl [Hin]; · iexact Hin
    iexact Hsp
  icases H with ⟨Hs, HO, Hd⟩
  imod (own_close (A := args m) (K := K) (κ := κ) c) $$ [Hd] with Hown
  · isplitr; · iexact Hx
    iexact Hd
  imod (bar_close (A := args m) (K := K) (κ := κ) c) $$ [Hbar] with Hb0
  · isplitr; · iexact Hx
    iexact Hbar
  imodintro
  iapply Hk
  isplitl [HM HP Hout]
  · isplitl [HM]; · iexact HM
    isplitl [HP]; · iexact HP
    iexact Hout
  isplitl [Hb0]; · iexact Hb0
  isplitl [Hown]; · iexact Hown
  isplitl [Hs]; · iexact Hs
  iexact HO

theorem body_ok (c : Dev nD) : BodyObligation (dat m c) defs₀ 𝒱₀ 0 Set.univ := fun t => by
  obtain rfl := fin_N0 t
  rw [bigSep_W0, bigSep_W0]
  show iprop(iprop(BagOpen m c ∗ Scratch c ∗ ∃ r, prngReg c r) ∗ (dat m c).owesAt 0 (t0_0 : Fin cfg0.N).castSucc
      ∗ (∃ d, owns (c : Thread nD τ) ringR fullShare ((dat m c).before 0 t0_0 d)) ∗ (∃ d, owns (c : Thread nD τ) posR fullShare ((dat m c).before 1 t0_0 d))
      ∗ (∃ d, owns (c : Thread nD τ) xR fullShare ((dat m c).before 2 t0_0 d)) ∗ (∃ d, owns (c : Thread nD τ) wR fullShare ((dat m c).before 3 t0_0 d))
      ∗ (∃ d, owns (c : Thread nD τ) outR fullShare ((dat m c).before 4 t0_0 d)))
    ⊢ Run (F := F) c (bodyAt0 t0_0) fun _ => iprop(iprop(semVal (reg c barS) 0 ∗ Pipeline.ownSems0 osem c ∗ Scratch c ∗ ∃ r, prngReg c r)
      ∗ (dat m c).owesAt 0 (t0_0 : Fin cfg0.N).succ
      ∗ owns (c : Thread nD τ) ringR fullShare (blk m c 0 t0_0) ∗ owns (c : Thread nD τ) posR fullShare (blk m c 1 t0_0)
      ∗ owns (c : Thread nD τ) xR fullShare (blk m c 2 t0_0) ∗ owns (c : Thread nD τ) wR fullShare (blk m c 3 t0_0)
      ∗ owns (c : Thread nD τ) outR fullShare ((args m).out c))
  rw [bodyAt_eq]
  simp only [before_0, before_1, before_2, before_3, blk_0, blk_1, blk_2, blk_3]
  unfold ringR posR xR wR outR BagOpen
  simp only [whole_pts]
  iintro ⟨⟨⟨⟨%K, %κ, #HK⟩, HB⟩, Hs, Hp⟩, HO, ⟨%d0, H0⟩, ⟨%d1, H1⟩, ⟨%d2, H2⟩, ⟨%d3, H3⟩, ⟨%d4, H4⟩⟩
  ihave HO := (get_owes m _ (debt₀ c) (owed_first m c)) $$ HO
  iapply (at_point m c K κ)
  isplitr; · iexact HK
  isplitl [H0 H1 H2 H3 H4]
  · isplitl [H0 H2 H3]
    · unfold Mem RingPts
      isplitl [H0]; · iexact H0
      isplitl [H2]; · iexact H2
      iexact H3
    isplitl [H1]; · unfold PosPts; iexact H1
    iexists _; iexact H4
  isplitl [HB]; · iexact HB
  isplitl [Hs]; · iexact Hs
  isplitl [HO]; · iexact HO
  unfold Mem RingPts PosPts OutPts
  iintro ⟨⟨⟨H0, H2, H3⟩, H1, H4⟩, Hb, Hown, Hs, HO⟩
  isplitl [Hb Hown Hs Hp]
  · isplitl [Hb]; · iexact Hb
    isplitl [Hown]; · iexact Hown
    isplitl [Hs]; · iexact Hs
    iexact Hp
  isplitl [HO]; · iapply (put_owes m (t0_0 : Fin cfg0.N).succ 0 (owed_last m c)); iexact HO
  isplitl [H0]; · iexact H0
  isplitl [H1]; · iexact H1
  isplitl [H2]; · iexact H2
  isplitl [H3]; · iexact H3
  iexact H4

end Cert.KernelIdeal.Ring

end
-- ==== Proof.Run.lean ====
/- The run: the launch, the two constants, the kernel. -/
module

public import proofs.«01_k».proof.Proof.Region

@[expose] public section

noncomputable section

namespace Cert.KernelIdeal.Ring

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation)

variable {F : FTy → Type} [FloatOps F]
local notation "𝕄" => MT nD τ sig ℕ (Elt F) ℕ UU ℕ

variable (m : (ℓ : Loc nD τ sig) → Buf (Elt F) ℓ) (ρ : Dev nD → PrngReg)

/-! ## The region -/

def Brought (c : Dev nD) : sProp 𝕄 := Bag m c
def Shut (c : Dev nD) : sProp 𝕄 := semVal (reg c barS) 0

theorem scratch_eq (c : Dev nD) : (Pipeline.scopedRest (Ix := ℕ) (Name := ℕ) (U := UU) (Lvl := ℕ) (Val := Elt F)
    (Pipeline.pin (pcfgs (F := F)) adm 0).spec c : sProp 𝕄) = Scratch c := (scopedRest0_eq c).trans rfl

theorem opening (c : Dev nD) : iprop(Brought m c ∗ Pipeline.ownSems0 osem c ∗ levAts L lv) ⊢ (|={Set.univ}=> BagOpen m c : sProp 𝕄) := by
  unfold Brought Bag Ghost BagOpen
  iintro ⟨⟨⟨%K, %κ, #HK⟩, ⟨Hbar, Hop, HT, Hrd, Hw⟩, Hcr⟩, Hown, -⟩
  ihave #Hx := (show Records m K κ ⊢ Ctx (args m) K κ from by unfold Records; iintro ⟨#Hx, -⟩; iexact Hx) $$ HK
  imod (own_open (A := args m) (K := K) (κ := κ) c) $$ [Hop Hown] with HR
  · isplitr; · iexact Hx
    isplitl [Hop] <;> iassumption
  imodintro
  isplitr; · iexists K; iexists κ; iexact HK
  isplitl [HR]; · iexact HR
  isplitl [Hbar]; · iexact Hbar
  isplitl [HT]; · iexact HT
  isplitl [Hrd]; · iexact Hrd
  isplitl [Hw]; · iexact Hw
  iexact Hcr

theorem held_none (c : Dev nD) (W : Valuation τ sig (Elt F)) : (StableHlo.held (c : Thread nD τ) ∅ W : sProp 𝕄) = BI.emp := by
  unfold StableHlo.held; exact BI.bigSep_empty

theorem entering (c : Dev nD) : iprop(Pipeline.scopedRest (Pipeline.pin (pcfgs (F := F)) adm 0).spec c ∗ (∃ r, prngReg c r)
      ∗ StableHlo.held (c.tc : Thread nD τ) ∅ (V₁ m c) ∗ BagOpen m c) ⊢ (pdats m 0 c).Φ 0 := by
  rw [show (pdats m 0 c).Φ 0 = iprop(BagOpen m c ∗ Scratch c ∗ ∃ r, prngReg c r) from rfl, scratch_eq, held_none]
  iintro ⟨Hs, Hp, -, HB⟩
  isplitl [HB]; · iexact HB
  isplitl [Hs]; · iexact Hs
  iexact Hp

theorem leaving (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Shut c) := by
  rw [show (pdats m 0 c).Φ (Fin.last _) = iprop(semVal (reg c barS) 0 ∗ Pipeline.ownSems0 osem c ∗ Scratch c ∗ ∃ r, prngReg c r) from rfl, scratch_eq, held_none]
  unfold Shut
  iintro ⟨Hb, Hown, Hs, Hp⟩
  isplitl [Hs]; · iexact Hs
  isplitl [Hp]; · iexact Hp
  isplitr; · iempintro
  isplitl [Hown]; · iexact Hown
  iexact Hb

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem debt₀_above (c : Dev nD) : Above 0 (debt₀ c) :=
  (((debt_above c 31 (by decide)).mono (by decide)).add (Above.tally _ _ _ _ (by decide) (by decide))).add (Above.tally _ _ _ _ (by decide) (by decide))

theorem cut (c : Dev nD) (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then debt₀ c else 0 := rfl
  rw [e] at h
  split at h
  · exact debt₀_above c g i h
  · exact absurd h (Nat.lt_irrefl 0)

theorem arr_out (c : Dev nD) : (dat m c).arrAt 4 cfg0.N = (args m).out c :=
  (dat m c).arrAt_eq_of_after_last 4 t0_0 (by decide +kernel) _ (fun j => rfl)

theorem arr_end (c : Dev nD) : ∀ w : Fin 5, (dat m c).arrAt w cfg0.N = V₂ m c (Proc.devRef .tc (Pipeline.arrRef spec0 w))
  | 0 => ((dat m c).arrAt_in 0 rfl _).trans (V₂_ne m c (Proc.devRef .tc main_c) (by decide)).symm
  | 1 => ((dat m c).arrAt_in 1 rfl _).trans (V₂_ne m c (Proc.devRef .tc main_c_0) (by decide)).symm
  | 2 => ((dat m c).arrAt_in 2 rfl _).trans (V₂_ne m c (Proc.devRef .tc main_arg0) (by decide)).symm
  | 3 => ((dat m c).arrAt_in 3 rfl _).trans (V₂_ne m c (Proc.devRef .tc main_arg1) (by decide)).symm
  | 4 => (arr_out m c).trans (V₂_out m c).symm

local notation "ℝ𝕊" => Pipeline.RegionSeg (pcfgs (F := F)) adm (pdats m) 0 defs₀ 𝒱₀ L lv

theorem ownFacts : Pipeline.OwnSemFacts spec0 osem := by decide

set_option backward.isDefEq.respectTransparency.types false in
def region : ℝ𝕊 0 :=
  Pipeline.RegionSeg.ofTalk (pcfgs (F := F)) adm (pdats m) 0 defs₀ 𝒱₀ L lv 0 osem ownFacts
    ∅ ∅ (Finset.Subset.refl _) kit rfl (fun c => (body_ok m c).loose)
    (fun _ => 0) debt₀ (fun c => (owed_zero m c).trans (zero_add _).symm) (owed_last m) (fun _ => rfl) (fun c w => by show (if _ then _ else _) = _; split <;> rfl)
    (V₁ m) (V₂ m) (fun _ b hb => absurd hb (by rw [Finset.sdiff_self]; exact Finset.notMem_empty b))
    (Brought m) Shut (BagOpen m) Shut (opening m) (entering m) (leaving m)
    (fun c => by iintro H; imodintro; iexact H)
    (fun _ => 0)
    ⟨fun c w s => by rw [L_tc]; decide, fun _ _ _ => Nat.le_refl 0, fun c t g i h => cut m c t g i h⟩
    (fun _ => iprop(emp))
    (fun _ w => rfl) (fun c w => arr_end m c w)

theorem arr_bufs : Pipeline.arrRefs (τ := τ) (pcfgs (F := F) 0).spec = bufs := by
  show Pipeline.arrRefs (τ := τ) spec0 = bufs
  decide

theorem region_pre (c : Dev nD) : iprop(StableHlo.held (c : Thread nD τ) bufs (V₁ m c) ∗ Rest m c) ⊢ (region m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) ∅ (V₁ m c) ∗ emp) ∗ Brought m c ∗ ∃ Wd, owes (c : Thread nD τ) (0 + debt₀ c) Wd)
  rw [arr_bufs, zero_add, held_none]
  unfold Rest Brought
  iintro ⟨Hh, HB, Hp, HO⟩
  isplitl [Hh]; · iexact Hh
  isplitl [Hp]; · iexact Hp
  isplitr; · isplitr <;> iempintro
  isplitl [HB]; · iexact HB
  iexact HO

theorem region_post (c : Dev nD) : (region m).post c
    ⊢ iprop((StableHlo.held (c : Thread nD τ) bufs (V₂ m c) ∗ semVal (reg c barS) 0) ∗ ∃ W, owes (c : Thread nD τ) (0 : CellTallies nD τ sig ℕ) W) := by
  show iprop(StableHlo.held (c.tc : Thread nD τ) (Pipeline.arrRefs (τ := τ) (pcfgs (F := F) 0).spec) (V₂ m c) ∗ (∃ r, prngReg c r)
    ∗ (StableHlo.held (c.tc : Thread nD τ) ∅ (V₂ m c) ∗ emp) ∗ Shut c ∗ ∃ Wd, owes (c : Thread nD τ) (0 : CellTallies nD τ sig ℕ) Wd) ⊢ _
  rw [arr_bufs]
  unfold Shut
  iintro ⟨Hh, -, -, Hb, HO⟩
  isplitl [Hh Hb]
  · isplitl [Hh] <;> iassumption
  iexact HO

/-! ## The program -/

local notation "ℍ" => Pipeline.HostSeg (Name := ℕ) (U := UU) (pcfgs (F := F)) defs₀ 𝒱₀ L lv

theorem ops_sub : ∀ op ∈ (hostOps0 : List (HloOp τ sig (Elt F))), op.bufs ⊆ bufs := fun op h => by
  simp only [hostOps0, List.mem_cons, List.not_mem_nil, or_false] at h
  rcases h with rfl | rfl
  · show ({Proc.devRef .tc main_c} : Finset (DevRef τ sig)) ⊆ bufs; decide
  · show ({Proc.devRef .tc main_c_0} : Finset (DevRef τ sig)) ⊆ bufs; decide
theorem ops_fresh : ∀ op ∈ (hostOps0 : List (HloOp τ sig (Elt F))), op.fresh = ∅ := fun op h => by
  simp only [hostOps0, List.mem_cons, List.not_mem_nil, or_false] at h
  rcases h with rfl | rfl <;> rfl

def host : ℍ := Pipeline.HostSeg.ofOps _ _ _ _ _ bufs hostOps0 ops_sub ops_fresh (V₀ m) (Rest m)

def segs : List (Pipeline.Seg (pcfgs (F := F)) adm (pdats m) 0 defs₀ 𝒱₀ L lv) := [.host (host m), .region (region m)]

theorem bufs_eq (c : Dev nD) (W : Valuation τ sig (Elt F)) : (StableHlo.held (c : Thread nD τ) bufs W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_v1) ↦{fullShare} W (Proc.devRef .tc main_v1))
      ∗ (((c : Thread nD τ).loc main_c) ↦{fullShare} W (Proc.devRef .tc main_c)) ∗ (((c : Thread nD τ).loc main_c_0) ↦{fullShare} W (Proc.devRef .tc main_c_0))) := by
  unfold StableHlo.held
  rw [bigSep_eq_bigSepL_of_eq [Proc.devRef .tc main_arg0, Proc.devRef .tc main_arg1, Proc.devRef .tc main_v1, Proc.devRef .tc main_c, Proc.devRef .tc main_c_0] (by decide) (by decide)]
  rfl

abbrev Tₙ (c : Dev nD) : sProp 𝕄 := iprop(StableHlo.held (c : Thread nD τ) bufs (V₂ m c) ∗ semVal (reg c barS) 0)

set_option backward.isDefEq.respectTransparency.types false in
theorem run_main : θ_run defs (onTc (τ := τ) (main (F := F))) ⟨m, fun _ => 0, ρ⟩
    (fun r => (∀ c : Dev nD, r.2.mem ((c : Thread nD τ).loc main_v1) = (args m).out c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) 0 cellOf_inj EP defs₀ 𝒱₀ L lv m ρ main (segs m)
    (fun c Q => by rw [main_segs adm (pdats m) 0 𝒱₀ L lv (host m) (region m) rfl c]; rfl)
    (by simp only [segs, Pipeline.Seg.pipes_host, Pipeline.Seg.pipes_region, Pipeline.Seg.pipes_nil]; decide)
    (O₀ := debt₀) (hL := L_of_ne) (G := only Seed) (u₀ := u₀)
    (hu₀ := by
      iintro Hu
      ihave H := (seed_intro (F := F)) $$ Hu
      icases H with ⟨HP, HX⟩
      imodintro
      isplitl [HP]; · iexact HP
      rw [bigSep_only]; iexact HX)
    (T₀ := T₀ m) (Tₙ := Tₙ m)
    (hch := ⟨fun c => .rfl, fun c => region_pre m c, fun c => region_post m c⟩)
    (hinit := init m ρ)
    (QY := fun c s => (s.mem ((c : Thread nD τ).loc main_v1) = V₂ m c (Proc.devRef .tc main_v1)
        ∧ s.mem ((c : Thread nD τ).loc main_arg0) = V₂ m c (Proc.devRef .tc main_arg0)
        ∧ s.mem ((c : Thread nD τ).loc main_arg1) = V₂ m c (Proc.devRef .tc main_arg1)) ∧ s.sem (reg c barS) = 0)
    (hfin := fun c s' => by
      dsimp only [Tₙ]; rw [bufs_eq]
      iintro ⟨⟨⟨Hx, Hw, Ho, -⟩, Hb0⟩, HSI⟩
      icombine HSI Hx gives %hx
      icombine HSI Hw gives %hw
      icombine HSI Ho gives %ho
      icombine HSI Hb0 gives %hb
      imodintro
      isplitr
      · ipureintro
        exact ⟨⟨Buf.eq_of_forall_mem_univ ho, Buf.eq_of_forall_mem_univ hx, Buf.eq_of_forall_mem_univ hw⟩, by simpa using hb⟩
      iexact HSI)
    (hQ := fun s h hs => ⟨fun c => by
        obtain ⟨⟨ho, hx, hw⟩, -⟩ := h c
        rw [V₂_out] at ho
        rw [V₂_ne m c (Proc.devRef .tc main_arg0) (by decide), V₁_x] at hx
        rw [V₂_ne m c (Proc.devRef .tc main_arg1) (by decide), V₁_w] at hw
        exact ⟨ho, hx, hw⟩,
      sem_eq_zero hs fun c sm hsm => by
        obtain rfl := bar_only sm hsm
        exact (h c).2⟩)

end Cert.KernelIdeal.Ring

end
-- ==== Proof.Same.lean ====
/- Read over the same floats, the two printed programs are one program. -/
module

public import proofs.«01_k».proof.Proof.Gen.Kernel
public import proofs.«01_k».proof.Proof.Gen.KernelIdeal
public import Idealize.ShloMosaic.Lib.Pipeline.RegionTalk

@[expose] public section

noncomputable section

namespace Cert.Proof

open Idealize.ShloMosaic Idealize.ShloMosaic.TcCoe Idealize.SL.Sem

variable {F : FTy → Type} [FloatOps F]

theorem sig_eq : Cert.Kernel.sig = Cert.KernelIdeal.sig := rfl

theorem main_eq : Cert.Kernel.main (F := F) = Cert.KernelIdeal.main (F := F) := by chain_rfl

theorem defs₀_eq : Cert.Kernel.defs₀ (F := F) = Cert.KernelIdeal.defs₀ (F := F) := by chain_rfl

theorem defs_eq : Cert.Kernel.defs (F := F) = Cert.KernelIdeal.defs (F := F) := by chain_rfl

end Cert.Proof

end
-- ==== Proof.Frames.lean ====
/- The frames: both readings of the kernel run, keep their arguments and leave every counter at zero; so does the reference. -/
module

public import proofs.«01_k».proof.Defs
public import proofs.«01_k».proof.Proof.Run
public import proofs.«01_k».proof.Proof.Same
public import proofs.«01_k».proof.Proof.Gen.ReferenceIdeal.Run

@[expose] public section

noncomputable section

namespace Cert.Proof

open Idealize.ShloMosaic Idealize.ShloMosaic.TcCoe Idealize.SL.Sem

theorem frame_ideal : Cert.quiescent_KernelIdeal := fun m g _ =>
  (θ_run Cert.KernelIdeal.defs _ _).mono (fun _ h => ⟨fun c => (h.1 c).2, h.2⟩) (Cert.KernelIdeal.Ring.run_main (F := Ideal) m g)

theorem frame_bits : Cert.quiescent_Kernel := fun m g _ => by
  rw [defs_eq, main_eq]
  exact (θ_run Cert.KernelIdeal.defs _ _).mono (fun _ h => ⟨fun c => (h.1 c).2, h.2⟩) (Cert.KernelIdeal.Ring.run_main (F := Bits) m g)

theorem no_sems : IsEmpty (SemLoc Cert.ReferenceIdeal.sig) := by
  constructor; rintro (⟨s, h⟩ | ⟨s, h⟩) <;> exact absurd h (Nat.not_lt_zero s)

theorem frame_ref : Cert.quiescent_ReferenceIdeal := fun m g _ =>
  (θ_run Cert.ReferenceIdeal.defs _ _).mono (fun _ h => ⟨fun c => (h c).2, funext fun s => (no_sems.false s.2).elim⟩)
    (Cert.ReferenceIdeal.Value.run (F := Ideal) m g)

end Cert.Proof

end
-- ==== Proof.Exact.lean ====
/- The values over the extended reals: what travels round the ring adds up to the whole product. -/
module

public import proofs.«01_k».proof.Proof.Finish
public import Idealize.ShloMosaic.PureOps.Ideal.Laws
public import Idealize.ShloMosaic.Lib.MatmulPlain
public import Idealize.ShloMosaic.Lib.Layout
public import Idealize.ShloMosaic.Lib.Pipeline.Value

@[expose] public section

noncomputable section

namespace Cert.KernelIdeal.Ring

open Cert.KernelIdeal Cert.KernelIdeal.Gen
open Idealize.ShloMosaic Idealize.ShloMosaic.ValueIdx
open scoped BigOperators

/-- The whole arrays' index types. -/
abbrev XIdx := (⟨2, ![4096, 4096]⟩ : Shape).Idx
abbrev WIdx := (⟨2, ![4096, 8192]⟩ : Shape).Idx

/-- The arguments as the devices' blocks of two whole arrays. -/
def blocks (X : XIdx → EReal) (W : WIdx → EReal) : Args Ideal where
  x c := Layout.block ⟨2, ![4096, 128]⟩ ⟨2, ![4096, 4096]⟩ 1 32 c X
  w c := Layout.block ⟨2, ![128, 8192]⟩ ⟨2, ![4096, 8192]⟩ 0 32 c W

/-- Position `k` of block `c`. -/
def at128 (c : Fin 32) (k : Fin 128) : Fin 4096 := ⟨128 * c.val + k.val, by omega⟩
/-- Column `q` of stream `j`. -/
def atCol (j : Fin 4) (q : Fin 2048) : Fin 8192 := ⟨col j + q.val, by
  have : ∀ j, col j ≤ 6144 := by decide
  have := this j
  omega⟩

/-- Device `c`'s share of an entry of the product. -/
def share (X : XIdx → EReal) (W : WIdx → EReal) (r : Fin 4096) (q : Fin 8192) (c : Fin 32) : EReal :=
  ∑ k : Fin 128, X (ix2 r (at128 c k)) * W (ix2 (at128 c k) q)

/-- An entry of the product is the sum of the devices' shares. -/
theorem sum_share (X : XIdx → EReal) (W : WIdx → EReal) (r : Fin 4096) (q : Fin 8192) :
    ∑ c, share X W r q c = ∑ k : Fin 4096, X (ix2 r k) * W (ix2 k q) := by
  have e : ∀ p : Fin 32 × Fin 128, (finProdFinEquiv p : Fin (32 * 128)) = at128 p.1 p.2 := fun p =>
    Fin.ext (show p.2.val + 128 * p.1.val = 128 * p.1.val + p.2.val by omega)
  have h := Equiv.sum_comp (finProdFinEquiv (m := 32) (n := 128)) (fun k : Fin (32 * 128) => X (ix2 r (k : Fin 4096)) * W (ix2 (k : Fin 4096) q))
  refine Eq.trans ?_ h
  rw [Fintype.sum_prod_type]
  refine Finset.sum_congr rfl fun c _ => Finset.sum_congr rfl fun k _ => ?_
  rw [e (c, k)]

variable (X : XIdx → EReal) (W : WIdx → EReal)

theorem part_at (c : Dev nD) (j : Fin 4) (d : Dev nD) (a : Fin 128) (b : Fin 2048) :
    (blocks X W).part c j d (ix2 a b) = share X W (at128 d a) (atCol j b) c := by
  have h := Ideal.matmul_plain_apply (M := 128) (K := 128) (N := 2048) (φ₁ := .bf16) (φ₂ := .bf16) none
    ((xR.access (rowsRect d)).read (Elt Ideal) ((blocks X W).x c) : FVec Ideal ⟨2, ![128, 128]⟩ .bf16)
    ((wR.access (colRect j)).read (Elt Ideal) ((blocks X W).w c) : FVec Ideal ⟨2, ![128, 2048]⟩ .bf16)
    (constant ⟨2, ![128, 2048]⟩ .f32 0x00000000#32) a b
  have e : (blocks X W).part c j d = FloatOps.matmul (φ₁ := .bf16) (φ₂ := .bf16) (DotDims.plain 128 128 2048) none
      ((xR.access (rowsRect d)).read (Elt Ideal) ((blocks X W).x c) : FVec Ideal ⟨2, ![128, 128]⟩ .bf16)
      ((wR.access (colRect j)).read (Elt Ideal) ((blocks X W).w c) : FVec Ideal ⟨2, ![128, 2048]⟩ .bf16)
      (constant ⟨2, ![128, 2048]⟩ .f32 0x00000000#32) := by
    unfold Args.part k0_pay2
    rw [shapeCast_self, shapeCast_self]
    rfl
  rw [e, h]
  have z : (constant ⟨2, ![128, 2048]⟩ .f32 0x00000000#32 : FVec Ideal ⟨2, ![128, 2048]⟩ .f32) (ix2 a b) = 0 := Ideal.ofBits_zero_f32
  rw [z, zero_add]
  refine Finset.sum_congr rfl fun k _ => ?_
  refine congrArg₂ (· * ·) (congrArg X (Shape.idx_ext₂ ?_ ?_)) (congrArg W (Shape.idx_ext₂ ?_ ?_))
  · show 128 * d.val + 1 * a.val = 128 * d.val + a.val
    omega
  · show c.val * 128 + (0 + 1 * k.val) = 128 * c.val + k.val
    omega
  · show c.val * 128 + (0 + 1 * k.val) = 128 * c.val + k.val
    omega
  · show col j + 1 * b.val = col j + b.val
    omega

/-- The device `t` places back along stream `j`. -/
def back (j : Fin 4) (c : Dev nD) (t : ℕ) : Dev nD := turn (-(dir j * t)) c
theorem back_zero (j : Fin 4) (c : Dev nD) : back j c 0 = c := by
  unfold back; conv_rhs => rw [← turn_zero c]
  apply turn_congr; simp
theorem back_frm (j : Fin 4) (c : Dev nD) (t : ℕ) : back j (frm j c) t = back j c (t + 1) := by
  unfold back frm; rw [turn_turn]; congr 1; rcases dir_cases j with h | h <;> rw [h] <;> omega

theorem back_inj (j : Fin 4) (c : Dev nD) (s t : ℕ) (hs : s < 32) (ht : t < 32) (h : back j c s = back j c t) : s = t := by
  unfold back at h
  rw [turn_eq_iff] at h
  rcases dir_cases j with e | e <;> rw [e] at h <;> omega

theorem sum_back (j : Fin 4) (c : Dev nD) (f : Dev nD → EReal) : ∑ t ∈ Finset.range 32, f (back j c t) = ∑ d, f d := by
  rw [Finset.sum_range]
  have hi : Function.Injective fun t : Fin 32 => back j c t.val := fun s t h => Fin.ext (back_inj j c s t s.isLt t.isLt h)
  exact (Equiv.sum_comp (Equiv.ofBijective _ (Finite.injective_iff_bijective.1 hi)) f)

/-- A message's entry: the shares of the devices that it has passed. -/
theorem msg_at (s : ℕ) : ∀ (c : Dev nD) (j : Fin 4) (a : Fin 128) (b : Fin 2048),
    shapeCast S128x2048 ((blocks X W).msg s c j) shapeCasts_S1x1x128x2048_S128x2048 (ix2 a b)
      = ∑ t ∈ Finset.range (s + 1), share X W (at128 (chunkDev j s c) a) (atCol j b) (back j c t) := by
  induction s with
  | zero =>
    intro c j a b
    rw [Finset.sum_range_one, back_zero, ← part_at]
    unfold Args.msg k0_pay7
    rw [shapeCast_shapeCast]
    rfl
  | succ s ih =>
    intro c j a b
    rw [Finset.sum_range_succ']
    have h := ih (frm j c) j a b
    simp only [chunkDev_frm, back_frm] at h
    rw [← h, back_zero, ← part_at]
    have e : (blocks X W).msg (s + 1) c j
        = k0_pay7 (k0_pay6 ((blocks X W).part c j (chunkDev j (s + 1) c)) ((blocks X W).msg s (frm j c) j)) := rfl
    rw [e]
    unfold k0_pay7
    rw [shapeCast_shapeCast]
    rfl

/-- The product with its negative entries replaced by zero. -/
def prod (r : Fin 4096) (q : Fin 8192) : EReal := max (∑ k : Fin 4096, X (ix2 r k) * W (ix2 k q)) 0
theorem prod_nonneg (r : Fin 4096) (q : Fin 8192) : 0 ≤ prod X W r q := le_max_right _ _

theorem sum_at (c : Dev nD) (j : Fin 4) (a : Fin 128) (b : Fin 2048) :
    (blocks X W).sum c j (ix2 a b) = prod X W (at128 c a) (atCol j b) := by
  have h := msg_at X W 30 (frm j c) j a b
  rw [chunkDev_frm, show 30 + 1 = 31 from rfl, chunkDev_last] at h
  simp only [back_frm] at h
  have e : (blocks X W).sum c j (ix2 a b)
      = max (shapeCast S128x2048 ((blocks X W).msg 30 (frm j c) j) shapeCasts_S1x1x128x2048_S128x2048 (ix2 a b)
          + (blocks X W).part c j c (ix2 a b)) (Ideal.ofBits .f32 0x00000000#32) := rfl
  rw [e, Ideal.ofBits_zero_f32, h, part_at]
  unfold prod
  rw [← sum_share, ← sum_back j c, Finset.sum_range_succ' _ 31, back_zero]

end Cert.KernelIdeal.Ring

end
-- ==== Proof.Largest.lean ====
/- The largest entry, taken by the devices one after the other and by the reference at once. -/
module

public import proofs.«01_k».proof.Proof.Exact
public import proofs.«01_k».proof.Proof.Gen.ReferenceIdeal.Run

@[expose] public section

noncomputable section

namespace Cert.KernelIdeal.Ring

open Cert.KernelIdeal Cert.KernelIdeal.Gen
open Idealize.ShloMosaic Idealize.ShloMosaic.ValueIdx

theorem bits_bot : Ideal.ofBits .f32 0xFF800000#32 = (⊥ : EReal) := by simp [Ideal.ofBits, Ideal.ieee]

/-- A maximum over all indices is at most `B` when every entry is. -/
theorem largest_le {s t : Shape} {axes : List (Fin s.rank)} (src : FVec Ideal s .f32) (h : s.Reduces axes t) (ht : ∀ b, t.size b = 1)
    (hφ : FKind.Formats .f32) (hacc : (0xFF800000#32 : BitVec 32) = FKind.maximumf.neutral .f32 hφ) (j : t.Idx) (B : EReal) :
    multiReduction .maximumf axes t src 0xFF800000#32 h hφ hacc j ≤ B ↔ ∀ i, src i ≤ B := by
  rw [multiReduction_maximumf_eq_fold, Finset.filter_true_of_mem fun i _ => funext fun b => Fin.ext (by
    have := (h.drop i b).isLt; have := (j b).isLt; have := ht b; omega)]
  have e : (FloatOps.ofBits .f32 0xFF800000#32 : Ideal .f32) = (⊥ : EReal) := bits_bot
  rw [e]
  exact (Finset.fold_max_le (f := src) (b := (⊥ : EReal)) B).trans ⟨fun h i => h.2 i (Finset.mem_univ i), fun h => ⟨bot_le, fun i _ => h i⟩⟩

theorem foldl_le {ι : Type} (f : ι → EReal) (B : EReal) : ∀ (l : List ι) (z : EReal), l.foldl (fun r n => max r (f n)) z ≤ B ↔ z ≤ B ∧ ∀ n ∈ l, f n ≤ B
  | [], z => by simp
  | a :: l, z => by
    rw [List.foldl_cons, foldl_le f B l, max_le_iff, List.forall_mem_cons, and_assoc]

/-- The host's maximum over all indices likewise. -/
theorem host_le {s t u : Shape} {axes : List (Fin s.rank)} (src : FVec Ideal s .f32) (init : FVec Ideal u .f32) (h : s.ReducesTo axes t)
    (hu : 0 < u.numel) (ht : ∀ b, t.size b = 1) (hi : ∀ k, init k = (⊥ : EReal)) (j : t.Idx) (B : EReal) :
    Host.reduce (FloatOps.maximumf (F := Ideal) (φ := .f32)) src init h hu j ≤ B ↔ ∀ i, src i ≤ B := by
  unfold Host.reduce
  refine (foldl_le (fun n => src (s.rowMajor.symm n)) B _ _).trans ?_
  rw [hi]
  constructor
  · intro hh i
    have := hh.2 (s.rowMajor i) (by
      rw [List.mem_filter]
      refine ⟨List.mem_finRange _, decide_eq_true (funext fun b => Fin.ext ?_)⟩
      have := (h.drop (s.rowMajor.symm (s.rowMajor i)) b).isLt; have := (j b).isLt; have := ht b; omega)
    rwa [Equiv.symm_apply_apply] at this
  · exact fun hh => ⟨bot_le, fun n _ => hh _⟩

/-- A reshaped array has the same bounds. -/
theorem cast_le {s t : Shape} (v : FVec Ideal s .f32) (h : s.ShapeCasts t) (B : EReal) : (∀ i, shapeCast t v h i ≤ B) ↔ ∀ i, v i ≤ B := by
  constructor
  · intro hh i
    have := hh ((Shape.reshapeEquiv h).symm i)
    unfold shapeCast at this
    rwa [Equiv.apply_symm_apply] at this
  · exact fun hh i => hh _

/-- The same of the one number read out of the maximum. -/
theorem total_le {s t u : Shape} {axes : List (Fin s.rank)} (src : FVec Ideal s .f32) (h : s.Reduces axes t) (ht : ∀ b, t.size b = 1)
    (hφ : FKind.Formats .f32) (hacc : (0xFF800000#32 : BitVec 32) = FKind.maximumf.neutral .f32 hφ) (hc : t.ShapeCasts u)
    (p : Fin u.rank → Nat) (hp : ∀ a, p a < u.size a) (B : EReal) :
    extractAt p (shapeCast u (multiReduction .maximumf axes t src 0xFF800000#32 h hφ hacc) hc) hp ≤ B ↔ ∀ i, src i ≤ B :=
  largest_le src h ht hφ hacc _ B

theorem unit1 : ∀ b, S1.size b = 1 := by decide

/-- One stream's maximum. -/
def one (v : FVec Ideal S128x2048 .f32) : Ideal .f32 :=
  extractAt ![0, 0, 0] (shapeCast S1x1x1 (multiReduction .maximumf [1, 2] S1 (shapeCast S1x128x2048 v shapeCasts_S128x2048_S1x128x2048)
    0xFF800000#32 reduces_S1x128x2048_S1 (.inl rfl) rfl) shapeCasts_S1_S1x1x1) inpos_S1x1x1_p0_0_0
theorem one_le (v : FVec Ideal S128x2048 .f32) (B : EReal) : one v ≤ B ↔ ∀ i, v i ≤ B :=
  (total_le _ reduces_S1x128x2048_S1 unit1 _ _ _ _ _ B).trans (cast_le v shapeCasts_S128x2048_S1x128x2048 B)

/-- Four numbers in a row. -/
def quad (v : Fin 4 → Ideal .f32) : FVec Ideal S4 .f32 := concatenate S4 0
  [⟨S1, broadcast S1 (v 0)⟩, ⟨S1, broadcast S1 (v 1)⟩, ⟨S1, broadcast S1 (v 2)⟩, ⟨S1, broadcast S1 (v 3)⟩] concatenates_S1_S1_S1_S1_S4_d0
theorem quad_at (v : Fin 4 → Ideal .f32) : ∀ j : Fin 4, quad v (ix1 j) = v j
  | 0 => rfl
  | 1 => rfl
  | 2 => rfl
  | 3 => rfl

/-- The largest of four. -/
def four (v : Fin 4 → Ideal .f32) : Ideal .f32 :=
  extractAt ![0, 0] (shapeCast S1x1 (multiReduction .maximumf [1] S1 (shapeCast S1x4 (quad v) shapeCasts_S4_S1x4)
    0xFF800000#32 reduces_S1x4_S1 (.inl rfl) rfl) shapeCasts_S1_S1x1) inpos_S1x1_p0_0
theorem four_le (v : Fin 4 → Ideal .f32) (B : EReal) : four v ≤ B ↔ ∀ j, v j ≤ B := by
  refine ((total_le _ reduces_S1x4_S1 unit1 _ _ _ _ _ B).trans (cast_le (quad v) shapeCasts_S4_S1x4 B)).trans ?_
  constructor
  · intro h j
    rw [← quad_at v j]; exact h _
  · intro h i
    rw [eq_ix1 i]
    exact (quad_at v (i 0)).trans_le (h _)

/-- A row of maxima in these terms. -/
theorem pay83_at (v : Fin 4 → FVec Ideal S128x2048 .f32) (i : S1x128.Idx) : k0_pay83 (v 0) (v 1) (v 2) (v 3) i = four fun j => one (v j) := by
  unfold k0_pay83 four quad one
  rw [shapeCast_self]
  exact broadcast_apply _ i

variable (X : XIdx → EReal) (W : WIdx → EReal)

theorem row_le (c : Dev nD) (i : S1x128.Idx) (B : EReal) :
    (blocks X W).row c i ≤ B ↔ ∀ j a b, prod X W (at128 c a) (atCol j b) ≤ B := by
  have e : (blocks X W).row c i = four fun j => one ((blocks X W).sum c j) := pay83_at (fun j => (blocks X W).sum c j) i
  rw [e, four_le]
  refine forall_congr' fun j => (one_le _ B).trans ?_
  constructor
  · intro hh a b
    rw [← sum_at]; exact hh _
  · intro hh x
    have ex : x = ix2 (n0 := 128) (n1 := 2048) (x 0) (x 1) := eq_ix2 x
    rw [ex]
    exact (sum_at X W c j (x 0) (x 1)).trans_le (hh _ _)

theorem row_read (r : Rect S32x128) (f : BufTy.Contents (Elt Ideal) ⟨S32x128, .f32⟩) : (rowR.access r).read (Elt Ideal) f = fun x => f (r.emb x) := rfl
theorem emb_self (x : S32x128.Idx) : (Rect.unit (s := S32x128) ![0, 0] S32x128.size inb_S32x128_S32x128_0_0).emb x = x := by
  funext a
  apply Fin.ext
  match a with
  | ⟨0, _⟩ => show 0 + 1 * (x 0).val = (x 0).val; omega
  | ⟨1, _⟩ => show 0 + 1 * (x 1).val = (x 1).val; omega
theorem seen_eq (A : Args Ideal) : A.seen = A.table := by
  unfold Args.seen
  rw [row_read]
  exact funext fun x => congrArg A.table (emb_self x)
theorem seen_at (A : Args Ideal) (d : Fin 32) (l : Fin 128) : A.seen (ix2 d l) = A.row d (ix2 0 l) := by
  rw [seen_eq]
  unfold Args.table
  refine congrArg (A.row d) ?_
  funext a
  match a with
  | ⟨0, _⟩ => rfl
  | ⟨1, _⟩ => rfl

/-- The largest entry of the product, as the devices find it. -/
def peak : EReal := extractAt ![0, 0, 0] (shapeCast S1x1x1 (multiReduction (F := Ideal) (φ := .f32) .maximumf [1, 2] S1 (shapeCast S1x32x128 (blocks X W).seen shapeCasts_S32x128_S1x32x128)
    0xFF800000#32 reduces_S1x32x128_S1 (.inl rfl) rfl) shapeCasts_S1_S1x1x1) inpos_S1x1x1_p0_0_0

theorem at_row (r : Fin 4096) : ∃ c a, r = at128 c a :=
  ⟨⟨r.val / 128, by omega⟩, ⟨r.val % 128, by omega⟩, Fin.ext (show r.val = 128 * (r.val / 128) + r.val % 128 by omega)⟩
theorem at_column (q : Fin 8192) : ∃ j b, q = atCol j b := by
  have h := jOf_col q.val q.isLt
  exact ⟨jOf q.val, ⟨q.val - col (jOf q.val), by omega⟩, Fin.ext (show q.val = col (jOf q.val) + (q.val - col (jOf q.val)) by omega)⟩

theorem peak_le (B : EReal) : peak X W ≤ B ↔ ∀ r q, prod X W r q ≤ B := by
  refine ((total_le _ reduces_S1x32x128_S1 unit1 _ _ _ _ _ B).trans (cast_le (blocks X W).seen shapeCasts_S32x128_S1x32x128 B)).trans ?_
  constructor
  · intro h r q
    obtain ⟨c, a, rfl⟩ := at_row r
    obtain ⟨j, b, rfl⟩ := at_column q
    exact (row_le X W c _ B).1 ((seen_at _ c 0).symm.trans_le (h _)) j a b
  · intro h i
    have ei : i = ix2 (n0 := 32) (n1 := 128) (i 0) (i 1) := eq_ix2 i
    rw [ei]
    exact (seen_at _ (i 0) (i 1)).trans_le ((row_le X W _ _ B).2 fun j a b => h _ _)

end Cert.KernelIdeal.Ring

end
-- ==== Proof.Equal.lean ====
/- The devices' results are the blocks of the reference's result. -/
module

public import proofs.«01_k».proof.Proof.Largest
public import proofs.«01_k».proof.Proof.Frames
public import Idealize.ShloMosaic.Lib.StackMember

@[expose] public section

noncomputable section

namespace Cert.KernelIdeal.Ring

open Cert.KernelIdeal Cert.KernelIdeal.Gen
open Idealize.ShloMosaic Idealize.ShloMosaic.ValueIdx

/-- A number rounded to a multiple of `s`, at most 127 of them up or down. -/
def quant (y s : EReal) : EReal :=
  min (Ideal.ofBits .f32 0x42FE0000#32) (max (Ideal.ofBits .f32 0xC2FE0000#32) (Ideal.liftRound Ideal.roundHalfEven (Ideal.div y s))) * s
/-- The unit for a largest entry `p`. -/
def scale (p : EReal) : EReal := Ideal.div (max p (Ideal.ofBits .f32 0x0DA24260#32)) (Ideal.ofBits .f32 0x42FE0000#32)

variable (X : XIdx → EReal) (W : WIdx → EReal)

theorem scale_eq (t : Ideal .f32) :
    Scalar.divf (Scalar.maximumf t (Scalar.ofBits .f32 0x0DA24260#32)) (Scalar.ofBits .f32 0x42FE0000#32) = scale t := rfl
theorem pay84_at : k0_pay84 (F := Ideal) (blocks X W).seen = scale (peak X W) := by
  unfold k0_pay84 peak
  exact scale_eq _

theorem pay85_at (y : FVec Ideal S128x2048 .f32) (v : Vec Ideal S32x128 .f32) (i : S128x2048.Idx) : k0_pay85 y v i = quant (y i) (k0_pay84 (F := Ideal) v) := by
  unfold k0_pay85 quant
  rfl

theorem res_at (c : Dev nD) (j : Fin 4) (a : Fin 128) (b : Fin 2048) :
    (blocks X W).res c j (ix2 a b) = quant (prod X W (at128 c a) (atCol j b)) (scale (peak X W)) := by
  unfold Args.res
  rw [pay85_at, pay84_at]
  exact congrArg (fun y => quant y (scale (peak X W))) (sum_at X W c j a b)

end Cert.KernelIdeal.Ring

namespace Cert.ReferenceIdeal.Whole

open Cert.ReferenceIdeal Cert.ReferenceIdeal.Gen
open Cert.KernelIdeal.Ring (XIdx WIdx prod prod_nonneg peak peak_le quant scale host_le bits_bot)
open Idealize.ShloMosaic Idealize.ShloMosaic.ValueIdx

variable (X : XIdx → EReal) (W : WIdx → EReal)

/-- The product with its negative entries replaced by zero, in the reference's operations. -/
def pos : FVec Ideal S4096x8192 .f32 :=
  maximumf (Host.dotGeneral (φ₁ := .bf16) (φ₂ := .bf16) dot_S4096x4096_S4096x8192_S4096x8192_1_0_0_1_n_n none X W)
    (broadcastInDim S4096x8192 ![] bcast_S_S4096x8192 (constant S_ .f32 0x00000000#32))
/-- Its largest entry. -/
def top (y : FVec Ideal S4096x8192 .f32) : FVec Ideal S_ .f32 :=
  Host.reduce FloatOps.maximumf (Host.absf y) (constant S_ .f32 0xFF800000#32) reducesTo_S4096x8192_S_d0_1 h_S_
/-- The unit. -/
def unit (t : FVec Ideal S_ .f32) : FVec Ideal S_ .f32 := Host.divf (maximumf t (constant S_ .f32 0x0DA24260#32)) (constant S_ .f32 0x42FE0000#32)
/-- The rounded product. -/
def rounded (y : FVec Ideal S4096x8192 .f32) (s : FVec Ideal S_ .f32) : FVec Ideal S4096x8192 .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf y (broadcastInDim S4096x8192 ![] bcast_S_S4096x8192 s)))))
    (broadcastInDim S4096x8192 ![] bcast_S_S4096x8192 s)

theorem pos_at (r : Fin 4096) (q : Fin 8192) : pos X W (ix2 r q) = prod X W r q := by
  have h := StackMember.dotGeneral_plain_apply (m := 4096) (n := 8192) (k := 4096) (φ₁ := .bf16) (φ₂ := .bf16) none X W r q
  have z : (broadcastInDim S4096x8192 ![] bcast_S_S4096x8192 (constant (F := Ideal) S_ .f32 0x00000000#32)) (ix2 r q) = (0 : EReal) := Ideal.ofBits_zero_f32
  unfold prod
  rw [← h]
  exact congrArg (max _) z

theorem same_bound {y : FVec Ideal S4096x8192 .f32} (hy : ∀ i, (0 : EReal) ≤ y i) (i : S4096x8192.Idx) : Host.absf y i = y i :=
  max_eq_left (le_trans (by have h := EReal.neg_le_neg_iff.2 (hy i); rwa [neg_zero] at h) (hy i))

theorem pos_eq (i : S4096x8192.Idx) : pos X W i = prod X W (i 0) (i 1) := by
  have e : i = ix2 (n0 := 4096) (n1 := 8192) (i 0) (i 1) := eq_ix2 i
  exact (congrArg (pos X W) e).trans (pos_at X W (i 0) (i 1))

theorem top_at (j : S_.Idx) : top (pos X W) j = peak X W := by
  refine eq_of_forall_ge_iff fun B => ?_
  refine (host_le (Host.absf (pos X W)) (constant S_ .f32 0xFF800000#32) reducesTo_S4096x8192_S_d0_1 h_S_ (fun b => b.elim0) (fun _ => bits_bot) j B).trans ?_
  rw [peak_le]
  have hn : ∀ i, (0 : EReal) ≤ pos X W i := fun i => (prod_nonneg X W _ _).trans_eq (pos_eq X W i).symm
  constructor
  · intro h r q
    rw [← pos_at, ← same_bound hn]; exact h _
  · intro h i
    rw [same_bound hn, pos_eq]; exact h _ _

theorem unit_at (t : FVec Ideal S_ .f32) (j : S_.Idx) : unit t j = scale (t j) := rfl

theorem rounded_at (y : FVec Ideal S4096x8192 .f32) (s : FVec Ideal S_ .f32) (i : S4096x8192.Idx) : rounded y s i = quant (y i) (s ix0) := by
  have e : broadcastInDim S4096x8192 ![] bcast_S_S4096x8192 s i = s ix0 := congrArg s (eq_ix0 _)
  unfold quant
  rw [← e]
  rfl

/-- The reference's result. -/
def result : FVec Ideal S4096x8192 .f32 := rounded (pos X W) (unit (top (pos X W)))

theorem result_at (i : S4096x8192.Idx) : result X W i = quant (prod X W (i 0) (i 1)) (scale (peak X W)) := by
  unfold result
  rw [rounded_at, unit_at, top_at, pos_eq]

end Cert.ReferenceIdeal.Whole

namespace Cert.Proof

open Cert.KernelIdeal.Ring
open Idealize.ShloMosaic Idealize.ShloMosaic.ValueIdx Idealize.ShloMosaic.TcCoe Idealize.SL.Sem

theorem out_eq (X : XIdx → EReal) (W : WIdx → EReal) (c : Dev Cert.KernelIdeal.nD) :
    (blocks X W).out c = Layout.block ⟨2, ![128, 8192]⟩ ⟨2, ![4096, 8192]⟩ 0 32 c (Cert.ReferenceIdeal.Whole.result X W) := by
  funext i
  obtain ⟨j, b, hq⟩ := at_column (i 1)
  rw [(blocks X W).out_at c j i (ix2 (i 0) b) rfl (congrArg Fin.val hq)]
  refine (res_at X W c j (i 0) b).trans ?_
  rw [Layout.block_apply, Cert.ReferenceIdeal.Whole.result_at]
  have hi := Layout.idx_rows_val (dS := ![128, 8192]) (dT := ![4096, 8192]) (k := 32) (by decide) c i
  have h0 : at128 c (i 0) = Layout.Tiles.idx (S := ⟨2, ![128, 8192]⟩) (T := ⟨2, ![4096, 8192]⟩) (a := 0) (k := 32) (by decide) c i 0 :=
    Fin.ext (Eq.trans (show 128 * c.val + (i 0).val = c.val * 128 + (i 0).val by omega) hi.1.symm)
  have h1 : atCol j b = Layout.Tiles.idx (S := ⟨2, ![128, 8192]⟩) (T := ⟨2, ![4096, 8192]⟩) (a := 0) (k := 32) (by decide) c i 1 :=
    Fin.ext ((congrArg Fin.val hq).symm.trans hi.2.symm)
  exact congrArg (fun y => quant y (scale (peak X W))) (congrArg₂ (prod X W) h0 h1)

theorem algebraic : Cert.algebraic_KernelIdeal_ReferenceIdeal := by
  intro m g m' g' _ hm
  refine ⟨Cert.ReferenceIdeal.Whole.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).1.trans ?_, (h.1 c).2⟩) (run_main (F := Ideal) m g)
    have e : args m = blocks (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)) := by
      have h0 := funext fun c => (hm c).1
      have h1 := funext fun c => (hm c).2
      exact congrArg₂ Args.mk h0 h1
    rw [e]
    exact out_eq _ _ c
  · exact (θ_run Cert.ReferenceIdeal.defs _ _).mono (fun r h => h 0) (Cert.ReferenceIdeal.Value.run (F := Ideal) m' g')

end Cert.Proof

end
-- ==== Proof.lean ====
/- The proof of the certificate's claim. -/
module

public import proofs.«01_k».proof.Proof.Frames
public import proofs.«01_k».proof.Proof.Equal

@[expose] public section

noncomputable section

namespace Cert.Proof

/-- Everything the certificate claims. -/
theorem claim : Cert.Claim :=
  ⟨Cert.Kernel.Gen.facts, Cert.KernelIdeal.Gen.facts, Cert.ReferenceIdeal.Gen.facts, frame_bits, frame_ideal, frame_ref, trivial, algebraic⟩

end Cert.Proof

end
